-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_KernelIdeal_distinct_sims [hPre_distinct_sims : Cert.Pre_distinct_sims.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_sims.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_sims [hPre_distinct_sims : Cert.Pre_distinct_sims.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_sims.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_distinct_sims [hKernelIdeal : Cert.KernelIdeal.Facts] [hPre_distinct_sims : Cert.Pre_distinct_sims.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_sims m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_distinct_sims [hReferenceIdeal : Cert.ReferenceIdeal.Facts] [hPre_distinct_sims : Cert.Pre_distinct_sims.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_sims m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_distinct_sims [hKernelIdeal : Cert.KernelIdeal.Facts] [hReferenceIdeal : Cert.ReferenceIdeal.Facts] [hPre_distinct_sims : Cert.Pre_distinct_sims.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_sims m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_in_range : Cert.Pre_in_range.Facts) (hPre_distinct_sims : Cert.Pre_distinct_sims.Facts),
    quiescent_Kernel (hKernel := hKernel) (hPre_in_range := hPre_in_range)
    ∧ quiescent_KernelIdeal (hKernelIdeal := hKernelIdeal) (hPre_in_range := hPre_in_range)
    ∧ quiescent_KernelIdeal_pre_distinct_sims (hKernelIdeal := hKernelIdeal) (hPre_distinct_sims := hPre_distinct_sims)
    ∧ quiescent_ReferenceIdeal (hReferenceIdeal := hReferenceIdeal)
    ∧ quiescent_ReferenceIdeal_pre_distinct_sims (hReferenceIdeal := hReferenceIdeal) (hPre_distinct_sims := hPre_distinct_sims)
    ∧ preserves_Kernel_KernelIdeal
    ∧ algebraic_KernelIdeal_ReferenceIdeal_pre_distinct_sims (hKernelIdeal := hKernelIdeal) (hReferenceIdeal := hReferenceIdeal) (hPre_distinct_sims := hPre_distinct_sims)
-- ==== Pre_distinct_sims.lean ====
abbrev S2x800000 : Shape := ⟨2, ![2, 800000]⟩
abbrev S800000 : Shape := ⟨1, ![800000]⟩
abbrev S_ : Shape := ⟨0, ![]⟩
abbrev S64 : Shape := ⟨1, ![64]⟩
abbrev S500x64 : Shape := ⟨2, ![500, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S64x64 : Shape := ⟨2, ![64, 64]⟩
abbrev S64x128 : Shape := ⟨2, ![64, 128]⟩
abbrev S1x64 : Shape := ⟨2, ![1, 64]⟩
abbrev S500 : Shape := ⟨1, ![500]⟩
abbrev S500x1 : Shape := ⟨2, ![500, 1]⟩
abbrev S1x500 : Shape := ⟨2, ![1, 500]⟩
abbrev S500x500 : Shape := ⟨2, ![500, 500]⟩

class Facts : Prop where
  bcast_S_S800000 : S_.BroadcastsInDim S800000 (![] : Fin 0 → Fin S800000.rank)
  reducesTo_S800000_S_d0 : S800000.ReducesTo [0] S_
  h_S_ : 0 < S_.numel
  sliceFits_S500x64_S1x64 : S500x64.Slices (fun _ => 0) S1x64
  shapeCasts_S1x64_S64 : S1x64.ShapeCasts S64
  reducesTo_S500x64_S500_d1 : S500x64.ReducesTo [1] S500
  reducesTo_S64_S_d0 : S64.ReducesTo [0] S_
  bcast_S_S500 : S_.BroadcastsInDim S500 (![] : Fin 0 → Fin S500.rank)
  bcast_S_S1 : S_.BroadcastsInDim S1 (![] : Fin 0 → Fin S1.rank)
  bcast_S500_S500x1_0 : S500.BroadcastsInDim S500x1 (![0] : Fin 1 → Fin S500x1.rank)
  bcast_S500_S1x500_1 : S500.BroadcastsInDim S1x500 (![1] : Fin 1 → Fin S1x500.rank)
  bcast_S500x1_S500x500_0_1 : S500x1.BroadcastsInDim S500x500 (![0, 1] : Fin 2 → Fin S500x500.rank)
  bcast_S1x500_S500x500_0_1 : S1x500.BroadcastsInDim S500x500 (![0, 1] : Fin 2 → Fin S500x500.rank)
  reducesTo_S500x500_S_d0_1 : S500x500.ReducesTo [0, 1] S_
  dot_S500x64_S64_S500_1_0_0_n_n_n_wf : DotDims.WF S500x64 S64 S500 [1] [0] [0] [] [] []
  scatter_S500_S1_S__n_0_0_0_wf : ScatterDims.WF S500 S1 S_ [] [0] [0] 0

variable [Facts]

def dot_S500x64_S64_S500_1_0_0_n_n_n : DotDims S500x64 S64 S500 where
  lhsContracting := [1]
  rhsContracting := [0]
  lhsNonContracting := [0]
  rhsNonContracting := []
  lhsBatch := []
  rhsBatch := []
  wf := dot_S500x64_S64_S500_1_0_0_n_n_n_wf
def scatter_S500_S1_S__n_0_0_0 : ScatterDims S500 S1 S_ where
  updateWindowDims := []
  insertedWindowDims := [0]
  scatterDimsToOperandDims := [0]
  indexVectorDim := 0
  wf := scatter_S500_S1_S__n_0_0_0_wf
def fn_norm {F : FTy → Type} [FloatOps F] (arg0 : FVec F S500x64 .f32) : FVec F S500 .f32 :=
  let v0 : FVec F S500x64 .f32 := mulf arg0 arg0
  let cst : FVec F S_ .f32 := constant S_ .f32 0x00000000#32
  let v1 : FVec F S500 .f32 := (fun x v => Host.reduceAdd x v reducesTo_S500x64_S500_d1 h_S_) v0 cst
  let v2 : FVec F S500 .f32 := Host.sqrt v1
  v2

def fn_norm_0 {F : FTy → Type} [FloatOps F] (arg0 : FVec F S64 .f32) : FVec F S_ .f32 :=
  let v0 : FVec F S64 .f32 := mulf arg0 arg0
  let cst : FVec F S_ .f32 := constant S_ .f32 0x00000000#32
  let v1 : FVec F S_ .f32 := (fun x v => Host.reduceAdd x v reducesTo_S64_S_d0 h_S_) v0 cst
  let v2 : FVec F S_ .f32 := Host.sqrt v1
  v2

def fn_part2 {F : FTy → Type} [FloatOps F] (main_v9 : IVec S_ 1) (main_v30 : FVec F S500 .f32) (main_v31 : IVec S500 32) : IVec S_ 1 :=
  let main_v32 : FVec F S500x1 .f32 := broadcastInDim S500x1 ![0] bcast_S500_S500x1_0 main_v30
  let main_v33 : FVec F S1x500 .f32 := broadcastInDim S1x500 ![1] bcast_S500_S1x500_1 main_v30
  let main_v34 : FVec F S500x500 .f32 := broadcastInDim S500x500 ![0, 1] bcast_S500x1_S500x500_0_1 main_v32
  let main_v35 : FVec F S500x500 .f32 := broadcastInDim S500x500 ![0, 1] bcast_S1x500_S500x500_0_1 main_v33
  let main_v36 : IVec S500x500 1 := cmpf .une main_v34 main_v35
  let main_v37 : IVec S500x1 32 := broadcastInDim S500x1 ![0] bcast_S500_S500x1_0 main_v31
  let main_v38 : IVec S1x500 32 := broadcastInDim S1x500 ![1] bcast_S500_S1x500_1 main_v31
  let main_v39 : IVec S500x500 32 := broadcastInDim S500x500 ![0, 1] bcast_S500x1_S500x500_0_1 main_v37
  let main_v40 : IVec S500x500 32 := broadcastInDim S500x500 ![0, 1] bcast_S1x500_S500x500_0_1 main_v38
  let main_v41 : IVec S500x500 1 := cmpi .eq main_v39 main_v40
  let main_v42 : IVec S500x500 1 := ori main_v36 main_v41
  let main_c_14 : IVec S_ 1 := constantI S_ 1 1#1
  let main_v43 : IVec S_ 1 := (fun x v => Host.reduce IntOp.andi x v reducesTo_S500x500_S_d0_1 h_S_) main_v42 main_c_14
  let main_v44 : IVec S_ 1 := andi main_v9 main_v43
  main_v44

def fn_part1 {F : FTy → Type} [FloatOps F] (main_arg3 : IVec S_ 32) (main_arg6 : FVec F S500x64 .f32) (main_v9 : IVec S_ 1) (main_v12 : IVec S_ 32) (main_v13 : IVec S_ 1) (main_c_8 : IVec S_ 32) : IVec S_ 1 :=
  let main_c_9 : IVec S_ 32 := constantI S_ 32 64#32
  let main_v14 : IVec S_ 32 := addi main_c_8 main_c_9
  let main_c_10 : IVec S_ 32 := constantI S_ 32 0#32
  let main_v15 : IVec S_ 32 := select main_v13 main_v14 main_c_10
  let main_v16 : FVec F S1x64 .f32 := (fun x i => Host.dynamicSlice S1x64 x (fun k => (i k (Shape.Idx.first h_S_)).toInt) sliceFits_S500x64_S1x64) main_arg6 (![main_v12, main_v15] : Fin 2 → IVec S_ 32)
  let main_v17 : FVec F S64 .f32 := shapeCast S64 main_v16 shapeCasts_S1x64_S64
  let main_v18 : FVec F S500 .f32 := fn_norm (F := F) main_arg6
  let main_v19 : FVec F S_ .f32 := fn_norm_0 (F := F) main_v17
  let main_v20 : FVec F S500 .f32 := (fun l r => Host.dotGeneral dot_S500x64_S64_S500_1_0_0_n_n_n none l r) main_arg6 main_v17
  let main_v21 : FVec F S500 .f32 := broadcastInDim S500 ![] bcast_S_S500 main_v19
  let main_v22 : FVec F S500 .f32 := mulf main_v18 main_v21
  let main_cst : FVec F S_ .f32 := constant S_ .f32 0x322BCC77#32
  let main_v23 : FVec F S500 .f32 := broadcastInDim S500 ![] bcast_S_S500 main_cst
  let main_v24 : FVec F S500 .f32 := maximumf main_v22 main_v23
  let main_v25 : FVec F S500 .f32 := Host.divf main_v20 main_v24
  let main_c_11 : IVec S_ 32 := constantI S_ 32 0#32
  let main_v26 : IVec S_ 1 := cmpi .slt main_arg3 main_c_11
  let main_c_12 : IVec S_ 32 := constantI S_ 32 500#32
  let main_v27 : IVec S_ 32 := addi main_arg3 main_c_12
  let main_v28 : IVec S_ 32 := select main_v26 main_v27 main_arg3
  let main_v29 : IVec S1 32 := broadcastInDim S1 ![] bcast_S_S1 main_v28
  let main_cst_13 : FVec F S_ .f32 := constant S_ .f32 0x3F800000#32
  let main_v30 : FVec F S500 .f32 := (fun x i u => Host.scatter scatter_S500_S1_S__n_0_0_0 (fun _ b => b) x i u) main_v25 main_v29 main_cst_13
  let main_v31 : IVec S500 32 := iotaInDim S500 32 0
  fn_part2 (F := F) main_v9 main_v30 main_v31

def fn {F : FTy → Type} [FloatOps F] (main_arg0 : IVec S2x800000 32) (main_arg1 : IVec S800000 32) (main_arg2 : IVec S_ 32) (main_arg3 : IVec S_ 32) (main_arg4 : FVec F S64 .f32) (main_arg5 : FVec F S500x64 .f32) (main_arg6 : FVec F S500x64 .f32) (main_arg7 : FVec F S32x64 .f32) (main_arg8 : FVec F S32 .f32) (main_arg9 : FVec F S1x32 .f32) (main_arg10 : FVec F S1 .f32) (main_arg11 : FVec F S64x64 .f32) (main_arg12 : FVec F S64 .f32) (main_arg13 : FVec F S64x64 .f32) (main_arg14 : FVec F S64 .f32) (main_arg15 : FVec F S64x128 .f32) (main_arg16 : FVec F S64 .f32) (main_arg17 : FVec F S64x64 .f32) (main_arg18 : FVec F S64 .f32) : IVec S_ 1 :=
  let main_c : IVec S_ 32 := constantI S_ 32 0#32
  let main_v0 : IVec S800000 32 := broadcastInDim S800000 ![] bcast_S_S800000 main_c
  let main_v1 : IVec S800000 1 := cmpi .sge main_arg1 main_v0
  let main_c_0 : IVec S_ 32 := constantI S_ 32 500#32
  let main_v2 : IVec S800000 32 := broadcastInDim S800000 ![] bcast_S_S800000 main_c_0
  let main_v3 : IVec S800000 1 := cmpi .slt main_arg1 main_v2
  let main_v4 : IVec S800000 1 := andi main_v1 main_v3
  let main_c_1 : IVec S_ 1 := constantI S_ 1 1#1
  let main_v5 : IVec S_ 1 := (fun x v => Host.reduce IntOp.andi x v reducesTo_S800000_S_d0 h_S_) main_v4 main_c_1
  let main_c_2 : IVec S_ 32 := constantI S_ 32 0#32
  let main_v6 : IVec S_ 1 := cmpi .sge main_arg3 main_c_2
  let main_v7 : IVec S_ 1 := andi main_v5 main_v6
  let main_c_3 : IVec S_ 32 := constantI S_ 32 500#32
  let main_v8 : IVec S_ 1 := cmpi .slt main_arg3 main_c_3
  let main_v9 : IVec S_ 1 := andi main_v7 main_v8
  let main_c_4 : IVec S_ 32 := constantI S_ 32 0#32
  let main_v10 : IVec S_ 1 := cmpi .slt main_arg3 main_c_4
  let main_c_5 : IVec S_ 32 := constantI S_ 32 500#32
  let main_v11 : IVec S_ 32 := addi main_arg3 main_c_5
  let main_v12 : IVec S_ 32 := select main_v10 main_v11 main_arg3
  let main_c_6 : IVec S_ 32 := constantI S_ 32 0#32
  let main_c_7 : IVec S_ 32 := constantI S_ 32 0#32
  let main_v13 : IVec S_ 1 := cmpi .slt main_c_6 main_c_7
  let main_c_8 : IVec S_ 32 := constantI S_ 32 0#32
  fn_part1 (F := F) main_arg3 main_arg6 main_v9 main_v12 main_v13 main_c_8
-- ==== Pre_in_range.lean ====
abbrev S2x800000 : Shape := ⟨2, ![2, 800000]⟩
abbrev S800000 : Shape := ⟨1, ![800000]⟩
abbrev S_ : Shape := ⟨0, ![]⟩
abbrev S64 : Shape := ⟨1, ![64]⟩
abbrev S500x64 : Shape := ⟨2, ![500, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S64x64 : Shape := ⟨2, ![64, 64]⟩
abbrev S64x128 : Shape := ⟨2, ![64, 128]⟩

class Facts : Prop where
  bcast_S_S800000 : S_.BroadcastsInDim S800000 (![] : Fin 0 → Fin S800000.rank)
  reducesTo_S800000_S_d0 : S800000.ReducesTo [0] S_
  h_S_ : 0 < S_.numel

variable [Facts]

def fn {F : FTy → Type} [FloatOps F] (main_arg0 : IVec S2x800000 32) (main_arg1 : IVec S800000 32) (main_arg2 : IVec S_ 32) (main_arg3 : IVec S_ 32) (main_arg4 : FVec F S64 .f32) (main_arg5 : FVec F S500x64 .f32) (main_arg6 : FVec F S500x64 .f32) (main_arg7 : FVec F S32x64 .f32) (main_arg8 : FVec F S32 .f32) (main_arg9 : FVec F S1x32 .f32) (main_arg10 : FVec F S1 .f32) (main_arg11 : FVec F S64x64 .f32) (main_arg12 : FVec F S64 .f32) (main_arg13 : FVec F S64x64 .f32) (main_arg14 : FVec F S64 .f32) (main_arg15 : FVec F S64x128 .f32) (main_arg16 : FVec F S64 .f32) (main_arg17 : FVec F S64x64 .f32) (main_arg18 : FVec F S64 .f32) : IVec S_ 1 :=
  let main_c : IVec S_ 32 := constantI S_ 32 0#32
  let main_v0 : IVec S800000 32 := broadcastInDim S800000 ![] bcast_S_S800000 main_c
  let main_v1 : IVec S800000 1 := cmpi .sge main_arg1 main_v0
  let main_c_0 : IVec S_ 32 := constantI S_ 32 500#32
  let main_v2 : IVec S800000 32 := broadcastInDim S800000 ![] bcast_S_S800000 main_c_0
  let main_v3 : IVec S800000 1 := cmpi .slt main_arg1 main_v2
  let main_v4 : IVec S800000 1 := andi main_v1 main_v3
  let main_c_1 : IVec S_ 1 := constantI S_ 1 1#1
  let main_v5 : IVec S_ 1 := (fun x v => Host.reduce IntOp.andi x v reducesTo_S800000_S_d0 h_S_) main_v4 main_c_1
  let main_c_2 : IVec S_ 32 := constantI S_ 32 0#32
  let main_v6 : IVec S_ 1 := cmpi .sge main_arg3 main_c_2
  let main_v7 : IVec S_ 1 := andi main_v5 main_v6
  let main_c_3 : IVec S_ 32 := constantI S_ 32 500#32
  let main_v8 : IVec S_ 1 := cmpi .slt main_arg3 main_c_3
  let main_v9 : IVec S_ 1 := andi main_v7 main_v8
  main_v9
-- ==== Kernel.lean ====
abbrev S2x800000 : Shape := ⟨2, ![2, 800000]⟩
abbrev S800000 : Shape := ⟨1, ![800000]⟩
abbrev S_ : Shape := ⟨0, ![]⟩
abbrev S64 : Shape := ⟨1, ![64]⟩
abbrev S500x64 : Shape := ⟨2, ![500, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S64x64 : Shape := ⟨2, ![64, 64]⟩
abbrev S64x128 : Shape := ⟨2, ![64, 128]⟩
abbrev S32x512 : Shape := ⟨2, ![32, 512]⟩
abbrev S25008 : Shape := ⟨1, ![25008]⟩
abbrev S8192 : Shape := ⟨1, ![8192]⟩
abbrev S512 : Shape := ⟨1, ![512]⟩
abbrev S12416 : Shape := ⟨1, ![12416]⟩
abbrev S12584 : Shape := ⟨1, ![12584]⟩
abbrev S16 : Shape := ⟨1, ![16]⟩
abbrev S1x512 : Shape := ⟨2, ![1, 512]⟩
abbrev S1x1 : Shape := ⟨2, ![1, 1]⟩
abbrev S1x64 : Shape := ⟨2, ![1, 64]⟩
abbrev S12x64 : Shape := ⟨2, ![12, 64]⟩
abbrev S512x64 : Shape := ⟨2, ![512, 64]⟩
abbrev S1x1x512 : Shape := ⟨3, ![1, 1, 512]⟩
abbrev S1x1x1 : Shape := ⟨3, ![1, 1, 1]⟩
abbrev S1x1x32 : Shape := ⟨3, ![1, 1, 32]⟩
abbrev S1x128 : Shape := ⟨2, ![1, 128]⟩
abbrev S1x1x128 : Shape := ⟨3, ![1, 1, 128]⟩
abbrev S3x64 : Shape := ⟨2, ![3, 64]⟩
abbrev S3x1 : Shape := ⟨2, ![3, 1]⟩

abbrev nBuf : Table → Nat
  | .hbm => 34
  | .local .tc .vmem => 25
  | .local .scVector .vmem => 3
  | _ => 0

abbrev bufTy : (tb : Table) → Fin (nBuf tb) → BufTy
  | .hbm, ⟨0, _⟩ => ⟨S2x800000, .i32⟩
  | .hbm, ⟨1, _⟩ => ⟨S800000, .i32⟩
  | .hbm, ⟨2, _⟩ => ⟨S_, .i32⟩
  | .hbm, ⟨3, _⟩ => ⟨S_, .i32⟩
  | .hbm, ⟨4, _⟩ => ⟨S64, .f32⟩
  | .hbm, ⟨5, _⟩ => ⟨S500x64, .f32⟩
  | .hbm, ⟨6, _⟩ => ⟨S500x64, .f32⟩
  | .hbm, ⟨7, _⟩ => ⟨S32x64, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x128, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S32x512, .i32⟩
  | .hbm, ⟨20, _⟩ => ⟨S1x1, .i32⟩
  | .hbm, ⟨21, _⟩ => ⟨S1x32, .f32⟩
  | .hbm, ⟨22, _⟩ => ⟨S1x1, .f32⟩
  | .hbm, ⟨23, _⟩ => ⟨S1x512, .f32⟩
  | .hbm, ⟨24, _⟩ => ⟨S1x64, .f32⟩
  | .hbm, ⟨25, _⟩ => ⟨S1x1, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x1, .f32⟩
  | .hbm, ⟨32, _⟩ => ⟨S64, .f32⟩
  | .hbm, ⟨33, _⟩ => ⟨S_, .f32⟩
  | .local .tc .vmem, ⟨0, _⟩ => ⟨S500x64, .f32⟩
  | .local .tc .vmem, ⟨1, _⟩ => ⟨S500x64, .f32⟩
  | .local .tc .vmem, ⟨2, _⟩ => ⟨S1x1, .i32⟩
  | .local .tc .vmem, ⟨3, _⟩ => ⟨S32x64, .f32⟩
  | .local .tc .vmem, ⟨4, _⟩ => ⟨S1x32, .f32⟩
  | .local .tc .vmem, ⟨5, _⟩ => ⟨S1x32, .f32⟩
  | .local .tc .vmem, ⟨6, _⟩ => ⟨S1x1, .f32⟩
  | .local .tc .vmem, ⟨7, _⟩ => ⟨S1x512, .f32⟩
  | .local .tc .vmem, ⟨8, _⟩ => ⟨S1x64, .f32⟩
  | .local .tc .vmem, ⟨9, _⟩ => ⟨S1x1, .f32⟩
  | .local .tc .vmem, ⟨10, _⟩ => ⟨S32x512, .i32⟩
  | .local .tc .vmem, ⟨11, _⟩ => ⟨S1x512, .f32⟩
  | .local .tc .vmem, ⟨12, _⟩ => ⟨S1x64, .f32⟩
  | .local .tc .vmem, ⟨13, _⟩ => ⟨S1x1, .f32⟩
  | .local .tc .vmem, ⟨14, _⟩ => ⟨S500x64, .f32⟩
  | .local .tc .vmem, ⟨15, _⟩ => ⟨S64x64, .f32⟩
  | .local .tc .vmem, ⟨16, _⟩ => ⟨S1x64, .f32⟩
  | .local .tc .vmem, ⟨17, _⟩ => ⟨S64x64, .f32⟩
  | .local .tc .vmem, ⟨18, _⟩ => ⟨S1x64, .f32⟩
  | .local .tc .vmem, ⟨19, _⟩ => ⟨S64x128, .f32⟩
  | .local .tc .vmem, ⟨20, _⟩ => ⟨S1x64, .f32⟩
  | .local .tc .vmem, ⟨21, _⟩ => ⟨S64x64, .f32⟩
  | .local .tc .vmem, ⟨22, _⟩ => ⟨S1x64, .f32⟩
  | .local .tc .vmem, ⟨23, _⟩ => ⟨S1x64, .f32⟩
  | .local .tc .vmem, ⟨24, _⟩ => ⟨S1x1, .f32⟩
  | .local .scVector .vmem, ⟨0, _⟩ => ⟨S25008, .i32⟩
  | .local .scVector .vmem, ⟨1, _⟩ => ⟨S8192, .i32⟩
  | .local .scVector .vmem, ⟨2, _⟩ => ⟨S512, .i32⟩
  | _, _ => ⟨S2x800000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_v4_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9_0 : Ref sig .tc := ⟨.hbm, 30, rfl⟩
abbrev main_v9_1 : Ref sig .tc := ⟨.hbm, 31, rfl⟩
abbrev main_v10 : Ref sig .tc := ⟨.hbm, 32, rfl⟩
abbrev main_v11 : Ref sig .tc := ⟨.hbm, 33, rfl⟩
abbrev main_arg1_scv : Ref sig .scVector := ⟨.hbm, 1, rfl⟩
abbrev main_v0_scv : Ref sig .scVector := ⟨.hbm, 19, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc2_stg10_0 : Ref sig .tc := ⟨.vmem, 20, rfl⟩
abbrev cc2_stg11_0 : Ref sig .tc := ⟨.vmem, 21, rfl⟩
abbrev cc2_stg12_0 : Ref sig .tc := ⟨.vmem, 22, rfl⟩
abbrev cc2_stg13_0 : Ref sig .tc := ⟨.vmem, 23, rfl⟩
abbrev cc2_stg14_0 : Ref sig .tc := ⟨.vmem, 24, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem11_0 : DmaSem sig := 24
abbrev cc2_sem12_0 : DmaSem sig := 25
abbrev cc2_sem13_0 : DmaSem sig := 26
abbrev cc2_sem14_0 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32 : BitVec 32 := 25000#32
  let v2 : BitVec 32 := Scalar.muli v1 c25000_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32 : BitVec 32 := 25000#32
  let v2 : BitVec 32 := Scalar.muli v1 c25000_i32
  let c12416_i32 : BitVec 32 := 12416#32
  let v7 : BitVec 32 := Scalar.addi v2 c12416_i32
  ![v7.toNat]
@[reducible] def k0_t1_loop : Scf.Loop 32 :=
  let c0_i32_5 : BitVec 32 := 0#32
  let c512_i32 : BitVec 32 := 512#32
  let v13 : BitVec 32 := Scalar.addi c0_i32_5 c512_i32
  let c1_i32 : BitVec 32 := 1#32
  ⟨c0_i32_5, v13, c1_i32⟩
def k0_off3 (k0_t1 : Fin k0_t1_loop.trips) : Fin 1 → Nat :=
  let c0_i32_5 : BitVec 32 := 0#32
  let c1_i32 : BitVec 32 := 1#32
  let arg9 : BitVec 32 := Scf.iv c0_i32_5 c1_i32 k0_t1
  let c16_i32 : BitVec 32 := 16#32
  let v46 : BitVec 32 := Scalar.muli arg9 c16_i32
  let v47 : Index := Scalar.indexCast v46
  ![v47.toNat]
@[reducible] def k0_t2_loop : Scf.Loop 32 :=
  let c0_i32_12 : BitVec 32 := 0#32
  let c97_i32 : BitVec 32 := 97#32
  let v23 : BitVec 32 := Scalar.addi c0_i32_12 c97_i32
  let c1_i32_13 : BitVec 32 := 1#32
  ⟨c0_i32_12, v23, c1_i32_13⟩
def k0_off4 (k0_t2 : Fin k0_t2_loop.trips) (c0_i32_27 : BitVec 32) : Fin 1 → Nat :=
  let c0_i32_12 : BitVec 32 := 0#32
  let c1_i32_13 : BitVec 32 := 1#32
  let arg9 : BitVec 32 := Scf.iv c0_i32_12 c1_i32_13 k0_t2
  let c8_i32_26 : BitVec 32 := 8#32
  let v46 : BitVec 32 := Scalar.muli arg9 c8_i32_26
  let v47 : BitVec 32 := Scalar.addi v46 c0_i32_27
  let c16_i32 : BitVec 32 := 16#32
  let v48 : BitVec 32 := Scalar.muli v47 c16_i32
  let v49 : Index := Scalar.indexCast v48
  ![v49.toNat]

def k0_chk1 (v86 : IVec S16 32) : Prop :=
  (∀ a x, ((![v86] : Fin 1 → IVec S16 32) a x).toNat < S8192.size a)
theorem k0_idx1_inb : ∀ (v86 : IVec S16 32) (k0_hw1 : k0_chk1 v86), ∀ a x, ((![v86] : Fin 1 → IVec S16 32) a x).toNat < S8192.size a := fun v86 k0_hw1 => k0_hw1

def k0_chk2 (v87 : IVec S16 32) : Prop :=
  (∀ a x, ((![v87] : Fin 1 → IVec S16 32) a x).toNat < S8192.size a)
theorem k0_idx2_inb : ∀ (v87 : IVec S16 32) (k0_hw2 : k0_chk2 v87), ∀ a x, ((![v87] : Fin 1 → IVec S16 32) a x).toNat < S8192.size a := fun v87 k0_hw2 => k0_hw2

def k0_chk3 (v88 : IVec S16 32) : Prop :=
  (∀ a x, ((![v88] : Fin 1 → IVec S16 32) a x).toNat < S8192.size a)
theorem k0_idx3_inb : ∀ (v88 : IVec S16 32) (k0_hw3 : k0_chk3 v88), ∀ a x, ((![v88] : Fin 1 → IVec S16 32) a x).toNat < S8192.size a := fun v88 k0_hw3 => k0_hw3

def k0_chk4 (v89 : IVec S16 32) : Prop :=
  (∀ a x, ((![v89] : Fin 1 → IVec S16 32) a x).toNat < S8192.size a)
theorem k0_idx4_inb : ∀ (v89 : IVec S16 32) (k0_hw4 : k0_chk4 v89), ∀ a x, ((![v89] : Fin 1 → IVec S16 32) a x).toNat < S8192.size a := fun v89 k0_hw4 => k0_hw4

def k0_chk5 (v90 : IVec S16 32) : Prop :=
  (∀ a x, ((![v90] : Fin 1 → IVec S16 32) a x).toNat < S8192.size a)
theorem k0_idx5_inb : ∀ (v90 : IVec S16 32) (k0_hw5 : k0_chk5 v90), ∀ a x, ((![v90] : Fin 1 → IVec S16 32) a x).toNat < S8192.size a := fun v90 k0_hw5 => k0_hw5

def k0_chk6 (v91 : IVec S16 32) : Prop :=
  (∀ a x, ((![v91] : Fin 1 → IVec S16 32) a x).toNat < S8192.size a)
theorem k0_idx6_inb : ∀ (v91 : IVec S16 32) (k0_hw6 : k0_chk6 v91), ∀ a x, ((![v91] : Fin 1 → IVec S16 32) a x).toNat < S8192.size a := fun v91 k0_hw6 => k0_hw6

def k0_chk7 (v92 : IVec S16 32) : Prop :=
  (∀ a x, ((![v92] : Fin 1 → IVec S16 32) a x).toNat < S8192.size a)
theorem k0_idx7_inb : ∀ (v92 : IVec S16 32) (k0_hw7 : k0_chk7 v92), ∀ a x, ((![v92] : Fin 1 → IVec S16 32) a x).toNat < S8192.size a := fun v92 k0_hw7 => k0_hw7

def k0_chk8 (v93 : IVec S16 32) : Prop :=
  (∀ a x, ((![v93] : Fin 1 → IVec S16 32) a x).toNat < S8192.size a)
theorem k0_idx8_inb : ∀ (v93 : IVec S16 32) (k0_hw8 : k0_chk8 v93), ∀ a x, ((![v93] : Fin 1 → IVec S16 32) a x).toNat < S8192.size a := fun v93 k0_hw8 => k0_hw8
@[reducible] def k0_t3_loop : Scf.Loop 32 :=
  let c97_i32_18 : BitVec 32 := 97#32
  let c98_i32 : BitVec 32 := 98#32
  let v29 : BitVec 32 := Scalar.addi c97_i32_18 c98_i32
  let c1_i32_19 : BitVec 32 := 1#32
  ⟨c97_i32_18, v29, c1_i32_19⟩
def k0_off5 (k0_t3 : Fin k0_t3_loop.trips) (c0_i32_27 : BitVec 32) : Fin 1 → Nat :=
  let c97_i32_18 : BitVec 32 := 97#32
  let c1_i32_19 : BitVec 32 := 1#32
  let arg9 : BitVec 32 := Scf.iv c97_i32_18 c1_i32_19 k0_t3
  let c8_i32_26 : BitVec 32 := 8#32
  let v46 : BitVec 32 := Scalar.muli arg9 c8_i32_26
  let v47 : BitVec 32 := Scalar.addi v46 c0_i32_27
  let c16_i32 : BitVec 32 := 16#32
  let v48 : BitVec 32 := Scalar.muli v47 c16_i32
  let v49 : Index := Scalar.indexCast v48
  ![v49.toNat]

def k0_chk9 (v86 : IVec S16 32) : Prop :=
  (∀ a x, ((![v86] : Fin 1 → IVec S16 32) a x).toNat < S8192.size a)
theorem k0_idx9_inb : ∀ (v86 : IVec S16 32) (k0_hw9 : k0_chk9 v86), ∀ a x, ((![v86] : Fin 1 → IVec S16 32) a x).toNat < S8192.size a := fun v86 k0_hw9 => k0_hw9

def k0_chk10 (v87 : IVec S16 32) : Prop :=
  (∀ a x, ((![v87] : Fin 1 → IVec S16 32) a x).toNat < S8192.size a)
theorem k0_idx10_inb : ∀ (v87 : IVec S16 32) (k0_hw10 : k0_chk10 v87), ∀ a x, ((![v87] : Fin 1 → IVec S16 32) a x).toNat < S8192.size a := fun v87 k0_hw10 => k0_hw10

def k0_chk11 (v88 : IVec S16 32) : Prop :=
  (∀ a x, ((![v88] : Fin 1 → IVec S16 32) a x).toNat < S8192.size a)
theorem k0_idx11_inb : ∀ (v88 : IVec S16 32) (k0_hw11 : k0_chk11 v88), ∀ a x, ((![v88] : Fin 1 → IVec S16 32) a x).toNat < S8192.size a := fun v88 k0_hw11 => k0_hw11

def k0_chk12 (v89 : IVec S16 32) : Prop :=
  (∀ a x, ((![v89] : Fin 1 → IVec S16 32) a x).toNat < S8192.size a)
theorem k0_idx12_inb : ∀ (v89 : IVec S16 32) (k0_hw12 : k0_chk12 v89), ∀ a x, ((![v89] : Fin 1 → IVec S16 32) a x).toNat < S8192.size a := fun v89 k0_hw12 => k0_hw12

def k0_chk13 (v90 : IVec S16 32) : Prop :=
  (∀ a x, ((![v90] : Fin 1 → IVec S16 32) a x).toNat < S8192.size a)
theorem k0_idx13_inb : ∀ (v90 : IVec S16 32) (k0_hw13 : k0_chk13 v90), ∀ a x, ((![v90] : Fin 1 → IVec S16 32) a x).toNat < S8192.size a := fun v90 k0_hw13 => k0_hw13

def k0_chk14 (v91 : IVec S16 32) : Prop :=
  (∀ a x, ((![v91] : Fin 1 → IVec S16 32) a x).toNat < S8192.size a)
theorem k0_idx14_inb : ∀ (v91 : IVec S16 32) (k0_hw14 : k0_chk14 v91), ∀ a x, ((![v91] : Fin 1 → IVec S16 32) a x).toNat < S8192.size a := fun v91 k0_hw14 => k0_hw14

def k0_chk15 (v92 : IVec S16 32) : Prop :=
  (∀ a x, ((![v92] : Fin 1 → IVec S16 32) a x).toNat < S8192.size a)
theorem k0_idx15_inb : ∀ (v92 : IVec S16 32) (k0_hw15 : k0_chk15 v92), ∀ a x, ((![v92] : Fin 1 → IVec S16 32) a x).toNat < S8192.size a := fun v92 k0_hw15 => k0_hw15

def k0_chk16 (v93 : IVec S16 32) : Prop :=
  (∀ a x, ((![v93] : Fin 1 → IVec S16 32) a x).toNat < S8192.size a)
theorem k0_idx16_inb : ∀ (v93 : IVec S16 32) (k0_hw16 : k0_chk16 v93), ∀ a x, ((![v93] : Fin 1 → IVec S16 32) a x).toNat < S8192.size a := fun v93 k0_hw16 => k0_hw16

def k0_chk17 (v33 : IVec S16 32) : Prop :=
  (∀ a x, ((![v33] : Fin 1 → IVec S16 32) a x).toNat < S8192.size a)
theorem k0_idx17_inb : ∀ (v33 : IVec S16 32) (k0_hw17 : k0_chk17 v33), ∀ a x, ((![v33] : Fin 1 → IVec S16 32) a x).toNat < S8192.size a := fun v33 k0_hw17 => k0_hw17

def k0_chk18 (v34 : IVec S16 32) : Prop :=
  (∀ a x, ((![v34] : Fin 1 → IVec S16 32) a x).toNat < S8192.size a)
theorem k0_idx18_inb : ∀ (v34 : IVec S16 32) (k0_hw18 : k0_chk18 v34), ∀ a x, ((![v34] : Fin 1 → IVec S16 32) a x).toNat < S8192.size a := fun v34 k0_hw18 => k0_hw18

def k0_chk19 (v43 : IVec S16 32) : Prop :=
  (∀ a x, ((![v43] : Fin 1 → IVec S16 32) a x).toNat < S8192.size a)
theorem k0_idx19_inb : ∀ (v43 : IVec S16 32) (k0_hw19 : k0_chk19 v43), ∀ a x, ((![v43] : Fin 1 → IVec S16 32) a x).toNat < S8192.size a := fun v43 k0_hw19 => k0_hw19
@[reducible] def k0_t4_loop : Scf.Loop 32 :=
  let c0_i32_23 : BitVec 32 := 0#32
  let c32_i32 : BitVec 32 := 32#32
  let v44 : BitVec 32 := Scalar.addi c0_i32_23 c32_i32
  let c1_i32_24 : BitVec 32 := 1#32
  ⟨c0_i32_23, v44, c1_i32_24⟩
def k0_off6 (k0_t4 : Fin k0_t4_loop.trips) (c0_i32_26 : BitVec 32) : Fin 1 → Nat :=
  let c0_i32_23 : BitVec 32 := 0#32
  let c1_i32_24 : BitVec 32 := 1#32
  let arg9 : BitVec 32 := Scf.iv c0_i32_23 c1_i32_24 k0_t4
  let c16_i32 : BitVec 32 := 16#32
  let v46 : BitVec 32 := Scalar.muli arg9 c16_i32
  let v47 : BitVec 32 := Scalar.addi c0_i32_26 v46
  let v48 : Index := Scalar.indexCast v47
  ![v48.toNat]
def k0_off7 (k0_t4 : Fin k0_t4_loop.trips) : Fin 1 → Nat :=
  let c0_i32_23 : BitVec 32 := 0#32
  let c1_i32_24 : BitVec 32 := 1#32
  let arg9 : BitVec 32 := Scf.iv c0_i32_23 c1_i32_24 k0_t4
  let c16_i32_43 : BitVec 32 := 16#32
  let v125 : BitVec 32 := Scalar.muli arg9 c16_i32_43
  let v126 : Index := Scalar.indexCast v125
  ![v126.toNat]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_26_r0 : BitVec 32 := 0#32
  ![v1.toNat, 0]
abbrev grid1 : Pipeline.Grid := .none

def k1_off1 (v5 : BitVec 32) : Fin 2 → Nat :=
  let c499_i32 : BitVec 32 := 499#32
  let v6 : BitVec 32 := Scalar.minsi v5 c499_i32
  let v7 : Index := Scalar.indexCast v6
  let c0_3 : Index := 0#32
  ![v7.toNat, 0]

def k1_chk1 (v5 : BitVec 32) : Prop :=
  (∀ a, (k1_off1 v5) a + S1x64.size a ≤ S500x64.size a)
theorem k1_off1_inb : ∀ (v5 : BitVec 32) (k1_hw1 : k1_chk1 v5), ∀ a, (k1_off1 v5) a + S1x64.size a ≤ S500x64.size a := fun v5 k1_hw1 => k1_hw1

abbrev stage1_0 : Fin 1 → Memref sig .tc .vmem S500x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S500x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev grid2 : Pipeline.Grid := .none

def k2_off1 (v25 : BitVec 32) : Fin 2 → Nat :=
  let c499_i32 : BitVec 32 := 499#32
  let v105 : BitVec 32 := Scalar.minsi v25 c499_i32
  let v106 : Index := Scalar.indexCast v105
  let c0_32 : Index := 0#32
  ![v106.toNat, 0]

def k2_chk1 (v25 : BitVec 32) : Prop :=
  (∀ a, (k2_off1 v25) a + S1x64.size a ≤ S500x64.size a)
theorem k2_off1_inb : ∀ (v25 : BitVec 32) (k2_hw1 : k2_chk1 v25), ∀ a, (k2_off1 v25) a + S1x64.size a ≤ S500x64.size a := fun v25 k2_hw1 => k2_hw1

def k2_off2 (v49 : BitVec 32) : Fin 2 → Nat :=
  let c499_i32_33 : BitVec 32 := 499#32
  let v108 : BitVec 32 := Scalar.minsi v49 c499_i32_33
  let v109 : Index := Scalar.indexCast v108
  let c0_34 : Index := 0#32
  ![v109.toNat, 0]

def k2_chk2 (v49 : BitVec 32) : Prop :=
  (∀ a, (k2_off2 v49) a + S1x64.size a ≤ S500x64.size a)
theorem k2_off2_inb : ∀ (v49 : BitVec 32) (k2_hw2 : k2_chk2 v49), ∀ a, (k2_off2 v49) a + S1x64.size a ≤ S500x64.size a := fun v49 k2_hw2 => k2_hw2

def k2_off3 (v73 : BitVec 32) : Fin 2 → Nat :=
  let c499_i32_35 : BitVec 32 := 499#32
  let v111 : BitVec 32 := Scalar.minsi v73 c499_i32_35
  let v112 : Index := Scalar.indexCast v111
  let c0_36 : Index := 0#32
  ![v112.toNat, 0]

def k2_chk3 (v73 : BitVec 32) : Prop :=
  (∀ a, (k2_off3 v73) a + S1x64.size a ≤ S500x64.size a)
theorem k2_off3_inb : ∀ (v73 : BitVec 32) (k2_hw3 : k2_chk3 v73), ∀ a, (k2_off3 v73) a + S1x64.size a ≤ S500x64.size a := fun v73 k2_hw3 => k2_hw3

abbrev stage2_0 : Fin 1 → Memref sig .tc .vmem S32x512 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S500x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S64x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S64x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S1x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x800000 : Shape := ⟨2, ![2, 800000]⟩
abbrev S800000 : Shape := ⟨1, ![800000]⟩
abbrev S_ : Shape := ⟨0, ![]⟩
abbrev S64 : Shape := ⟨1, ![64]⟩
abbrev S500x64 : Shape := ⟨2, ![500, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S64x64 : Shape := ⟨2, ![64, 64]⟩
abbrev S64x128 : Shape := ⟨2, ![64, 128]⟩
abbrev S1x64 : Shape := ⟨2, ![1, 64]⟩
abbrev S500 : Shape := ⟨1, ![500]⟩
abbrev S800000x1 : Shape := ⟨2, ![800000, 1]⟩
abbrev S1x1 : Shape := ⟨2, ![1, 1]⟩
abbrev S3 : Shape := ⟨1, ![3]⟩
abbrev S3x1 : Shape := ⟨2, ![3, 1]⟩
abbrev S3x64 : Shape := ⟨2, ![3, 64]⟩
abbrev S1x3 : Shape := ⟨2, ![1, 3]⟩
abbrev S3x3 : Shape := ⟨2, ![3, 3]⟩
abbrev S64x32 : Shape := ⟨2, ![64, 32]⟩
abbrev S32x1 : Shape := ⟨2, ![32, 1]⟩
abbrev S128 : Shape := ⟨1, ![128]⟩
abbrev S128x64 : Shape := ⟨2, ![128, 64]⟩

abbrev nBuf : Space → Nat
  | .hbm => 216
  | .vmem => 0
  | .smem => 0
  | _ => 0

abbrev hbmTy0_0 (i : Nat) : BufTy := match i % 128 with
  | 0 => ⟨S2x800000, .i32⟩
  | 1 => ⟨S800000, .i32⟩
  | 2 => ⟨S_, .i32⟩
  | 3 => ⟨S_, .i32⟩
  | 4 => ⟨S64, .f32⟩
  | 5 => ⟨S500x64, .f32⟩
  | 6 => ⟨S500x64, .f32⟩
  | 7 => ⟨S32x64, .f32⟩
  | 8 => ⟨S32, .f32⟩
  | 9 => ⟨S1x32, .f32⟩
  | 10 => ⟨S1, .f32⟩
  | 11 => ⟨S64x64, .f32⟩
  | 12 => ⟨S64, .f32⟩
  | 13 => ⟨S64x64, .f32⟩
  | 14 => ⟨S64, .f32⟩
  | 15 => ⟨S64x128, .f32⟩
  | 16 => ⟨S64, .f32⟩
  | 17 => ⟨S64x64, .f32⟩
  | 18 => ⟨S64, .f32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S1x64, .f32⟩
  | 33 => ⟨S64, .f32⟩
  | 34 => ⟨S500x64, .f32⟩
  | 35 => ⟨S_, .f32⟩
  | 36 => ⟨S500, .f32⟩
  | 37 => ⟨S500, .f32⟩
  | 38 => ⟨S64, .f32⟩
  | 39 => ⟨S_, .f32⟩
  | 40 => ⟨S_, .f32⟩
  | 41 => ⟨S_, .f32⟩
  | 42 => ⟨S500, .f32⟩
  | 43 => ⟨S500, .f32⟩
  | 44 => ⟨S500, .f32⟩
  | 45 => ⟨S_, .f32⟩
  | 46 => ⟨S500, .f32⟩
  | 47 => ⟨S500, .f32⟩
  | 48 => ⟨S500, .f32⟩
  | 49 => ⟨S_, .i32⟩
  | 50 => ⟨S_, .i1⟩
  | 51 => ⟨S_, .i32⟩
  | 52 => ⟨S_, .i32⟩
  | 53 => ⟨S_, .i32⟩
  | 54 => ⟨S1, .i32⟩
  | 55 => ⟨S_, .f32⟩
  | 56 => ⟨S500, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S1, .i32⟩
  | 66 => ⟨S_, .i32⟩
  | 67 => ⟨S800000x1, .i32⟩
  | 68 => ⟨S800000x1, .i1⟩
  | 69 => ⟨S1x1, .i32⟩
  | 70 => ⟨S800000x1, .i32⟩
  | 71 => ⟨S800000x1, .i1⟩
  | 72 => ⟨S800000x1, .i1⟩
  | 73 => ⟨S_, .i1⟩
  | 74 => ⟨S800000, .i1⟩
  | 75 => ⟨S800000, .f32⟩
  | 76 => ⟨S_, .f32⟩
  | 77 => ⟨S800000, .f32⟩
  | 78 => ⟨S800000, .f32⟩
  | 79 => ⟨S3, .f32⟩
  | 80 => ⟨S3, .i32⟩
  | 81 => ⟨S_, .f32⟩
  | 82 => ⟨S_, .f32⟩
  | 83 => ⟨S_, .f32⟩
  | 84 => ⟨S_, .f32⟩
  | 85 => ⟨S_, .i32⟩
  | 86 => ⟨S3, .i32⟩
  | 87 => ⟨S3, .i1⟩
  | 88 => ⟨S_, .i32⟩
  | 89 => ⟨S3, .i32⟩
  | 90 => ⟨S3, .i32⟩
  | 91 => ⟨S3, .i32⟩
  | 92 => ⟨S3x1, .i32⟩
  | 93 => ⟨S1, .i32⟩
  | 94 => ⟨S_, .i32⟩
  | 95 => ⟨S3x1, .i32⟩
  | 96 => ⟨S3x1, .i1⟩
  | 97 => ⟨S1x1, .i32⟩
  | 98 => ⟨S3x1, .i32⟩
  | 99 => ⟨S3x1, .i1⟩
  | 100 => ⟨S3x1, .i1⟩
  | 101 => ⟨S_, .i1⟩
  | 102 => ⟨S3, .i1⟩
  | 103 => ⟨S3, .i32⟩
  | 104 => ⟨S_, .i32⟩
  | 105 => ⟨S3, .i32⟩
  | 106 => ⟨S3, .i32⟩
  | 107 => ⟨S_, .i32⟩
  | 108 => ⟨S3, .i32⟩
  | 109 => ⟨S3, .i1⟩
  | 110 => ⟨S_, .i32⟩
  | 111 => ⟨S3, .i32⟩
  | 112 => ⟨S3, .i32⟩
  | 113 => ⟨S3, .i32⟩
  | 114 => ⟨S3x1, .i32⟩
  | 115 => ⟨S1, .i32⟩
  | 116 => ⟨S_, .i32⟩
  | 117 => ⟨S3x1, .i32⟩
  | 118 => ⟨S3x1, .i1⟩
  | 119 => ⟨S1x1, .i32⟩
  | 120 => ⟨S3x1, .i32⟩
  | 121 => ⟨S3x1, .i1⟩
  | 122 => ⟨S3x1, .i1⟩
  | 123 => ⟨S_, .i1⟩
  | 124 => ⟨S3, .i1⟩
  | 125 => ⟨S3x64, .f32⟩
  | 126 => ⟨S3x64, .i1⟩
  | 127 => ⟨S_, .f32⟩
  | _ => ⟨S2x800000, .i32⟩

abbrev hbmTy0_1 (i : Nat) : BufTy := match i % 128 with
  | 0 => ⟨S3x64, .f32⟩
  | 1 => ⟨S3x64, .f32⟩
  | 2 => ⟨S64x64, .f32⟩
  | 3 => ⟨S3x64, .f32⟩
  | 4 => ⟨S1x64, .f32⟩
  | 5 => ⟨S3x64, .f32⟩
  | 6 => ⟨S3x64, .f32⟩
  | 7 => ⟨S_, .f32⟩
  | 8 => ⟨S3x64, .f32⟩
  | 9 => ⟨S3x64, .f32⟩
  | 10 => ⟨S64x64, .f32⟩
  | 11 => ⟨S3x64, .f32⟩
  | 12 => ⟨S1x64, .f32⟩
  | 13 => ⟨S3x64, .f32⟩
  | 14 => ⟨S3x64, .f32⟩
  | 15 => ⟨S3, .i32⟩
  | 16 => ⟨S3x1, .i32⟩
  | 17 => ⟨S1x3, .i32⟩
  | 18 => ⟨S3x3, .i32⟩
  | 19 => ⟨S3x3, .i32⟩
  | 20 => ⟨S3x3, .i1⟩
  | 21 => ⟨S1x3, .i32⟩
  | 22 => ⟨S3x1, .i32⟩
  | 23 => ⟨S3x3, .i32⟩
  | 24 => ⟨S3x3, .i32⟩
  | 25 => ⟨S3x3, .i1⟩
  | 26 => ⟨S3x3, .i1⟩
  | 27 => ⟨S_, .i1⟩
  | 28 => ⟨S3, .i1⟩
  | 29 => ⟨S3, .i1⟩
  | 30 => ⟨S3, .f32⟩
  | 31 => ⟨S3x1, .f32⟩
  | 32 => ⟨S3x64, .f32⟩
  | 33 => ⟨S3x64, .f32⟩
  | 34 => ⟨S_, .f32⟩
  | 35 => ⟨S64, .f32⟩
  | 36 => ⟨S_, .f32⟩
  | 37 => ⟨S_, .f32⟩
  | 38 => ⟨S64, .f32⟩
  | 39 => ⟨S64, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S1x64, .f32⟩
  | 54 => ⟨S64, .f32⟩
  | 55 => ⟨S64x32, .f32⟩
  | 56 => ⟨S32, .f32⟩
  | 57 => ⟨S32, .f32⟩
  | 58 => ⟨S_, .f32⟩
  | 59 => ⟨S32, .f32⟩
  | 60 => ⟨S32, .f32⟩
  | 61 => ⟨S32x1, .f32⟩
  | 62 => ⟨S1, .f32⟩
  | 63 => ⟨S1, .f32⟩
  | 64 => ⟨S1, .f32⟩
  | 65 => ⟨S1, .f32⟩
  | 66 => ⟨S_, .f32⟩
  | 67 => ⟨S1, .f32⟩
  | 68 => ⟨S1, .f32⟩
  | 69 => ⟨S_, .f32⟩
  | 70 => ⟨S1, .f32⟩
  | 71 => ⟨S1, .f32⟩
  | 72 => ⟨S1, .f32⟩
  | 73 => ⟨S1, .f32⟩
  | 74 => ⟨S128, .f32⟩
  | 75 => ⟨S128x64, .f32⟩
  | 76 => ⟨S64, .f32⟩
  | 77 => ⟨S64, .f32⟩
  | 78 => ⟨S_, .f32⟩
  | 79 => ⟨S64, .f32⟩
  | 80 => ⟨S64, .f32⟩
  | 81 => ⟨S64x64, .f32⟩
  | 82 => ⟨S64, .f32⟩
  | 83 => ⟨S64, .f32⟩
  | 84 => ⟨S64, .f32⟩
  | 85 => ⟨S64, .f32⟩
  | 86 => ⟨S64, .f32⟩
  | 87 => ⟨S_, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_c_0 : Ref sig .tc := ⟨.hbm, 21, rfl⟩
abbrev main_v1 : Ref sig .tc := ⟨.hbm, 22, rfl⟩
abbrev main_v2 : Ref sig .tc := ⟨.hbm, 23, rfl⟩
abbrev main_c_1 : Ref sig .tc := ⟨.hbm, 24, rfl⟩
abbrev main_c_2 : Ref sig .tc := ⟨.hbm, 25, rfl⟩
abbrev main_v3 : Ref sig .tc := ⟨.hbm, 26, rfl⟩
abbrev main_c_3 : Ref sig .tc := ⟨.hbm, 27, rfl⟩
abbrev main_c_4 : Ref sig .tc := ⟨.hbm, 28, rfl⟩
abbrev main_v4 : Ref sig .tc := ⟨.hbm, 29, rfl⟩
abbrev main_c_5 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_call0_v0 : Ref sig .tc := ⟨.hbm, 34, rfl⟩
abbrev main_call0_cst : Ref sig .tc := ⟨.hbm, 35, rfl⟩
abbrev main_call0_v1 : Ref sig .tc := ⟨.hbm, 36, rfl⟩
abbrev main_v8 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_c_6 : Ref sig .tc := ⟨.hbm, 49, rfl⟩
abbrev main_v16 : Ref sig .tc := ⟨.hbm, 50, rfl⟩
abbrev main_c_7 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_8 : Ref sig .tc := ⟨.hbm, 55, rfl⟩
abbrev main_v20 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_cst : Ref sig .tc := ⟨.hbm, 76, rfl⟩
abbrev main_call2_v14 : Ref sig .tc := ⟨.hbm, 77, rfl⟩
abbrev main_v21 : Ref sig .tc := ⟨.hbm, 78, rfl⟩
abbrev main_values : Ref sig .tc := ⟨.hbm, 79, rfl⟩
abbrev main_indices : Ref sig .tc := ⟨.hbm, 80, rfl⟩
abbrev main_cst_9 : Ref sig .tc := ⟨.hbm, 81, rfl⟩
abbrev main_v22 : Ref sig .tc := ⟨.hbm, 82, rfl⟩
abbrev main_cst_10 : Ref sig .tc := ⟨.hbm, 83, rfl⟩
abbrev main_v23 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_c_4 : Ref sig .tc := ⟨.hbm, 104, rfl⟩
abbrev main_call3_v14 : Ref sig .tc := ⟨.hbm, 105, rfl⟩
abbrev main_v24 : Ref sig .tc := ⟨.hbm, 106, rfl⟩
abbrev main_call4_c : Ref sig .tc := ⟨.hbm, 107, rfl⟩
abbrev main_call4_v0 : Ref sig .tc := ⟨.hbm, 108, rfl⟩
abbrev main_call4_v1 : Ref sig .tc := ⟨.hbm, 109, rfl⟩
abbrev main_call4_c_0 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_c_1 : Ref sig .tc := ⟨.hbm, 115, rfl⟩
abbrev main_call4_c_2 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_c_3 : Ref sig .tc := ⟨.hbm, 123, rfl⟩
abbrev main_call4_v12 : Ref sig .tc := ⟨.hbm, 124, rfl⟩
abbrev main_call4_v13 : Ref sig .tc := ⟨.hbm, 125, rfl⟩
abbrev main_call4_v14 : Ref sig .tc := ⟨.hbm, 126, rfl⟩
abbrev main_call4_cst : Ref sig .tc := ⟨.hbm, 127, rfl⟩
abbrev main_call4_v15 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_call5_cst : Ref sig .tc := ⟨.hbm, 135, rfl⟩
abbrev main_call5_v0 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_c_11 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_cst_12 : Ref sig .tc := ⟨.hbm, 162, rfl⟩
abbrev main_v55 : Ref sig .tc := ⟨.hbm, 163, rfl⟩
abbrev main_cst_13 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_c_14 : Ref sig .tc := ⟨.hbm, 168, rfl⟩
abbrev main_v59 : Ref sig .tc := ⟨.hbm, 169, rfl⟩
abbrev main_c_15 : Ref sig .tc := ⟨.hbm, 170, rfl⟩
abbrev main_v60 : Ref sig .tc := ⟨.hbm, 171, rfl⟩
abbrev main_v61 : Ref sig .tc := ⟨.hbm, 172, rfl⟩
abbrev main_c_16 : Ref sig .tc := ⟨.hbm, 173, rfl⟩
abbrev main_c_17 : Ref sig .tc := ⟨.hbm, 174, rfl⟩
abbrev main_v62 : Ref sig .tc := ⟨.hbm, 175, rfl⟩
abbrev main_c_18 : Ref sig .tc := ⟨.hbm, 176, rfl⟩
abbrev main_c_19 : Ref sig .tc := ⟨.hbm, 177, rfl⟩
abbrev main_v63 : Ref sig .tc := ⟨.hbm, 178, rfl⟩
abbrev main_c_20 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_v69 : Ref sig .tc := ⟨.hbm, 185, rfl⟩
abbrev main_call6_cst : Ref sig .tc := ⟨.hbm, 186, rfl⟩
abbrev main_call6_v0 : Ref sig .tc := ⟨.hbm, 187, rfl⟩
abbrev main_v70 : Ref sig .tc := ⟨.hbm, 188, rfl⟩
abbrev main_v71 : Ref sig .tc := ⟨.hbm, 189, rfl⟩
abbrev main_v72 : Ref sig .tc := ⟨.hbm, 190, rfl⟩
abbrev main_v73 : Ref sig .tc := ⟨.hbm, 191, rfl⟩
abbrev main_v74 : Ref sig .tc := ⟨.hbm, 192, rfl⟩
abbrev main_v75 : Ref sig .tc := ⟨.hbm, 193, rfl⟩
abbrev main_cst_21 : Ref sig .tc := ⟨.hbm, 194, rfl⟩
abbrev main_v76 : Ref sig .tc := ⟨.hbm, 195, rfl⟩
abbrev main_v77 : Ref sig .tc := ⟨.hbm, 196, rfl⟩
abbrev main_cst_22 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_call7_cst : Ref sig .tc := ⟨.hbm, 206, rfl⟩
abbrev main_call7_v0 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_v91 : Ref sig .tc := ⟨.hbm, 213, rfl⟩
abbrev main_v92 : Ref sig .tc := ⟨.hbm, 214, rfl⟩
abbrev main_v93 : Ref sig .tc := ⟨.hbm, 215, rfl⟩

abbrev nD : Nat := 1
abbrev τ : Topo := Topo.v7x

variable {F : FTy → Type} [FloatOps F]
-- ==== Proof.Hist.lean ====
/-
  The arithmetic of one tile's histogram, away from any program: what an indexed add of ones does to the sixteen
  private tables, how many of the first `n` vectors' words each table's bin has counted, and that the sixteen tables
  summed count the tile's 25000 words.
-/
module

public import proofs.«01_k».proof.Defs
public import proofs.«01_k».proof.Proof.Gen.KernelIdeal
public import proofs.«01_k».proof.Proof.Gen.KernelIdeal.Skeleton

@[expose] public section

noncomputable section

namespace Cert.Proof.Hist

open Cert.KernelIdeal Cert.KernelIdeal.Gen
open Idealize.ShloMosaic

variable {F : FTy → Type} [FloatOps F]

/-! ## Counting -/

/-- One if the word is the bin `b`. -/
def hit (w : BitVec 32) (b : ℕ) : ℕ := if w.toNat = b then 1 else 0

/-- How many of the first `n` vectors hold the bin `b` in lane `l`. -/
def cnt (W : ℕ → BitVec 32) (n l b : ℕ) : ℕ := ∑ i ∈ Finset.range n, hit (W (16 * i + l)) b

theorem cnt_succ (W : ℕ → BitVec 32) (n l b : ℕ) : cnt W (n + 1) l b = cnt W n l b + hit (W (16 * n + l)) b :=
  Finset.sum_range_succ _ _

/-- How many of the first `n` words are the bin `b`. -/
def total (W : ℕ → BitVec 32) (n b : ℕ) : ℕ := ∑ i ∈ Finset.range n, hit (W i) b

theorem sum_lanes (W : ℕ → BitVec 32) (b : ℕ) : ∀ n, ∑ l ∈ Finset.range 16, cnt W n l b = total W (16 * n) b
  | 0 => by simp [cnt, total]
  | n + 1 => by
    simp only [cnt_succ, Finset.sum_add_distrib, sum_lanes W b n]
    rw [show 16 * (n + 1) = 16 * n + 16 by ring, total, total, Finset.sum_range_add]

/-- The tables' contents after `n` vectors and, of the tail vector, the lanes below `t`. -/
def full (W : ℕ → BitVec 32) (t l b : ℕ) : ℕ := cnt W 1562 l b + if l < t then hit (W (16 * 1562 + l)) b else 0

theorem sum_full (W : ℕ → BitVec 32) (b : ℕ) : ∑ l ∈ Finset.range 16, full W 8 l b = total W 25000 b := by
  simp only [full, Finset.sum_add_distrib, sum_lanes]
  rw [show 25000 = 16 * 1562 + 8 by norm_num, total, total, Finset.sum_range_add]
  generalize 16 * 1562 = N
  simp [Finset.sum_range_succ]

theorem total_le (W : ℕ → BitVec 32) (n b : ℕ) : total W n b ≤ n := by
  unfold total
  calc _ ≤ ∑ _i ∈ Finset.range n, 1 := Finset.sum_le_sum fun i _ => by unfold hit; split <;> omega
    _ = n := by simp

/-! ## The sixteen tables as one array of words -/

/-- The array of 8192 words whose word `512 l + b` is `c l b`. -/
def tab (c : ℕ → ℕ → ℕ) : S8192.Idx → BitVec 32 := fun j => BitVec.ofNat 32 (c ((j 0).val / 512) ((j 0).val % 512))

/-- The indices an add of vector `v` names: lane `l` at `512 l + v l`. -/
def lanes (v : S16.Idx → BitVec 32) : IVec S16 32 := addi k0_pay5 v

theorem pay5_apply (x : S16.Idx) : (k0_pay5 x : BitVec 32) = BitVec.ofNat 32 (x 0).val * 512#32 := by
  show BitVec.ofNat 32 (0 * S16.size 0 + (x 0).val) * 512#32 = _
  rw [Nat.zero_mul, Nat.zero_add]

theorem toNat_lanes (v : S16.Idx → BitVec 32) (x : S16.Idx) (hv : (v x).toNat < 512) : (lanes v x).toNat = 512 * (x 0).val + (v x).toNat := by
  have hx : (x 0).val < 16 := (x 0).isLt
  show ((k0_pay5 x : BitVec 32) + v x).toNat = _
  rw [pay5_apply, BitVec.toNat_add, BitVec.toNat_mul, BitVec.toNat_ofNat, BitVec.toNat_ofNat]
  omega

theorem lanes_inb (v : S16.Idx → BitVec 32) (hv : ∀ x, (v x).toNat < 512) : ∀ a x, ((![lanes v] : Fin 1 → IVec S16 32) a x).toNat < S8192.size a := by
  intro a x
  obtain rfl := Fin.eq_zero a
  show (lanes v x).toNat < 8192
  have hx : (x 0).val < 16 := (x 0).isLt
  have := hv x
  rw [toNat_lanes v x (hv x)]; omega

/-- Lane `k` of a vector. -/
def ln (k : Fin 16) : S16.Idx := Shape.ofLane (d := ![16]) k

/-- The indexed add's step at lane `k`: one added at the lane's own table's bin, if the mask sets the lane. -/
def stepAdd (v : S16.Idx → BitVec 32) (mask : IVec S16 1) (g : S8192.Idx → BitVec 32) (k : Fin 16) : S8192.Idx → BitVec 32 :=
  fun j => if mask (ln k) = 1 ∧ (j 0).val = 512 * k.val + (v (ln k)).toNat then g j + 1#32 else g j

/-- What the step at lane `k` adds at the element of table `l`, bin `b`. -/
def gain (v : S16.Idx → BitVec 32) (mask : IVec S16 1) (l b : ℕ) (k : Fin 16) : ℕ :=
  if mask (ln k) = 1 ∧ k.val = l then hit (v (ln k)) b else 0

theorem stepAdd_apply (v : S16.Idx → BitVec 32) (hv : ∀ x, (v x).toNat < 512) (mask : IVec S16 1) (g : S8192.Idx → BitVec 32) (k : Fin 16)
    (j : S8192.Idx) : stepAdd v mask g k j = g j + BitVec.ofNat 32 (gain v mask ((j 0).val / 512) ((j 0).val % 512) k) := by
  have hvx := hv (ln k)
  unfold stepAdd gain hit
  by_cases hm : mask (ln k) = 1
  · by_cases hj : (j 0).val = 512 * k.val + (v (ln k)).toNat
    · rw [if_pos ⟨hm, hj⟩, if_pos ⟨hm, by omega⟩, if_pos (by omega)]
    · rw [if_neg (fun h => hj h.2)]
      by_cases hk : k.val = (j 0).val / 512
      · rw [if_pos ⟨hm, hk⟩, if_neg (by omega)]; simp
      · rw [if_neg (fun h => hk h.2)]; simp
  · rw [if_neg (fun h => hm h.1), if_neg (fun h => hm h.1)]; simp

theorem foldl_stepAdd (v : S16.Idx → BitVec 32) (hv : ∀ x, (v x).toNat < 512) (mask : IVec S16 1) (j : S8192.Idx) :
    ∀ (L : List (Fin 16)) (g : S8192.Idx → BitVec 32), (L.foldl (stepAdd v mask) g) j
      = g j + BitVec.ofNat 32 ((L.map (gain v mask ((j 0).val / 512) ((j 0).val % 512))).sum)
  | [], g => by simp
  | k :: L, g => by
    rw [List.foldl_cons, foldl_stepAdd v hv mask j L, stepAdd_apply v hv, List.map_cons, List.sum_cons, BitVec.ofNat_add]
    ac_rfl

theorem sum_gain (v : S16.Idx → BitVec 32) (mask : IVec S16 1) (l b : ℕ) (hl : l < 16) :
    ((List.finRange 16).map (gain v mask l b)).sum = if mask (ln ⟨l, hl⟩) = 1 then hit (v (ln ⟨l, hl⟩)) b else 0 := by
  rw [← List.sum_toFinset _ (List.nodup_finRange 16), List.toFinset_finRange, Finset.sum_eq_single ⟨l, hl⟩]
  · unfold gain; simp
  · intro k _ hk
    exact if_neg fun h => hk (Fin.ext h.2)
  · intro hn; exact absurd (Finset.mem_univ _) hn

theorem storeIdx_eq_foldl (v : S16.Idx → BitVec 32) (hv : ∀ x, (v x).toNat < 512) (mask : IVec S16 1)
    (h : ∀ a x, ((![lanes v] : Fin 1 → IVec S16 32) a x).toNat < S8192.size a) (f : S8192.Idx → BitVec 32) :
    storeIdx (F := F) (s := S8192) (e := .i32) (d := ![16]) f ![lanes v] k0_pay6 mask true h = (List.finRange 16).foldl (stepAdd v mask) f := by
  unfold storeIdx
  refine congrArg (fun s => List.foldl s f (List.finRange 16)) (?_ : _ = stepAdd v mask)
  funext g k
  have hi : ∀ j : S8192.Idx, (∀ a, (j a).val = (idxAt (s := S8192) ![lanes v] h (ln k) a).val) ↔ (j 0).val = 512 * k.val + (v (ln k)).toNat := by
    intro j
    rw [show 512 * k.val + (v (ln k)).toNat = (lanes v (ln k)).toNat from (toNat_lanes v (ln k) (hv _)).symm]
    exact ⟨fun H => H 0, fun H a => by obtain rfl := Fin.eq_zero a; exact H⟩
  by_cases hm : mask (ln k) = 1
  · refine (if_pos hm).trans ?_
    funext j
    unfold stepAdd
    by_cases hj : (j 0).val = 512 * k.val + (v (ln k)).toNat
    · refine (if_pos ((hi j).mpr hj)).trans (.trans ?_ (if_pos ⟨hm, hj⟩).symm)
      have hij : idxAt (s := S8192) ![lanes v] h (ln k) = j := by
        funext a; exact Fin.ext ((hi j).mpr hj a).symm
      exact congrArg (fun i => g i + 1#32) hij
    · exact (if_neg (fun H => hj ((hi j).mp H))).trans (if_neg (fun H => hj H.2)).symm
  · refine (if_neg hm).trans ?_
    funext j
    exact (if_neg (fun H => hm H.1)).symm

/-- An indexed add of ones at the lanes the mask sets: each set lane's own table gains one at the lane's word. -/
theorem storeIdx_tab (v : S16.Idx → BitVec 32) (hv : ∀ x, (v x).toNat < 512) (mask : IVec S16 1)
    (h : ∀ a x, ((![lanes v] : Fin 1 → IVec S16 32) a x).toNat < S8192.size a) (c c' : ℕ → ℕ → ℕ)
    (hc : ∀ (k : Fin 16) (b : ℕ), b < 512 → c' k.val b = c k.val b + if mask (ln k) = 1 then hit (v (ln k)) b else 0) :
    storeIdx (F := F) (s := S8192) (e := .i32) (d := ![16]) (tab c) ![lanes v] k0_pay6 mask true h = tab c' := by
  rw [storeIdx_eq_foldl v hv]
  funext j
  have hj : (j 0).val < 8192 := (j 0).isLt
  rw [foldl_stepAdd v hv, sum_gain v mask _ _ (by omega)]
  unfold tab
  rw [← BitVec.ofNat_add]
  exact congrArg _ (hc ⟨(j 0).val / 512, by omega⟩ _ (Nat.mod_lt _ (by norm_num))).symm

end Cert.Proof.Hist

end
-- ==== Proof.Setup.lean ====
/-
  The kernel's program as the launch theorem sees it, the resource algebra of its proof, and the arrays the SparseCore
  call works on: the edges' relation words, and the table of thirty-two histograms it leaves.
-/
module

public import proofs.«01_k».proof.Defs
public import proofs.«01_k».proof.Proof.Gen.KernelIdeal
public import proofs.«01_k».proof.Proof.Gen.KernelIdeal.Skeleton
public import proofs.«01_k».proof.Proof.Hist
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Cert.Proof.Hist (tab cnt full total hit)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL

/-! ## The arrays -/

/-- The edges' relation words and the table of histograms, as locations of device `d`. -/
abbrev eLoc (d : Dev nD) : Loc nD τ sig := (SparseCore.T d).loc main_arg1
abbrev oLoc (d : Dev nD) : Loc nD τ sig := (SparseCore.T d).loc main_v0

/-- The elements of a vector from `lo` to below `hi`. -/
def seg (N lo hi : ℕ) : Finset (Shape.Idx ⟨1, ![N]⟩) := Finset.univ.filter fun j => lo ≤ (j 0).val ∧ (j 0).val < hi

theorem mem_seg {N lo hi : ℕ} {j : Shape.Idx ⟨1, ![N]⟩} : j ∈ seg N lo hi ↔ lo ≤ (j 0).val ∧ (j 0).val < hi := by
  simp [seg]

theorem seg_union {N a b c : ℕ} (h₁ : a ≤ b) (h₂ : b ≤ c) : seg N a b ∪ seg N b c = seg N a c := by
  ext j; simp only [Finset.mem_union, mem_seg]; omega

theorem seg_disjoint {N a b c d : ℕ} (h : b ≤ c) : Disjoint (seg N a b) (seg N c d) := by
  refine Finset.disjoint_left.mpr fun j hj hj' => ?_
  rw [mem_seg] at hj hj'; omega

/-- Row `w` of the table of histograms. -/
def rowOf (w : ℕ) : Finset S32x512.Idx := Finset.univ.filter fun j => (j 0).val = w

theorem mem_rowOf {w : ℕ} {j : S32x512.Idx} : j ∈ rowOf w ↔ (j 0).val = w := by simp [rowOf]

/-- Word `n` of the edges' relation words. -/
def word (f : S800000.Idx → BitVec 32) (n : ℕ) : BitVec 32 :=
  if h : n < 800000 then f (Shape.ofLane (d := ![800000]) ⟨n, h⟩) else 0

theorem word_at (f : S800000.Idx → BitVec 32) (n : ℕ) (j : S800000.Idx) (h : (j 0).val = n) : word f n = f j := by
  subst h
  have hj : (j 0).val < 800000 := (j 0).isLt
  unfold word; rw [dif_pos hj]
  refine congrArg f ?_
  funext a; obtain rfl : a = 0 := Subsingleton.elim _ _
  rfl

/-- The words tile `w` counts, from its first. -/
def mine (f : S800000.Idx → BitVec 32) (w n : ℕ) : BitVec 32 := word f (25000 * w + n)

/-- The table of histograms: row `w` counts tile `w`'s 25000 words. -/
def histTab (f : S800000.Idx → BitVec 32) : S32x512.Idx → BitVec 32 :=
  fun j => BitVec.ofNat 32 (total (mine f (j 0).val) 25000 (j 1).val)

/-- What is asked of the launch memory: every relation word below 512. -/
def PreOK (m : (ℓ : Loc nD τ sig) → Buf (Elt F) ℓ) : Prop := ∀ (d : Dev nD) (j : S800000.Idx), (m (eLoc d) j : BitVec 32).toNat < 512

theorem word_lt {f : S800000.Idx → BitVec 32} (h : ∀ j, (f j).toNat < 512) (n : ℕ) : (word f n).toNat < 512 := by
  unfold word; split
  · exact h _
  · decide

theorem mine_lt {f : S800000.Idx → BitVec 32} (h : ∀ j, (f j).toNat < 512) (w n : ℕ) : (mine f w n).toNat < 512 := word_lt h _

end Cert.Proof
-- ==== Proof.TcRules.lean ====
/-
  Loads and stores of the TensorCore kernels: a whole buffer read or written whole, and one row of a table read.
-/
module

public import proofs.«01_k».proof.Proof.Setup

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A TensorCore buffer of device `c`, held whole at `f`. -/
abbrev pt (c : Dev nD) {sp : Space} {s : Shape} {e : EltTy} (M : Memref sig .tc sp s e) (f : Buf (Elt F) (M.view.loc (c.tc : Thread nD τ))) :
    sProp 𝕄 := M.view.loc (c.tc : Thread nD τ) ↦{fullShare} f

theorem off00 : (![0, 0] : Fin 2 → ℕ) = fun _ => 0 := funext fun a => match a with | 0 => rfl | 1 => rfl

/-- Row `n` of a table of five hundred rows, the last where `n` is past it. -/
def rowAt {α : Type} (f : S500x64.Idx → α) (n : ℕ) : S1x64.Idx → α := fun j =>
  f fun a => match a with | 0 => (⟨min n 499, by omega⟩ : Fin 500) | 1 => (j 1 : Fin 64)

theorem row_eq {α : Type} (f : S500x64.Idx → α) (n : ℕ) {off : Fin 2 → ℕ} (ho : off = ![n, 0])
    (inb : ∀ a, off a + S1x64.size a ≤ S500x64.size a) (j : S1x64.Idx) :
    f ((Rect.unit (s := S500x64) off S1x64.size inb).toLoadRect.idx j) = rowAt f n j := by
  subst ho
  have h0 : n + 1 ≤ 500 := inb 0
  have hj : (j 0).val < 1 := (j 0).isLt
  refine congrArg f (funext fun a => ?_)
  match a with
  | 0 => exact Fin.ext (show n + 1 * (j 0).val = min n 499 by omega)
  | 1 => exact Fin.ext (show 0 + 1 * (j 1).val = (j 1).val by omega)

/-- The load of row `n` of the table staged in `cc1_stg0_0` reads that row. -/
theorem row_cc1_stg0_0 (f : Vec F S500x64 .f32) (n : ℕ) {off : Fin 2 → ℕ} (ho : off = ![n, 0])
    (inb : ∀ a, off a + S1x64.size a ≤ S500x64.size a) :
    (Memref.whole cc1_stg0_0 : Memref sig .tc .vmem S500x64 .f32).view.readAt (Elt F) (Rect.unit (s := S500x64) off S1x64.size inb).toLoadRect f = rowAt f n :=
  funext fun j => row_eq f n ho inb j

/-- The load of row `n` of the table staged in `cc1_stg1_0` reads that row. -/
theorem row_cc1_stg1_0 (f : Vec F S500x64 .f32) (n : ℕ) {off : Fin 2 → ℕ} (ho : off = ![n, 0])
    (inb : ∀ a, off a + S1x64.size a ≤ S500x64.size a) :
    (Memref.whole cc1_stg1_0 : Memref sig .tc .vmem S500x64 .f32).view.readAt (Elt F) (Rect.unit (s := S500x64) off S1x64.size inb).toLoadRect f = rowAt f n :=
  funext fun j => row_eq f n ho inb j

/-- The load of row `n` of the table staged in `cc2_stg4_0` reads that row. -/
theorem row_cc2_stg4_0 (f : Vec F S500x64 .f32) (n : ℕ) {off : Fin 2 → ℕ} (ho : off = ![n, 0])
    (inb : ∀ a, off a + S1x64.size a ≤ S500x64.size a) :
    (Memref.whole cc2_stg4_0 : Memref sig .tc .vmem S500x64 .f32).view.readAt (Elt F) (Rect.unit (s := S500x64) off S1x64.size inb).toLoadRect f = rowAt f n :=
  funext fun j => row_eq f n ho inb j

variable [FloatOps F]

/-- A load whose value is known. -/
theorem ld (c : Dev nD) {s : Shape} {e : EltTy} {M : Memref sig .tc .vmem s e} {r : LoadRect s} {hl : M.view.LoadsAt r}
    {k : (r.shape.Idx → Elt F e) → Prog (TpuEff nD τ sig (Elt F) Λ₀ .tc) PUnit} {f : Buf (Elt F) (M.view.loc (c.tc : Thread nD τ))}
    {x : r.shape.Idx → Elt F e} (h : M.view.readAt (Elt F) r f = x) {Q : PUnit → sProp 𝕄} :
    pt c M f ⊢ iprop((pt c M f -∗ wp frame (wpE defs₀ 𝒱₀ (c.tc : Thread nD τ) none) Set.univ (k x) Q)
      -∗ wp frame (wpE defs₀ 𝒱₀ (c.tc : Thread nD τ) none) Set.univ (.op (.load M r hl) k) Q) := by
  subst h
  exact wp_load 𝒱₀ (c.tc : Thread nD τ) none Set.univ (m := M) (S := Finset.univ) (Finset.subset_univ _)

/-- A store whose result is known. -/
theorem st (c : Dev nD) {s : Shape} {e : EltTy} {M : Memref sig .tc .vmem s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) PUnit} {f f' : Buf (Elt F) (M.view.loc (c.tc : Thread nD τ))}
    (h : (M.access r).write (Elt F) f w Finset.univ = f') {Q : PUnit → sProp 𝕄} :
    pt c M f ⊢ iprop((pt c M f' -∗ wp frame (wpE defs₀ 𝒱₀ (c.tc : Thread nD τ) none) Set.univ (k ⟨⟩) Q)
      -∗ wp frame (wpE defs₀ 𝒱₀ (c.tc : Thread nD τ) none) Set.univ (.op (.store M r w Finset.univ hx hm) k) Q) := by
  subst h
  exact wp_store 𝒱₀ (c.tc : Thread nD τ) none Set.univ (m := M) (r := r) (f := f) (S := Finset.univ) (Finset.subset_univ _)

end Cert.Proof
-- ==== Proof.Sims.lean ====
/-
  The first TensorCore kernel, run once: from the relation embeddings, the encoded relations, the query's relation word
  and the confidence layer's weights to the similarities, the query's encoded relation and the confidence.
-/
module

public import proofs.«01_k».proof.Proof.TcRules

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The query's relation word. -/
abbrev qword (f2 : Vec F S1x1 .i32) : BitVec 32 := extractAt ![0, 0] f2 inpos_S1x1_p0_0

/-- The row the query's relation word names: the word, at most 499. -/
def qrel (f2 : Vec F S1x1 .i32) : ℕ := (Scalar.indexCast (Scalar.minsi (qword f2) 499#32)).toNat

/-- The similarities of every relation to the query's. -/
def simsOf (f0 : Vec F S500x64 .f32) (f2 : Vec F S1x1 .i32) : Vec F S1x512 .f32 := k1_pay2 f0 f2 (rowAt f0 (qrel f2))

/-- The confidence. -/
def confOf (f1 : Vec F S500x64 .f32) (f2 : Vec F S1x1 .i32) (f3 : Vec F S32x64 .f32) (f4 f5 : Vec F S1x32 .f32) (f6 : Vec F S1x1 .f32) :
    Vec F S1x1 .f32 := k1_pay1 (rowAt f1 (qrel f2)) f3 f4 f5 f6

/-- The kernel's run: the inputs as they were, the three outputs at their values. -/
theorem sims_run (c : Dev nD) (f0 : Vec F S500x64 .f32) (f1 : Vec F S500x64 .f32) (f2 : Vec F S1x1 .i32) (f3 : Vec F S32x64 .f32) (f4 : Vec F S1x32 .f32) (f5 : Vec F S1x32 .f32) (f6 : Vec F S1x1 .f32) (f7 : Vec F S1x512 .f32) (f8 : Vec F S1x64 .f32) (f9 : Vec F S1x1 .f32)
    (h : k1_chk1 (qword f2)) {Q : PUnit → sProp 𝕄} :
    iprop((pt c (Memref.whole cc1_stg0_0) f0 ∗ pt c (Memref.whole cc1_stg1_0) f1 ∗ pt c (Memref.whole cc1_stg2_0) f2 ∗ pt c (Memref.whole cc1_stg3_0) f3 ∗ pt c (Memref.whole cc1_stg4_0) f4 ∗ pt c (Memref.whole cc1_stg5_0) f5 ∗ pt c (Memref.whole cc1_stg6_0) f6 ∗ pt c (Memref.whole cc1_stg7_0) f7 ∗ pt c (Memref.whole cc1_stg8_0) f8 ∗ pt c (Memref.whole cc1_stg9_0) f9)
        ∗ ((pt c (Memref.whole cc1_stg0_0) f0 ∗ pt c (Memref.whole cc1_stg1_0) f1 ∗ pt c (Memref.whole cc1_stg2_0) f2 ∗ pt c (Memref.whole cc1_stg3_0) f3 ∗ pt c (Memref.whole cc1_stg4_0) f4 ∗ pt c (Memref.whole cc1_stg5_0) f5 ∗ pt c (Memref.whole cc1_stg6_0) f6 ∗ pt c (Memref.whole cc1_stg7_0) (simsOf f0 f2) ∗ pt c (Memref.whole cc1_stg8_0) (rowAt f1 (qrel f2)) ∗ pt c (Memref.whole cc1_stg9_0) (confOf f1 f2 f3 f4 f5 f6)) -∗ Q ⟨⟩))
      ⊢ wp frame (wpE defs₀ 𝒱₀ (c.tc : Thread nD τ) none) Set.univ
          (cc1__tc_sims_kernel (Memref.whole cc1_stg0_0) (hstage1_0 0) (Memref.whole cc1_stg1_0) (hstage1_1 0) (Memref.whole cc1_stg2_0) (hstage1_2 0) (Memref.whole cc1_stg3_0) (hstage1_3 0) (Memref.whole cc1_stg4_0) (hstage1_4 0) (Memref.whole cc1_stg5_0) (hstage1_5 0) (Memref.whole cc1_stg6_0) (hstage1_6 0) (Memref.whole cc1_stg7_0) (hstage1_7 0) (Memref.whole cc1_stg8_0) (hstage1_8 0) (Memref.whole cc1_stg9_0) (hstage1_9 0)) Q := by
  rw [cc1__tc_sims_kernel_eq_skeleton]
  unfold cc1__tc_sims_kernel_skel
  rw [k1_part1_eq_skeleton]
  unfold k1_part1_skel
  simp only [Prog.lift, Prog.bind_op, Prog.bind_ret]
  iintro ⟨⟨H0, H1, H2, H3, H4, H5, H6, H7, H8, H9⟩, HQ⟩
  iapply (ld c (M := Memref.whole cc1_stg0_0) (Memref.readAt_unit_zero (Elt F) cc1_stg0_0 off00 _ f0)) $$ H0; iintro H0
  iapply (ld c (M := Memref.whole cc1_stg2_0) (Memref.readAt_unit_zero (Elt F) cc1_stg2_0 off00 _ f2)) $$ H2; iintro H2
  iapply (Entails.of_eq (wp_assume_of (P := k1_chk1 _) 𝒱₀ (c.tc : Thread nD τ) none Set.univ h).symm)
  iapply (ld c (M := Memref.whole cc1_stg0_0) (row_cc1_stg0_0 f0 (qrel f2) rfl (k1_off1_inb _ h))) $$ H0; iintro H0
  iapply (ld c (M := Memref.whole cc1_stg7_0) (Memref.readAt_unit_zero (Elt F) cc1_stg7_0 off00 _ f7)) $$ H7; iintro H7
  iapply (st c (M := Memref.whole cc1_stg7_0) (Memref.write_access_unit_zero_univ (Elt F) cc1_stg7_0 off00 _ f7 _)) $$ H7; iintro H7
  iapply (ld c (M := Memref.whole cc1_stg1_0) (row_cc1_stg1_0 f1 (qrel f2) rfl (k1_off1_inb _ h))) $$ H1; iintro H1
  iapply (ld c (M := Memref.whole cc1_stg8_0) (Memref.readAt_unit_zero (Elt F) cc1_stg8_0 off00 _ f8)) $$ H8; iintro H8
  iapply (st c (M := Memref.whole cc1_stg8_0) (Memref.write_access_unit_zero_univ (Elt F) cc1_stg8_0 off00 _ f8 _)) $$ H8; iintro H8
  iapply (ld c (M := Memref.whole cc1_stg3_0) (Memref.readAt_unit_zero (Elt F) cc1_stg3_0 off00 _ f3)) $$ H3; iintro H3
  iapply (ld c (M := Memref.whole cc1_stg4_0) (Memref.readAt_unit_zero (Elt F) cc1_stg4_0 off00 _ f4)) $$ H4; iintro H4
  iapply (ld c (M := Memref.whole cc1_stg5_0) (Memref.readAt_unit_zero (Elt F) cc1_stg5_0 off00 _ f5)) $$ H5; iintro H5
  iapply (ld c (M := Memref.whole cc1_stg6_0) (Memref.readAt_unit_zero (Elt F) cc1_stg6_0 off00 _ f6)) $$ H6; iintro H6
  iapply (ld c (M := Memref.whole cc1_stg9_0) (Memref.readAt_unit_zero (Elt F) cc1_stg9_0 off00 _ f9)) $$ H9; iintro H9
  iapply (st c (M := Memref.whole cc1_stg9_0) (Memref.write_access_unit_zero_univ (Elt F) cc1_stg9_0 off00 _ f9 _)) $$ H9; iintro H9
  rw [wp_pure]; imodintro
  iapply HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof
-- ==== Proof.SimsVal.lean ====
/-
  The similarities in exact arithmetic: what the first TensorCore kernel writes in each of its first 500 columns is the
  cosine of the column's row and the query's row, with one at the query's own column; and it is never below minus one.
-/
module

public import proofs.«01_k».proof.Proof.Sims
public import Idealize.ShloMosaic.Lib.Pointwise
public import Idealize.ShloMosaic.Lib.IdealHost
public import Idealize.ShloMosaic.Lib.WordCmp
public import Mathlib.Analysis.InnerProductSpace.Basic

@[expose] public section

noncomputable section

namespace Cert.Proof

open Cert.KernelIdeal Cert.KernelIdeal.Gen
open Idealize.ShloMosaic
open Idealize.ShloMosaic.WordCmp (cmpi_eq_ofNat addi_ofNat select_ofBool)

/-! ## A cosine is at least minus one -/

/-- The square root of the sum of squares. -/
def nrm (v : Fin 64 → EReal) : EReal := Ideal.sqrt (∑ k, v k * v k)

theorem sq_nonneg' (x : EReal) : 0 ≤ x * x := by
  rcases le_total 0 x with h | h
  · exact mul_nonneg h h
  · rw [← neg_mul_neg]; exact mul_nonneg (EReal.neg_nonneg.2 h) (EReal.neg_nonneg.2 h)

theorem sum_sq_nonneg (v : Fin 64 → EReal) : 0 ≤ ∑ k, v k * v k := Finset.sum_nonneg fun k _ => sq_nonneg' _

theorem sq_le_sum (v : Fin 64 → EReal) (k : Fin 64) : v k * v k ≤ ∑ k, v k * v k :=
  Finset.single_le_sum (f := fun k => v k * v k) (fun k _ => sq_nonneg' _) (Finset.mem_univ k)

theorem sqrt_top' : Ideal.sqrt ⊤ = ⊤ := rfl

theorem sqrt_coe' {r : ℝ} (h : 0 ≤ r) : Ideal.sqrt (r : EReal) = (√r : ℝ) := by
  show (if r < 0 then (⊥ : EReal) else ((√r : ℝ) : EReal)) = _
  rw [if_neg (not_lt.2 h)]

theorem nrm_nonneg (v : Fin 64 → EReal) : 0 ≤ nrm v := by
  have h := sum_sq_nonneg v
  unfold nrm
  generalize (∑ k, v k * v k) = x at h
  induction x with
  | bot => exact absurd h (by simp)
  | top => rw [sqrt_top']; exact le_top
  | coe r => rw [sqrt_coe' (EReal.coe_nonneg.1 h)]; exact EReal.coe_nonneg.2 (Real.sqrt_nonneg _)

theorem zero_of_nrm {v : Fin 64 → EReal} (h0 : nrm v = 0) (k : Fin 64) : v k = 0 := by
  have h := sum_sq_nonneg v
  have hs : (∑ k, v k * v k) = 0 := by
    unfold nrm at h0
    generalize (∑ k, v k * v k) = x at h h0
    induction x with
    | bot => exact absurd h (by simp)
    | top => rw [sqrt_top'] at h0; exact absurd h0 (by simp)
    | coe r =>
      have hr := EReal.coe_nonneg.1 h
      rw [sqrt_coe' hr] at h0
      have := (Real.sqrt_eq_zero hr).1 (by exact_mod_cast h0)
      rw [this]; rfl
  have h2 : v k * v k = 0 := le_antisymm ((sq_le_sum v k).trans hs.le) (sq_nonneg' _)
  exact mul_self_eq_zero.1 h2

theorem real_of_nrm {v : Fin 64 → EReal} (h0 : nrm v ≠ ⊤) : ∃ f : Fin 64 → ℝ, v = fun k => (f k : EReal) := by
  have hs : (∑ k, v k * v k) ≠ ⊤ := fun h => h0 (by unfold nrm; rw [h, sqrt_top'])
  have hk : ∀ k, ∃ r : ℝ, v k = r := fun k => by
    have h1 := lt_of_le_of_lt (sq_le_sum v k) (lt_top_iff_ne_top.2 hs)
    generalize v k = x at h1
    induction x with
    | bot => simp at h1
    | top => simp at h1
    | coe r => exact ⟨r, rfl⟩
  choose f hf using hk
  exact ⟨f, funext hf⟩

theorem coe_sum' (f : Fin 64 → ℝ) : (∑ k, (f k : EReal)) = ((∑ k, f k : ℝ) : EReal) := by
  induction (Finset.univ : Finset (Fin 64)) using Finset.induction_on with
  | empty => simp
  | insert a s ha ih => rw [Finset.sum_insert ha, Finset.sum_insert ha, ih, EReal.coe_add]

theorem nrm_coe (f : Fin 64 → ℝ) : nrm (fun k => (f k : EReal)) = (√(∑ k, f k ^ 2) : ℝ) := by
  unfold nrm
  simp only [← EReal.coe_mul]
  rw [coe_sum' fun k => f k * f k, sqrt_coe' (Finset.sum_nonneg fun k _ => mul_self_nonneg _)]
  simp only [pow_two]

theorem cosine_ge (u v : Fin 64 → EReal) {c : EReal} (hc : 0 < c) : ((-1 : ℝ) : EReal) ≤ Ideal.div (∑ k, u k * v k) (max (nrm u * nrm v) c) := by
  have hd : 0 < max (nrm u * nrm v) c := lt_max_of_lt_right hc
  have hm1 : ((-1 : ℝ) : EReal) ≤ 0 := by exact_mod_cast (by norm_num : (-1 : ℝ) ≤ 0)
  unfold Ideal.div
  rw [if_neg hd.ne']
  by_cases ht : max (nrm u * nrm v) c = ⊤
  · rw [ht, EReal.inv_top, mul_zero]; exact hm1
  have hn : nrm u * nrm v ≠ ⊤ := fun h => ht (by rw [h]; exact max_eq_left le_top)
  by_cases hu : nrm u = ⊤
  · have hv : nrm v = 0 := by
      by_contra h
      exact hn (by rw [hu]; exact EReal.top_mul_of_pos (lt_of_le_of_ne (nrm_nonneg v) (Ne.symm h)))
    rw [Finset.sum_eq_zero fun k _ => by rw [zero_of_nrm hv k, mul_zero], zero_mul]; exact hm1
  by_cases hv : nrm v = ⊤
  · have hu : nrm u = 0 := by
      by_contra h
      exact hn (by rw [hv]; exact EReal.mul_top_of_pos (lt_of_le_of_ne (nrm_nonneg u) (Ne.symm h)))
    rw [Finset.sum_eq_zero fun k _ => by rw [zero_of_nrm hu k, zero_mul], zero_mul]; exact hm1
  obtain ⟨f, rfl⟩ := real_of_nrm hu
  obtain ⟨g, rfl⟩ := real_of_nrm hv
  rw [nrm_coe, nrm_coe] at *
  simp only [← EReal.coe_mul] at *
  rw [coe_sum' fun k => f k * g k]
  have hcs : -(∑ k, f k * g k) ≤ √(∑ k, f k ^ 2) * √(∑ k, g k ^ 2) := by
    have := Real.sum_mul_le_sqrt_mul_sqrt Finset.univ f (fun k => -g k)
    simpa [Finset.sum_neg_distrib] using this
  have hle := le_max_left ((√(∑ k, f k ^ 2) * √(∑ k, g k ^ 2) : ℝ) : EReal) c
  generalize max ((√(∑ k, f k ^ 2) * √(∑ k, g k ^ 2) : ℝ) : EReal) c = D at *
  generalize √(∑ k, f k ^ 2) * √(∑ k, g k ^ 2) = P at *
  generalize (∑ k, f k * g k) = x at *
  induction D with
  | bot => exact absurd hd (by simp)
  | top => exact absurd rfl ht
  | coe d =>
    have h1 : 0 < d := EReal.coe_pos.1 hd
    have h2 : P ≤ d := EReal.coe_le_coe_iff.1 hle
    rw [← EReal.coe_inv, ← EReal.coe_mul, EReal.coe_le_coe_iff, ← div_eq_mul_inv, le_div_iff₀ h1]
    linarith

/-! ## The kernel's constants -/

theorem ofBits_bot : Ideal.ofBits .f32 0xFF800000#32 = ⊥ := by simp [Ideal.ofBits, Ideal.ieee]

theorem ofBits_eps_pos : 0 < Ideal.ofBits .f32 0x322BCC77#32 := by
  simp [Ideal.ofBits, Ideal.ieee, -EReal.coe_mul]

/-- The similarity of a column no edge has, and of a column picked before. -/
def lo : EReal := Ideal.ofBits .f32 0xF149F2CA#32
def lo' : EReal := Ideal.ofBits .f32 0xF2177617#32

theorem lo_lt : lo < ((-1 : ℝ) : EReal) := by
  simp [lo, Ideal.ofBits, Ideal.ieee, -EReal.coe_mul, -EReal.coe_neg]; norm_num
theorem lo'_lt : lo' < lo := by
  simp [lo, lo', Ideal.ofBits, Ideal.ieee, -EReal.coe_mul, -EReal.coe_neg]; norm_num

/-! ## The similarities -/

/-- The similarity of the relation `r` to the relation `q`. -/
def simR (E : (⟨2, ![500, 64]⟩ : Shape).Idx → EReal) (q r : Fin 500) : EReal :=
  if r = q then 1 else Ideal.div (∑ k, E (ix2 r k) * E (ix2 q k))
    (max (nrm (fun k => E (ix2 r k)) * nrm (fun k => E (ix2 q k))) (Ideal.ofBits .f32 0x322BCC77#32))

theorem lo_lt_simR (E : (⟨2, ![500, 64]⟩ : Shape).Idx → EReal) (q r : Fin 500) : lo < simR E q r := by
  refine lt_of_lt_of_le lo_lt ?_
  unfold simR
  split
  · exact_mod_cast (by norm_num : (-1 : ℝ) ≤ 1)
  · exact cosine_ge _ _ ofBits_eps_pos

theorem rowAt_at {α : Type} (E : S500x64.Idx → α) {n : ℕ} (q : Fin 500) (h : n = q.val) (k : Fin 64) : rowAt E n (ix2 0 k) = E (ix2 q k) := by
  subst h
  have := q.isLt
  unfold rowAt
  congr 1
  funext a
  match a with
  | 0 => exact Fin.ext (show min q.val 499 = q.val by omega)
  | 1 => rfl

theorem simsOf_at (E : S500x64.Idx → EReal) (f2 : S1x1.Idx → BitVec 32) (q : Fin 500) (hq : qrel (F := Ideal) f2 = q.val) (hw : f2 (ix2 0 0) = BitVec.ofNat 32 q.val)
    (r : Fin 500) : (simsOf (F := Ideal) E f2 (ix2 0 ⟨r.val, lt_trans r.isLt (by decide)⟩) : EReal) = simR E q r := by
  unfold simsOf
  have hr := rowAt_at E q hq
  generalize rowAt E (qrel (F := Ideal) f2) = row at hr
  have hb : ∀ a : ℕ, a < 512 → IntOp.cmpi .eq (BitVec.ofNat 32 a) (BitVec.ofNat 32 q.val) = BitVec.ofBool (decide (a = q.val)) := fun a ha =>
    cmpi_eq_ofNat (by omega) (by have := q.isLt; omega)
  pointwise [k1_pay2]
  have hx : ∀ x : Fin 12, (500 + x.val = q.val) = False := fun x => eq_false (by have := q.isLt; omega)
  have hy : ∀ x : Fin 500, IntOp.cmpi .eq (BitVec.ofNat 32 x.val) (BitVec.ofNat 32 q.val) = BitVec.ofBool (decide (x = q)) := fun x => by
    rw [hb x.val (by omega)]; simp only [Fin.ext_iff]
  have hz : ∀ x : Fin 12, IntOp.cmpi .eq (BitVec.ofNat 32 (500 + x.val)) (BitVec.ofNat 32 q.val) = BitVec.ofBool (decide False) := fun x => by
    rw [hb (500 + x.val) (by omega)]; simp only [hx]
  simp only [hw, hr, hy, hz, select_ofBool, decide_eq_true_eq, if_false, Finset.sum_ite_eq', Finset.mem_univ, if_true, Finset.sum_const_zero, add_zero,
    Fin.sum_univ_one]
  unfold simR nrm
  split
  · rfl
  · congr 1
    exact Finset.sum_congr rfl fun k _ => mul_comm _ _

end Cert.Proof
-- ==== Proof.Fuse.lean ====
/-
  The second TensorCore kernel, run once: from the table of histograms, the similarities, the query's encoded relation,
  the confidence, the encoded relations and the two networks' weights to the fused vector and the score.
-/
module

public import proofs.«01_k».proof.Proof.TcRules

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The three selected columns -/

/-- A column's word as a row of the table: at most 499. -/
def clip (v : BitVec 32) : ℕ := (Scalar.indexCast (Scalar.minsi v 499#32)).toNat

/-- A word that is not negative, clipped, is a row. -/
theorem clip_le (v : BitVec 32) (h : v.toNat < 2 ^ 31) : clip v ≤ 499 := by
  show (if v.slt 499#32 then v else 499#32).toNat ≤ 499
  split
  · rename_i hs
    rw [BitVec.slt_iff_toInt_lt] at hs
    rw [BitVec.toInt_eq_toNat_of_lt (by omega)] at hs
    have : (499#32 : BitVec 32).toInt = 499 := by decide
    omega
  · decide

theorem clip_inb (v : BitVec 32) (h : v.toNat < 2 ^ 31) : ∀ a, (![clip v, 0] : Fin 2 → ℕ) a + S1x64.size a ≤ S500x64.size a := fun a =>
  match a with
  | 0 => (show clip v + 1 ≤ 500 by have := clip_le v h; omega)
  | 1 => (show 0 + 64 ≤ 64 by omega)

theorem chk1_of {v : BitVec 32} (h : v.toNat < 2 ^ 31) : k2_chk1 v := clip_inb v h
theorem chk2_of {v : BitVec 32} (h : v.toNat < 2 ^ 31) : k2_chk2 v := clip_inb v h
theorem chk3_of {v : BitVec 32} (h : v.toNat < 2 ^ 31) : k2_chk3 v := clip_inb v h

/-- What a fold keeps of its initial value and of every element, it has at the end. -/
theorem reduceFold_inv {s t : Shape} {axes : List (Fin s.rank)} {α : Type} (h : s.Reduces axes t) (f : α → α → α) (init : α) (x : s.Idx → α)
    (P : α → Prop) (h0 : P init) (hf : ∀ a i, P a → P (f a (x i))) (j : t.Idx) : P (reduceFold h f init x j) := by
  unfold reduceFold
  generalize ((List.finRange s.numel).filter fun n => h.drop (s.rowMajor.symm n) = j) = l
  induction l generalizing init with
  | nil => exact h0
  | cons n l ih => exact ih _ (hf _ _ h0)

/-- The least column a mask marks, or 512: never negative. -/
theorem least_lt (v4 : IVec S1x512 32) (h4 : ∀ i, (v4 i).toNat < 2 ^ 31) (v43 : IVec S1x512 1) (j : S1x1x1.Idx) :
    (k2_pay10 v4 v43 j).toNat < 2 ^ 31 := by
  show (reduceFold reduces_S1x1x512_S1 IntOp.minsi 2147483647#32 _ _).toNat < 2 ^ 31
  refine reduceFold_inv _ _ _ _ (fun v : BitVec 32 => v.toNat < 2 ^ 31) (by decide) (fun a i ha => ?_) _
  show (if a.slt _ then a else _).toNat < 2 ^ 31
  split
  · exact ha
  · show (if _ then v4 _ else 512#32).toNat < 2 ^ 31
    split
    · exact h4 _
    · decide

/-- The columns' numbers. -/
abbrev cols : IVec S1x512 32 := iota .tc S1x512 32 [1] iota_S1x512_d1_w32

theorem cols_val (i : S1x512.Idx) : cols i = BitVec.ofNat 32 (i 1).val := by
  show BitVec.ofNat 32 (0 * 512 + (i 1).val) = _
  rw [Nat.zero_mul, Nat.zero_add]

theorem cols_lt (i : S1x512.Idx) : (cols i).toNat < 2 ^ 31 := by
  have h : (i 1).val < 512 := (i 1).isLt
  rw [cols_val, BitVec.toNat_ofNat]; omega

variable [FloatOps F]

def pick0 (f0 : Vec F S32x512 .i32) (f1 : Vec F S1x512 .f32) : BitVec 32 := extractAt ![0, 0, 0] (k2_pay5 f0 f1) inpos_S1x1x1_p0_0_0
def num0 (f0 : Vec F S32x512 .i32) (f1 : Vec F S1x512 .f32) : BitVec 32 := extractAt ![0, 0, 0] (k2_pay6 f0 f1) inpos_S1x1x1_p0_0_0
def pick1 (f0 : Vec F S32x512 .i32) (f1 : Vec F S1x512 .f32) : BitVec 32 := extractAt ![0, 0, 0] (k2_pay10 cols (k2_pay9 f0 f1)) inpos_S1x1x1_p0_0_0
def num1 (f0 : Vec F S32x512 .i32) (f1 : Vec F S1x512 .f32) : BitVec 32 := extractAt ![0, 0, 0] (k2_pay11 (k2_pay2 (F := F) f0) cols (k2_pay9 f0 f1)) inpos_S1x1x1_p0_0_0
def pick2 (f0 : Vec F S32x512 .i32) (f1 : Vec F S1x512 .f32) : BitVec 32 := extractAt ![0, 0, 0] (k2_pay14 cols (k2_pay7 f0 f1) (k2_pay9 f0 f1)) inpos_S1x1x1_p0_0_0
def num2 (f0 : Vec F S32x512 .i32) (f1 : Vec F S1x512 .f32) : BitVec 32 := extractAt ![0, 0, 0] (k2_pay15 (k2_pay2 (F := F) f0) cols (k2_pay7 f0 f1) (k2_pay9 f0 f1)) inpos_S1x1x1_p0_0_0

/-- The masks of the columns at the largest remaining similarity. -/
abbrev mask0 (f0 : Vec F S32x512 .i32) (f1 : Vec F S1x512 .f32) : IVec S1x512 1 := cmpf .oeq (k2_pay3 f0 f1) (broadcast S1x512 (k2_pay4 f0 f1))
abbrev mask2 (f0 : Vec F S32x512 .i32) (f1 : Vec F S1x512 .f32) : IVec S1x512 1 :=
  cmpf .oeq (k2_pay12 cols (k2_pay7 f0 f1) (k2_pay9 f0 f1)) (broadcast S1x512 (k2_pay13 cols (k2_pay7 f0 f1) (k2_pay9 f0 f1)))

theorem pick0_eq (f0 : Vec F S32x512 .i32) (f1 : Vec F S1x512 .f32) :
    pick0 f0 f1 = extractAt ![0, 0, 0] (k2_pay10 cols (mask0 f0 f1)) inpos_S1x1x1_p0_0_0 := rfl
theorem pick2_eq (f0 : Vec F S32x512 .i32) (f1 : Vec F S1x512 .f32) :
    pick2 f0 f1 = extractAt ![0, 0, 0] (k2_pay10 cols (mask2 f0 f1)) inpos_S1x1x1_p0_0_0 := rfl

theorem pick0_lt (f0 : Vec F S32x512 .i32) (f1 : Vec F S1x512 .f32) : (pick0 f0 f1).toNat < 2 ^ 31 := by
  rw [pick0_eq]; exact least_lt cols cols_lt _ _
theorem pick1_lt (f0 : Vec F S32x512 .i32) (f1 : Vec F S1x512 .f32) : (pick1 f0 f1).toNat < 2 ^ 31 := least_lt cols cols_lt _ _
theorem pick2_lt (f0 : Vec F S32x512 .i32) (f1 : Vec F S1x512 .f32) : (pick2 f0 f1).toNat < 2 ^ 31 := by
  rw [pick2_eq]; exact least_lt cols cols_lt _ _

/-! ## The shares of the three columns in the top three edges, and the results -/

/-- How many of the three edges the first, the second and the third column take. -/
def take0 (n0 : BitVec 32) : BitVec 32 := Scalar.minsi n0 3#32
def take1 (n0 n1 : BitVec 32) : BitVec 32 := Scalar.minsi n1 (Scalar.subi 3#32 (take0 n0))
def take2 (n0 n1 n2 : BitVec 32) : BitVec 32 := Scalar.minsi n2 (Scalar.subi (Scalar.subi 3#32 (take0 n0)) (take1 n0 n1))

def tk0 (f0 : Vec F S32x512 .i32) (f1 : Vec F S1x512 .f32) : BitVec 32 := take0 (num0 f0 f1)
def tk1 (f0 : Vec F S32x512 .i32) (f1 : Vec F S1x512 .f32) : BitVec 32 := take1 (num0 f0 f1) (num1 f0 f1)
def tk2 (f0 : Vec F S32x512 .i32) (f1 : Vec F S1x512 .f32) : BitVec 32 := take2 (num0 f0 f1) (num1 f0 f1) (num2 f0 f1)

/-- The average similarity of the top three edges. -/
def avgOf (f0 : Vec F S32x512 .i32) (f1 : Vec F S1x512 .f32) : F .f32 :=
  k2_pay17 (k2_pay4 f0 f1) (k2_pay8 f0 f1) (k2_pay13 cols (k2_pay7 f0 f1) (k2_pay9 f0 f1)) (tk1 f0 f1) (tk2 f0 f1) (k2_pay16 (num0 f0 f1))

/-- The score. -/
def scoreOf (f0 : Vec F S32x512 .i32) (f1 : Vec F S1x512 .f32) (f3 : Vec F S1x1 .f32) : Vec F S1x1 .f32 :=
  k2_pay1 (k2_pay23 (avgOf f0 f1) f3)

/-- The fused vector. -/
def fusedOf (f0 : Vec F S32x512 .i32) (f1 : Vec F S1x512 .f32) (f2 : Vec F S1x64 .f32) (f3 : Vec F S1x1 .f32) (f4 : Vec F S500x64 .f32) (f5 : Vec F S64x64 .f32) (f6 : Vec F S1x64 .f32) (f7 : Vec F S64x64 .f32) (f8 : Vec F S1x64 .f32) (f9 : Vec F S64x128 .f32) (f10 : Vec F S1x64 .f32) (f11 : Vec F S64x64 .f32) (f12 : Vec F S1x64 .f32) : Vec F S1x64 .f32 :=
  k2_pay24 (avgOf f0 f1) (k2_pay18 (F := F) (tk0 f0 f1)) (k2_pay19 (F := F) (tk1 f0 f1)) (k2_pay20 (F := F) (tk2 f0 f1))
    (k2_pay21 (F := F) (tk0 f0 f1) (tk1 f0 f1) (tk2 f0 f1))
    (k2_pay22 (rowAt f4 (clip (pick0 f0 f1))) (rowAt f4 (clip (pick1 f0 f1))) (rowAt f4 (clip (pick2 f0 f1))) f5 f6)
    f7 (constant S3x64 .f32 0x00000000#32) f8 f2 f3 f9 f10 f11 f12

attribute [local irreducible] k2_pay1 k2_pay2 k2_pay3 k2_pay4 k2_pay5 k2_pay6 k2_pay7 k2_pay8 k2_pay9 k2_pay10 k2_pay11 k2_pay12 k2_pay13 k2_pay14 k2_pay15 k2_pay16 k2_pay17 k2_pay18 k2_pay19 k2_pay20 k2_pay21 k2_pay22 k2_pay23 k2_pay24 rowAt

set_option maxHeartbeats 1000000 in
/-- The kernel's run: the inputs as they were, the two outputs at their values. -/
theorem fuse_run (c : Dev nD) (f0 : Vec F S32x512 .i32) (f1 : Vec F S1x512 .f32) (f2 : Vec F S1x64 .f32) (f3 : Vec F S1x1 .f32) (f4 : Vec F S500x64 .f32) (f5 : Vec F S64x64 .f32) (f6 : Vec F S1x64 .f32) (f7 : Vec F S64x64 .f32) (f8 : Vec F S1x64 .f32) (f9 : Vec F S64x128 .f32) (f10 : Vec F S1x64 .f32) (f11 : Vec F S64x64 .f32) (f12 : Vec F S1x64 .f32) (f13 : Vec F S1x64 .f32) (f14 : Vec F S1x1 .f32)
    {Q : PUnit → sProp 𝕄} :
    iprop((pt c (Memref.whole cc2_stg0_0) f0 ∗ pt c (Memref.whole cc2_stg1_0) f1 ∗ pt c (Memref.whole cc2_stg2_0) f2 ∗ pt c (Memref.whole cc2_stg3_0) f3 ∗ pt c (Memref.whole cc2_stg4_0) f4 ∗ pt c (Memref.whole cc2_stg5_0) f5 ∗ pt c (Memref.whole cc2_stg6_0) f6 ∗ pt c (Memref.whole cc2_stg7_0) f7 ∗ pt c (Memref.whole cc2_stg8_0) f8 ∗ pt c (Memref.whole cc2_stg9_0) f9 ∗ pt c (Memref.whole cc2_stg10_0) f10 ∗ pt c (Memref.whole cc2_stg11_0) f11 ∗ pt c (Memref.whole cc2_stg12_0) f12 ∗ pt c (Memref.whole cc2_stg13_0) f13 ∗ pt c (Memref.whole cc2_stg14_0) f14)
        ∗ ((pt c (Memref.whole cc2_stg0_0) f0 ∗ pt c (Memref.whole cc2_stg1_0) f1 ∗ pt c (Memref.whole cc2_stg2_0) f2 ∗ pt c (Memref.whole cc2_stg3_0) f3 ∗ pt c (Memref.whole cc2_stg4_0) f4 ∗ pt c (Memref.whole cc2_stg5_0) f5 ∗ pt c (Memref.whole cc2_stg6_0) f6 ∗ pt c (Memref.whole cc2_stg7_0) f7 ∗ pt c (Memref.whole cc2_stg8_0) f8 ∗ pt c (Memref.whole cc2_stg9_0) f9 ∗ pt c (Memref.whole cc2_stg10_0) f10 ∗ pt c (Memref.whole cc2_stg11_0) f11 ∗ pt c (Memref.whole cc2_stg12_0) f12 ∗ pt c (Memref.whole cc2_stg13_0) (fusedOf f0 f1 f2 f3 f4 f5 f6 f7 f8 f9 f10 f11 f12) ∗ pt c (Memref.whole cc2_stg14_0) (scoreOf f0 f1 f3)) -∗ Q ⟨⟩))
      ⊢ wp frame (wpE defs₀ 𝒱₀ (c.tc : Thread nD τ) none) Set.univ
          (cc2__tc_fuse_kernel (Memref.whole cc2_stg0_0) (hstage2_0 0) (Memref.whole cc2_stg1_0) (hstage2_1 0) (Memref.whole cc2_stg2_0) (hstage2_2 0) (Memref.whole cc2_stg3_0) (hstage2_3 0) (Memref.whole cc2_stg4_0) (hstage2_4 0) (Memref.whole cc2_stg5_0) (hstage2_5 0) (Memref.whole cc2_stg6_0) (hstage2_6 0) (Memref.whole cc2_stg7_0) (hstage2_7 0) (Memref.whole cc2_stg8_0) (hstage2_8 0) (Memref.whole cc2_stg9_0) (hstage2_9 0) (Memref.whole cc2_stg10_0) (hstage2_10 0) (Memref.whole cc2_stg11_0) (hstage2_11 0) (Memref.whole cc2_stg12_0) (hstage2_12 0) (Memref.whole cc2_stg13_0) (hstage2_13 0) (Memref.whole cc2_stg14_0) (hstage2_14 0)) Q := by
  rw [cc2__tc_fuse_kernel_eq_skeleton]
  unfold cc2__tc_fuse_kernel_skel
  rw [k2_part1_eq_skeleton, k2_part2_eq_skeleton, k2_part3_eq_skeleton, k2_part4_eq_skeleton]
  unfold k2_part1_skel k2_part2_skel k2_part3_skel k2_part4_skel
  simp only [Prog.lift, Prog.bind_op, Prog.bind_ret]
  have h0 : (extractAt ![0, 0, 0] (k2_pay5 f0 f1) inpos_S1x1x1_p0_0_0).toNat < 2 ^ 31 := pick0_lt f0 f1
  have h1 : (extractAt ![0, 0, 0] (k2_pay10 cols (k2_pay9 f0 f1)) inpos_S1x1x1_p0_0_0).toNat < 2 ^ 31 := pick1_lt f0 f1
  have h2 : (extractAt ![0, 0, 0] (k2_pay14 cols (k2_pay7 f0 f1) (k2_pay9 f0 f1)) inpos_S1x1x1_p0_0_0).toNat < 2 ^ 31 := pick2_lt f0 f1
  unfold fusedOf scoreOf avgOf tk0 tk1 tk2 num0 num1 num2 take2 take1 take0 pick0 pick1 pick2
  iintro ⟨⟨H0, H1, H2, H3, H4, H5, H6, H7, H8, H9, H10, H11, H12, H13, H14⟩, HQ⟩
  iapply (ld c (M := Memref.whole cc2_stg0_0) (Memref.readAt_unit_zero (Elt F) cc2_stg0_0 off00 _ f0)) $$ H0; iintro H0
  iapply (ld c (M := Memref.whole cc2_stg1_0) (Memref.readAt_unit_zero (Elt F) cc2_stg1_0 off00 _ f1)) $$ H1; iintro H1
  iapply (Entails.of_eq (wp_assume_of (P := k2_chk1 _) 𝒱₀ (c.tc : Thread nD τ) none Set.univ (chk1_of h0)).symm)
  rw [show (pure : _ → Prog (TpuEff nD τ sig (Elt F) Λ₀ .tc) _) = Prog.ret from rfl, Prog.bind_ret]
  dsimp only
  iapply (Entails.of_eq (wp_assume_of (P := k2_chk2 _) 𝒱₀ (c.tc : Thread nD τ) none Set.univ (chk2_of h1)).symm)
  iapply (Entails.of_eq (wp_assume_of (P := k2_chk3 _) 𝒱₀ (c.tc : Thread nD τ) none Set.univ (chk3_of h2)).symm)
  dsimp only
  iapply (ld c (M := Memref.whole cc2_stg4_0) (row_cc2_stg4_0 f4 (clip _) rfl (k2_off1_inb _ (chk1_of h0)))) $$ H4; iintro H4
  iapply (ld c (M := Memref.whole cc2_stg4_0) (row_cc2_stg4_0 f4 (clip _) rfl (k2_off2_inb _ (chk2_of h1)))) $$ H4; iintro H4
  iapply (ld c (M := Memref.whole cc2_stg4_0) (row_cc2_stg4_0 f4 (clip _) rfl (k2_off3_inb _ (chk3_of h2)))) $$ H4; iintro H4
  iapply (ld c (M := Memref.whole cc2_stg5_0) (Memref.readAt_unit_zero (Elt F) cc2_stg5_0 off00 _ f5)) $$ H5; iintro H5
  iapply (ld c (M := Memref.whole cc2_stg6_0) (Memref.readAt_unit_zero (Elt F) cc2_stg6_0 off00 _ f6)) $$ H6; iintro H6
  iapply (ld c (M := Memref.whole cc2_stg7_0) (Memref.readAt_unit_zero (Elt F) cc2_stg7_0 off00 _ f7)) $$ H7; iintro H7
  dsimp only
  iapply (ld c (M := Memref.whole cc2_stg8_0) (Memref.readAt_unit_zero (Elt F) cc2_stg8_0 off00 _ f8)) $$ H8; iintro H8
  iapply (ld c (M := Memref.whole cc2_stg2_0) (Memref.readAt_unit_zero (Elt F) cc2_stg2_0 off00 _ f2)) $$ H2; iintro H2
  iapply (ld c (M := Memref.whole cc2_stg3_0) (Memref.readAt_unit_zero (Elt F) cc2_stg3_0 off00 _ f3)) $$ H3; iintro H3
  iapply (ld c (M := Memref.whole cc2_stg9_0) (Memref.readAt_unit_zero (Elt F) cc2_stg9_0 off00 _ f9)) $$ H9; iintro H9
  iapply (ld c (M := Memref.whole cc2_stg10_0) (Memref.readAt_unit_zero (Elt F) cc2_stg10_0 off00 _ f10)) $$ H10; iintro H10
  iapply (ld c (M := Memref.whole cc2_stg11_0) (Memref.readAt_unit_zero (Elt F) cc2_stg11_0 off00 _ f11)) $$ H11; iintro H11
  iapply (ld c (M := Memref.whole cc2_stg12_0) (Memref.readAt_unit_zero (Elt F) cc2_stg12_0 off00 _ f12)) $$ H12; iintro H12
  dsimp only
  iapply (ld c (M := Memref.whole cc2_stg13_0) (Memref.readAt_unit_zero (Elt F) cc2_stg13_0 off00 _ f13)) $$ H13; iintro H13
  iapply (st c (M := Memref.whole cc2_stg13_0) (Memref.write_access_unit_zero_univ (Elt F) cc2_stg13_0 off00 _ f13 _)) $$ H13; iintro H13
  iapply (ld c (M := Memref.whole cc2_stg14_0) (Memref.readAt_unit_zero (Elt F) cc2_stg14_0 off00 _ f14)) $$ H14; iintro H14
  iapply (st c (M := Memref.whole cc2_stg14_0) (Memref.write_access_unit_zero_univ (Elt F) cc2_stg14_0 off00 _ f14 _)) $$ H14; iintro H14
  rw [wp_pure]; imodintro
  iapply HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.Proof
-- ==== Proof.Sel.lean ====
/-
  The best three edges, away from any program. Every edge has a column, every column a similarity. One side picks, three
  times, a column at the largest similarity among those that some edge has and that are not picked yet, and reads off how
  many edges each has; the other side picks three distinct edges, each at the largest similarity among those left. When
  no two columns that edges have tie, the columns of the three edges are the picked ones, each as often as it has edges
  and places are left.
-/
module

public import proofs.«01_k».proof.Defs
public import Mathlib.Data.Finset.Card
public import Mathlib.Data.EReal.Operations

@[expose] public section

namespace Cert.Proof.Sel

variable {C I : Type} [DecidableEq C] [DecidableEq I] [Fintype I]

/-! ## Picking columns -/

/-- What a pass over the columns compares: the similarity of a column that edges have, `lo` for another, `lo'` for a column picked before. -/
structure Masked (s : C → EReal) (n : C → ℕ) (lo lo' : EReal) (X : C → Prop) (v : C → EReal) : Prop where
  picked : ∀ r, X r → v r = lo'
  present : ∀ r, ¬ X r → 0 < n r → v r = s r
  absent : ∀ r, ¬ X r → n r = 0 → v r = lo

/-- What the pass finds: a column that edges have, at the largest similarity of those not picked before; or that there is none. -/
structure Found (s : C → EReal) (n : C → ℕ) (X : C → Prop) (p : C) (M : EReal) : Prop where
  value : 0 < n p → M = s p
  fresh : 0 < n p → ¬ X p
  best : 0 < n p → ∀ r, ¬ X r → 0 < n r → s r ≤ s p
  none : n p = 0 → ∀ r, 0 < n r → X r

theorem found_of {s : C → EReal} {n : C → ℕ} {lo lo' : EReal} {X : C → Prop} {v : C → EReal} (hv : Masked s n lo lo' X v) (hlo : lo' < lo)
    (hs : ∀ r, 0 < n r → lo < s r) (hfree : ∃ r, ¬ X r ∧ n r = 0) {p : C} (hp : ∀ r, v r ≤ v p) : Found s n X p (v p) := by
  have hX : ¬ X p := fun h => by
    obtain ⟨r, hr, h0⟩ := hfree
    have h1 := hp r
    rw [hv.absent r hr h0, hv.picked p h] at h1
    exact absurd hlo (not_lt.2 h1)
  refine ⟨fun h => hv.present p hX h, fun _ => hX, fun h r hr h0 => ?_, fun h r h0 => ?_⟩
  · have h1 := hp r
    rwa [hv.present r hr h0, hv.present p hX h] at h1
  · by_contra hr
    have h1 := hp r
    rw [hv.present r hr h0, hv.absent p hX h] at h1
    exact absurd (hs r h0) (not_lt.2 h1)

/-! ## Picking edges -/

/-- How many edges have a column. -/
def count (et : I → C) (r : C) : ℕ := (Finset.univ.filter fun e => et e = r).card

theorem count_pos {et : I → C} {r : C} : 0 < count et r ↔ ∃ e, et e = r := by
  unfold count
  rw [Finset.card_pos]
  constructor
  · rintro ⟨e, he⟩; exact ⟨e, (Finset.mem_filter.1 he).2⟩
  · rintro ⟨e, he⟩; exact ⟨e, Finset.mem_filter.2 ⟨Finset.mem_univ _, he⟩⟩

theorem exists_left {et : I → C} {r : C} {T : Finset I} (h : T.card < count et r) : ∃ f, f ∉ T ∧ et f = r := by
  obtain ⟨f, hf, hT⟩ := Finset.exists_mem_notMem_of_card_lt_card h
  exact ⟨f, hT, (Finset.mem_filter.1 hf).2⟩

theorem all_taken {et : I → C} {r : C} {T : Finset I} (hT : ∀ e ∈ T, et e = r) (h : count et r ≤ T.card) {f : I} (hf : et f = r) : f ∈ T := by
  have hs : T ⊆ Finset.univ.filter fun e => et e = r := fun e he => Finset.mem_filter.2 ⟨Finset.mem_univ _, hT e he⟩
  rw [Finset.eq_of_subset_of_card_le hs h]
  exact Finset.mem_filter.2 ⟨Finset.mem_univ _, hf⟩

/-- The edge picked next, at the largest similarity of those not in `T`, has the column `p` if an edge not in `T` has it and none of them is better. -/
theorem next_eq {s : C → EReal} {et : I → C} (hinj : ∀ a b, (∃ e, et e = a) → (∃ e, et e = b) → s a = s b → a = b) {T : Finset I} {e : I}
    (he : e ∉ T) (hmax : ∀ f, f ∉ T → s (et f) ≤ s (et e)) {p : C} (hp : ∃ f, f ∉ T ∧ et f = p) (hb : ∀ f, f ∉ T → s (et f) ≤ s p) : et e = p := by
  obtain ⟨f, hf, rfl⟩ := hp
  exact hinj _ _ ⟨e, rfl⟩ ⟨f, rfl⟩ (le_antisymm (hb e he) (hmax f hf))

/-- How the three edges' columns `t` lie among the three picked columns `p`, with their numbers of edges. -/
inductive Outcome (n : C → ℕ) (p0 p1 p2 t0 t1 t2 : C) : Prop
  | three : 3 ≤ n p0 → t0 = p0 → t1 = p0 → t2 = p0 → Outcome n p0 p1 p2 t0 t1 t2
  | twoOne : n p0 = 2 → 1 ≤ n p1 → p1 ≠ p0 → t0 = p0 → t1 = p0 → t2 = p1 → Outcome n p0 p1 p2 t0 t1 t2
  | oneTwo : n p0 = 1 → 2 ≤ n p1 → p1 ≠ p0 → t0 = p0 → t1 = p1 → t2 = p1 → Outcome n p0 p1 p2 t0 t1 t2
  | ones : n p0 = 1 → n p1 = 1 → 1 ≤ n p2 → p1 ≠ p0 → p2 ≠ p0 → p2 ≠ p1 → t0 = p0 → t1 = p1 → t2 = p2 → Outcome n p0 p1 p2 t0 t1 t2

theorem outcome {s : C → EReal} {et : I → C} (hinj : ∀ a b, (∃ e, et e = a) → (∃ e, et e = b) → s a = s b → a = b)
    {p0 p1 p2 : C} {M0 M1 M2 : EReal} (f0 : Found s (count et) (fun _ => False) p0 M0) (f1 : Found s (count et) (fun r => r = p0) p1 M1)
    (f2 : Found s (count et) (fun r => r = p0 ∨ r = p1) p2 M2) {e0 e1 e2 : I} (h01 : e1 ≠ e0) (h02 : e2 ≠ e0) (h12 : e2 ≠ e1)
    (m0 : ∀ f, s (et f) ≤ s (et e0)) (m1 : ∀ f, f ≠ e0 → s (et f) ≤ s (et e1)) (m2 : ∀ f, f ≠ e0 → f ≠ e1 → s (et f) ≤ s (et e2)) :
    Outcome (count et) p0 p1 p2 (et e0) (et e1) (et e2) := by
  have pres : ∀ f, 0 < count et (et f) := fun f => count_pos.2 ⟨f, rfl⟩
  have c0 : 0 < count et p0 := Nat.pos_of_ne_zero fun h => f0.none h _ (pres e0)
  have b0 : ∀ f, s (et f) ≤ s p0 := fun f => f0.best c0 _ (fun h => h) (pres f)
  have t0 : et e0 = p0 := next_eq (T := ∅) hinj (by simp) (fun f _ => m0 f) (by simpa using count_pos.1 c0) (fun f _ => b0 f)
  have a1 : e1 ∉ ({e0} : Finset I) := by simpa using h01
  have m1' : ∀ f, f ∉ ({e0} : Finset I) → s (et f) ≤ s (et e1) := fun f h => m1 f (by simpa using h)
  have a2 : e2 ∉ ({e0, e1} : Finset I) := by simp [h02, h12]
  have m2' : ∀ f, f ∉ ({e0, e1} : Finset I) → s (et f) ≤ s (et e2) := fun f h => by
    simp only [Finset.mem_insert, Finset.mem_singleton, not_or] at h
    exact m2 f h.1 h.2
  have k2 : ({e0, e1} : Finset I).card = 2 := Finset.card_pair (Ne.symm h01)
  rcases Nat.lt_or_ge 1 (count et p0) with g0 | g0
  · have t1 : et e1 = p0 := next_eq hinj a1 m1' (exists_left (by simpa using g0)) (fun f _ => b0 f)
    rcases Nat.lt_or_ge 2 (count et p0) with g1 | g1
    · exact .three g1 t0 t1 (next_eq hinj a2 m2' (exists_left (by rw [k2]; exact g1)) (fun f _ => b0 f))
    · have hT : ∀ e ∈ ({e0, e1} : Finset I), et e = p0 := by simp [t0, t1]
      have off : ∀ f, f ∉ ({e0, e1} : Finset I) → et f ≠ p0 := fun f h e => h (all_taken hT (by rw [k2]; exact g1) e)
      have c1 : 0 < count et p1 := Nat.pos_of_ne_zero fun h => off e2 a2 (f1.none h _ (pres e2))
      have x1 : p1 ≠ p0 := f1.fresh c1
      obtain ⟨f, hf⟩ := count_pos.1 c1
      have hfT : f ∉ ({e0, e1} : Finset I) := fun h => x1 (hf ▸ hT f h)
      exact .twoOne (by omega) c1 x1 t0 t1 (next_eq hinj a2 m2' ⟨f, hfT, hf⟩ (fun f h => f1.best c1 _ (off f h) (pres f)))
  · have hT : ∀ e ∈ ({e0} : Finset I), et e = p0 := by simp [t0]
    have off : ∀ f, f ∉ ({e0} : Finset I) → et f ≠ p0 := fun f h e => h (all_taken hT (by simpa using g0) e)
    have c1 : 0 < count et p1 := Nat.pos_of_ne_zero fun h => off e1 a1 (f1.none h _ (pres e1))
    have x1 : p1 ≠ p0 := f1.fresh c1
    have t1 : et e1 = p1 := by
      obtain ⟨f, hf⟩ := count_pos.1 c1
      exact next_eq hinj a1 m1' ⟨f, fun h => x1 (hf ▸ hT f h), hf⟩ (fun f h => f1.best c1 _ (off f h) (pres f))
    have sub : ∀ f, f ∉ ({e0, e1} : Finset I) → f ∉ ({e0} : Finset I) := fun f h h' => h (by
      rw [Finset.mem_singleton] at h'; simp [h'])
    rcases Nat.lt_or_ge 1 (count et p1) with g1 | g1
    · obtain ⟨f, hf, hfp⟩ := exists_left (T := {e1}) (r := p1) (et := et) (by simpa using g1)
      have hf0 : f ≠ e0 := fun h => x1 (by rw [← hfp, h, t0])
      have hfT : f ∉ ({e0, e1} : Finset I) := by simp only [Finset.mem_singleton] at hf; simp [hf0, hf]
      exact .oneTwo (by omega) g1 x1 t0 t1 (next_eq hinj a2 m2' ⟨f, hfT, hfp⟩ (fun f h => f1.best c1 _ (off f (sub f h)) (pres f)))
    · have hT1 : ∀ e ∈ ({e1} : Finset I), et e = p1 := by simp [t1]
      have off1 : ∀ f, f ∉ ({e0, e1} : Finset I) → et f ≠ p1 := fun f h e => h (by
        have := all_taken hT1 (by simpa using g1) e
        rw [Finset.mem_singleton] at this; simp [this])
      have off2 : ∀ f, f ∉ ({e0, e1} : Finset I) → ¬ (et f = p0 ∨ et f = p1) := fun f h => not_or.2 ⟨off f (sub f h), off1 f h⟩
      have c2 : 0 < count et p2 := Nat.pos_of_ne_zero fun h => off2 e2 a2 (f2.none h _ (pres e2))
      have x2 := not_or.1 (f2.fresh c2)
      obtain ⟨f, hf⟩ := count_pos.1 c2
      have hfT : f ∉ ({e0, e1} : Finset I) := fun h => by
        simp only [Finset.mem_insert, Finset.mem_singleton] at h
        rcases h with rfl | rfl
        · exact x2.1 (hf ▸ t0)
        · exact x2.2 (hf ▸ t1)
      exact .ones (by omega) (by omega) c2 x1 x2.1 x2.2 t0 t1 (next_eq hinj a2 m2' ⟨f, hfT, hf⟩ (fun f h => f2.best c2 _ (off2 f h) (pres f)))

end Cert.Proof.Sel
-- ==== Proof.Counts.lean ====
/-
  The table of histograms summed over its rows counts the edges of every column.
-/
module

public import proofs.«01_k».proof.Proof.Setup
public import proofs.«01_k».proof.Proof.Sel
public import Idealize.ShloMosaic.Lib.Pointwise
public import Idealize.ShloMosaic.Lib.IdealHost
public import Idealize.ShloMosaic.Lib.WordCmp

@[expose] public section

noncomputable section

namespace Cert.Proof

open Cert.KernelIdeal Cert.KernelIdeal.Gen
open Idealize.ShloMosaic
open Idealize.ShloMosaic.WordCmp (cmpi_eq_ofNat addi_ofNat select_ofBool)
open Cert.Proof.Hist (total hit)

/-- A sum of words is the word of the sum. -/
theorem fold_addi_ofNat {ι : Type} (s : Finset ι) (g : ι → ℕ) :
    s.fold IntOp.addi 0#32 (fun x => BitVec.ofNat 32 (g x)) = BitVec.ofNat 32 (∑ x ∈ s, g x) := by
  classical
  induction s using Finset.induction_on with
  | empty => simp
  | insert a s ha ih => rw [Finset.fold_insert ha, ih, Finset.sum_insert ha]; exact addi_ofNat _ _

theorem total_mine (f : S800000.Idx → BitVec 32) (b : ℕ) : ∀ n, ∑ w ∈ Finset.range n, total (mine f w) 25000 b = total (word f) (25000 * n) b
  | 0 => by simp [total]
  | n + 1 => by
    rw [Finset.sum_range_succ, total_mine f b n, show 25000 * (n + 1) = 25000 * n + 25000 by ring]
    unfold total
    rw [Finset.sum_range_add]
    rfl

/-- The column of an edge. -/
def colOf (f : S800000.Idx → BitVec 32) (hf : ∀ j, (f j).toNat < 500) (e : Fin 800000) : Fin 512 := ⟨(f (ix1 e)).toNat, lt_trans (hf _) (by decide)⟩

theorem count_eq (f : S800000.Idx → BitVec 32) (hf : ∀ j, (f j).toNat < 500) (r : Fin 512) : Sel.count (colOf f hf) r = total (word f) 800000 r.val := by
  unfold Sel.count total
  rw [Finset.sum_range, Finset.card_filter]
  refine Finset.sum_congr rfl fun e _ => ?_
  rw [word_at f e.val (ix1 e) rfl]
  simp only [hit, colOf, Fin.ext_iff]

theorem count_le (f : S800000.Idx → BitVec 32) (hf : ∀ j, (f j).toNat < 500) (r : Fin 512) : Sel.count (colOf f hf) r ≤ 800000 := by
  rw [count_eq]; exact Hist.total_le _ _ _

theorem count_absent (f : S800000.Idx → BitVec 32) (hf : ∀ j, (f j).toNat < 500) (r : Fin 512) (h : 500 ≤ r.val) : Sel.count (colOf f hf) r = 0 := by
  by_contra h0
  obtain ⟨e, rfl⟩ := Sel.count_pos.1 (Nat.pos_of_ne_zero h0)
  exact absurd (hf (ix1 e)) (not_lt.2 h)

theorem hist_col (f : S800000.Idx → BitVec 32) (hf : ∀ j, (f j).toNat < 500) (r : Fin 512) :
    k2_pay2 (F := Ideal) (histTab f) (ix2 0 r) = BitVec.ofNat 32 (Sel.count (colOf f hf) r) := by
  have h : k2_pay2 (F := Ideal) (histTab f) (ix2 0 r) = Finset.univ.fold IntOp.addi 0#32 fun x : Fin 32 => BitVec.ofNat 32 (total (mine f x.val) 25000 r.val) := by
    pointwise [k2_pay2]
    rfl
  rw [h, fold_addi_ofNat, ← Finset.sum_range (fun w => total (mine f w) 25000 r.val), total_mine, count_eq]

end Cert.Proof
-- ==== Proof.KSel.lean ====
/-
  The three passes of the second TensorCore kernel over the columns, in exact arithmetic: each picks a column at the
  largest similarity left and reads off how many edges it has.
-/
module

public import proofs.«01_k».proof.Proof.Fuse
public import proofs.«01_k».proof.Proof.Counts
public import proofs.«01_k».proof.Proof.SimsVal

@[expose] public section

noncomputable section

namespace Cert.Proof

open Cert.KernelIdeal Cert.KernelIdeal.Gen
open Idealize.ShloMosaic
open Idealize.ShloMosaic.WordCmp (cmpi_eq_ofNat cmpi_slt_ofNat cmpi_sgt_ofNat andi_ofBool select_ofBool)

/-! ## Folds -/

theorem fold_max_mem {ι : Type} [DecidableEq ι] (S : Finset ι) (f : ι → EReal) :
    (S.fold max ⊥ f = ⊥ ∨ ∃ x ∈ S, S.fold max ⊥ f = f x) ∧ ∀ x ∈ S, f x ≤ S.fold max ⊥ f := by
  induction S using Finset.induction_on with
  | empty => simp
  | insert a S ha ih =>
    rw [Finset.fold_insert ha]
    obtain ⟨h1, h2⟩ := ih
    constructor
    · rcases max_choice (f a) (S.fold max ⊥ f) with h | h
      · exact .inr ⟨a, Finset.mem_insert_self _ _, h⟩
      · rw [h]
        exact h1.imp id fun ⟨x, hx, e⟩ => ⟨x, Finset.mem_insert_of_mem hx, e⟩
    · intro x hx
      rcases Finset.mem_insert.1 hx with rfl | hx
      · exact le_max_left _ _
      · exact (h2 x hx).trans (le_max_right _ _)

theorem minsi_cases (a b : BitVec 32) : (IntOp.minsi a b = a ∨ IntOp.minsi a b = b) ∧ (IntOp.minsi a b).toInt ≤ a.toInt ∧ (IntOp.minsi a b).toInt ≤ b.toInt := by
  unfold IntOp.minsi
  rw [BitVec.slt_eq_decide]
  split <;> rename_i h <;> simp only [decide_eq_true_eq] at h
  · exact ⟨.inl rfl, le_refl _, h.le⟩
  · exact ⟨.inr rfl, not_lt.1 h, le_refl _⟩

theorem fold_minsi_mem {ι : Type} [DecidableEq ι] (S : Finset ι) (b : BitVec 32) (f : ι → BitVec 32) :
    (S.fold IntOp.minsi b f = b ∨ ∃ x ∈ S, S.fold IntOp.minsi b f = f x) ∧ ∀ x ∈ S, (S.fold IntOp.minsi b f).toInt ≤ (f x).toInt := by
  induction S using Finset.induction_on with
  | empty => simp
  | insert a S ha ih =>
    rw [Finset.fold_insert ha]
    obtain ⟨h1, h2⟩ := ih
    obtain ⟨h, hl, hr⟩ := minsi_cases (f a) (S.fold IntOp.minsi b f)
    constructor
    · rcases h with h | h
      · exact .inr ⟨a, Finset.mem_insert_self _ _, h⟩
      · rw [h]
        exact h1.imp id fun ⟨x, hx, e⟩ => ⟨x, Finset.mem_insert_of_mem hx, e⟩
    · intro x hx
      rcases Finset.mem_insert.1 hx with rfl | hx
      · exact hl
      · exact hr.trans (h2 x hx)

theorem toInt_col (p : Fin 512) : (BitVec.ofNat 32 p.val).toInt = p.val :=
  WordCmp.toInt_ofNat_of_lt (by have := p.isLt; omega)

/-- The largest of the columns' values, and the least column that has it. -/
theorem least_max (v : Fin 512 → EReal) :
    ∃ p : Fin 512, Finset.univ.fold IntOp.minsi 2147483647#32 (fun x : Fin 1 × Fin 512 =>
        if v x.2 = Finset.univ.fold max ⊥ (fun x : Fin 1 × Fin 512 => v x.2) then BitVec.ofNat 32 x.2.val else 512#32) = BitVec.ofNat 32 p.val
      ∧ Finset.univ.fold max ⊥ (fun x : Fin 1 × Fin 512 => v x.2) = v p ∧ ∀ r, v r ≤ v p := by
  obtain ⟨h1, h2⟩ := fold_max_mem Finset.univ (fun x : Fin 1 × Fin 512 => v x.2)
  generalize Finset.univ.fold max ⊥ (fun x : Fin 1 × Fin 512 => v x.2) = M at *
  have h2' : ∀ r, v r ≤ M := fun r => h2 (0, r) (Finset.mem_univ _)
  obtain ⟨q, hq⟩ : ∃ q : Fin 512, v q = M := by
    rcases h1 with h | ⟨x, -, h⟩
    · exact ⟨0, le_antisymm (h2' 0) (h ▸ bot_le)⟩
    · exact ⟨x.2, h.symm⟩
  obtain ⟨h3, h4⟩ := fold_minsi_mem Finset.univ 2147483647#32 (fun x : Fin 1 × Fin 512 => if v x.2 = M then BitVec.ofNat 32 x.2.val else 512#32)
  generalize Finset.univ.fold IntOp.minsi 2147483647#32 (fun x : Fin 1 × Fin 512 => if v x.2 = M then BitVec.ofNat 32 x.2.val else 512#32) = w at *
  have hw := h4 (0, q) (Finset.mem_univ _)
  rw [if_pos hq, toInt_col] at hw
  have hq2 := q.isLt
  rcases h3 with rfl | ⟨x, -, hx⟩
  · exact absurd hw (by have : (2147483647#32 : BitVec 32).toInt = 2147483647 := by decide
                        simp only at hw; omega)
  · split at hx
    · rename_i hp
      exact ⟨x.2, hx, hp.symm, fun r => hp ▸ h2' r⟩
    · subst hx
      exact absurd hw (by have : (512#32 : BitVec 32).toInt = 512 := by decide
                          simp only at hw; omega)

/-! ## One pass -/

/-- The mask of the columns at the largest value. -/
abbrev maskOf (v : S1x512.Idx → EReal) (M : EReal) : IVec S1x512 1 := cmpf (F := Ideal) (φ := .f32) .oeq v (broadcast S1x512 M)

theorem pass_pick (v : S1x512.Idx → EReal) (M : EReal) (hM : M = Finset.univ.fold max (Ideal.ofBits .f32 0xFF800000#32) (fun x : Fin 1 × Fin 512 => v (ix2 0 x.2))) :
    ∃ p : Fin 512, extractAt ![0, 0, 0] (k2_pay10 cols (maskOf v M)) inpos_S1x1x1_p0_0_0 = BitVec.ofNat 32 p.val ∧ M = v (ix2 0 p) ∧ ∀ r : Fin 512, v (ix2 0 r) ≤ v (ix2 0 p) := by
  rw [ofBits_bot] at hM
  obtain ⟨p, h1, h2, h3⟩ := least_max fun r => v (ix2 0 r)
  refine ⟨p, Eq.trans ?_ h1, hM.trans h2, h3⟩
  rw [← hM]
  pointwise [k2_pay10]
  done

theorem pass_num (h : S1x512.Idx → BitVec 32) (n : Fin 512 → ℕ) (hn : ∀ r, h (ix2 0 r) = BitVec.ofNat 32 (n r)) (mk : IVec S1x512 1) (p : Fin 512)
    (hp : extractAt ![0, 0, 0] (k2_pay10 cols mk) inpos_S1x1x1_p0_0_0 = BitVec.ofNat 32 p.val) :
    extractAt ![0, 0, 0] (k2_pay11 h cols mk) inpos_S1x1x1_p0_0_0 = BitVec.ofNat 32 (n p) := by
  have hp' : k2_pay10 cols mk (ix3 0 0 0) = BitVec.ofNat 32 p.val := by rw [← hp]; pointwise
  have e : extractAt ![0, 0, 0] (k2_pay11 h cols mk) inpos_S1x1x1_p0_0_0
      = Finset.univ.fold IntOp.addi 0#32 fun x : Fin 1 × Fin 512 => BitVec.ofNat 32 (if x.2 = p then n x.2 else 0) := by
    have hx : ∀ x : Fin 512, IntOp.cmpi .eq (BitVec.ofNat 32 x.val) (BitVec.ofNat 32 p.val) = BitVec.ofBool (decide (x = p)) := fun x => by
      rw [cmpi_eq_ofNat (by have := x.isLt; omega) (by have := p.isLt; omega)]; simp only [Fin.ext_iff]
    pointwise [k2_pay11]
    simp only [hp', hx, hn, select_ofBool, decide_eq_true_eq]
    refine Finset.fold_congr fun x _ => ?_
    split <;> rfl
  rw [e, fold_addi_ofNat]
  refine congrArg (BitVec.ofNat 32) ?_
  rw [Fintype.sum_prod_type, Fin.sum_univ_one]
  simp only [Finset.sum_ite_eq', Finset.mem_univ, if_true]

theorem pass_next (v : S1x512.Idx → EReal) (mk : IVec S1x512 1) (p : Fin 512)
    (hp : extractAt ![0, 0, 0] (k2_pay10 cols mk) inpos_S1x1x1_p0_0_0 = BitVec.ofNat 32 p.val) (r : Fin 512) :
    (k2_pay12 (F := Ideal) cols v mk (ix2 0 r) : EReal) = if r = p then lo' else v (ix2 0 r) := by
  have hp' : k2_pay10 cols mk (ix3 0 0 0) = BitVec.ofNat 32 p.val := by rw [← hp]; pointwise
  have hx : IntOp.cmpi .eq (BitVec.ofNat 32 r.val) (BitVec.ofNat 32 p.val) = BitVec.ofBool (decide (r = p)) := by
    rw [cmpi_eq_ofNat (by have := r.isLt; omega) (by have := p.isLt; omega)]; simp only [Fin.ext_iff]
  pointwise [k2_pay12]
  simp only [hp', hx, select_ofBool, decide_eq_true_eq]
  rfl

/-! ## The three passes -/

variable (h : S32x512.Idx → BitVec 32) (s : S1x512.Idx → EReal)

/-- What the three passes find: the picked columns, how many edges each has, and the similarities. -/
structure Passes (n : Fin 512 → ℕ) (p0 p1 p2 : Fin 512) : Prop where
  pick0 : pick0 (F := Ideal) h s = BitVec.ofNat 32 p0.val
  pick1 : pick1 (F := Ideal) h s = BitVec.ofNat 32 p1.val
  pick2 : pick2 (F := Ideal) h s = BitVec.ofNat 32 p2.val
  num0 : num0 (F := Ideal) h s = BitVec.ofNat 32 (n p0)
  num1 : num1 (F := Ideal) h s = BitVec.ofNat 32 (n p1)
  num2 : num2 (F := Ideal) h s = BitVec.ofNat 32 (n p2)
  found0 : Sel.Found (fun r => s (ix2 0 r)) n (fun _ => False) p0 (k2_pay4 (F := Ideal) h s)
  found1 : Sel.Found (fun r => s (ix2 0 r)) n (fun r => r = p0) p1 (k2_pay8 (F := Ideal) h s)
  found2 : Sel.Found (fun r => s (ix2 0 r)) n (fun r => r = p0 ∨ r = p1) p2 (k2_pay13 (F := Ideal) cols (k2_pay7 (F := Ideal) h s) (k2_pay9 (F := Ideal) h s))

theorem passes (n : Fin 512 → ℕ) (hn : ∀ r, k2_pay2 (F := Ideal) h (ix2 0 r) = BitVec.ofNat 32 (n r)) (hle : ∀ r, n r ≤ 800000)
    (habs : ∀ r : Fin 512, 500 ≤ r.val → n r = 0) (hs : ∀ r, 0 < n r → lo < s (ix2 0 r)) : ∃ p0 p1 p2, Passes h s n p0 p1 p2 := by
  have m0 : ∀ r, (k2_pay3 (F := Ideal) h s (ix2 0 r) : EReal) = if 0 < n r then s (ix2 0 r) else lo := fun r => by
    have hr := r.isLt
    have hnr := hle r
    have e1 : IntOp.cmpi .sgt (BitVec.ofNat 32 (n r)) 0#32 = BitVec.ofBool (decide (0 < n r)) := cmpi_sgt_ofNat (by omega) (by omega)
    have e2 : IntOp.cmpi .slt (BitVec.ofNat 32 r.val) 500#32 = BitVec.ofBool (decide (r.val < 500)) := cmpi_slt_ofNat (by omega) (by omega)
    pointwise [k2_pay3]
    rw [hn, e1, e2, andi_ofBool, select_ofBool]
    by_cases h0 : 0 < n r
    · have : r.val < 500 := by by_contra hc; rw [habs r (not_lt.1 hc)] at h0; exact absurd h0 (lt_irrefl _)
      simp [h0, this]
    · simp [h0, lo]
  have M0 : Sel.Masked (fun r => s (ix2 0 r)) n lo lo' (fun _ => False) (fun r => k2_pay3 (F := Ideal) h s (ix2 0 r)) :=
    ⟨fun _ hf => hf.elim, fun r _ h0 => by rw [m0, if_pos h0], fun r _ h0 => by rw [m0, if_neg (by omega)]⟩
  obtain ⟨p0, hp0, hv0, hb0⟩ := pass_pick (k2_pay3 (F := Ideal) h s) (k2_pay4 (F := Ideal) h s) (by pointwise [k2_pay4]; done)
  have m1 : ∀ r, (k2_pay7 (F := Ideal) h s (ix2 0 r) : EReal) = if r = p0 then lo' else k2_pay3 (F := Ideal) h s (ix2 0 r) :=
    pass_next (k2_pay3 (F := Ideal) h s) _ p0 hp0
  have M1 : Sel.Masked (fun r => s (ix2 0 r)) n lo lo' (fun r => r = p0) (fun r => k2_pay7 (F := Ideal) h s (ix2 0 r)) :=
    ⟨fun r hr => by rw [m1, if_pos hr], fun r hr h0 => by rw [m1, if_neg hr]; exact M0.present r id h0,
      fun r hr h0 => by rw [m1, if_neg hr]; exact M0.absent r id h0⟩
  obtain ⟨p1, hp1, hv1, hb1⟩ := pass_pick (k2_pay7 (F := Ideal) h s) (k2_pay8 (F := Ideal) h s) (by pointwise [k2_pay8]; done)
  have m2 : ∀ r, (k2_pay12 (F := Ideal) cols (k2_pay7 (F := Ideal) h s) (k2_pay9 (F := Ideal) h s) (ix2 0 r) : EReal) = if r = p1 then lo' else k2_pay7 (F := Ideal) h s (ix2 0 r) :=
    pass_next (k2_pay7 (F := Ideal) h s) _ p1 hp1
  have M2 : Sel.Masked (fun r => s (ix2 0 r)) n lo lo' (fun r => r = p0 ∨ r = p1)
      (fun r => k2_pay12 (F := Ideal) cols (k2_pay7 (F := Ideal) h s) (k2_pay9 (F := Ideal) h s) (ix2 0 r)) := by
    refine ⟨fun r hr => ?_, fun r hr h0 => ?_, fun r hr h0 => ?_⟩ <;> simp only [m2]
    · split
      · rfl
      · exact M1.picked r (hr.resolve_right ‹_›)
    · rw [if_neg fun e => hr (.inr e)]; exact M1.present r (fun e => hr (.inl e)) h0
    · rw [if_neg fun e => hr (.inr e)]; exact M1.absent r (fun e => hr (.inl e)) h0
  obtain ⟨p2, hp2, hv2, hb2⟩ := pass_pick (k2_pay12 (F := Ideal) cols (k2_pay7 (F := Ideal) h s) (k2_pay9 (F := Ideal) h s))
    (k2_pay13 (F := Ideal) cols (k2_pay7 (F := Ideal) h s) (k2_pay9 (F := Ideal) h s)) (by pointwise [k2_pay13]; done)
  have free : ∃ r : Fin 512, ¬ (r = p0 ∨ r = p1) ∧ n r = 0 := by
    by_cases a : (⟨500, by decide⟩ : Fin 512) = p0 ∨ (⟨500, by decide⟩ : Fin 512) = p1
    · by_cases b : (⟨501, by decide⟩ : Fin 512) = p0 ∨ (⟨501, by decide⟩ : Fin 512) = p1
      · refine ⟨⟨502, by decide⟩, ?_, habs _ (by decide)⟩
        simp only [Fin.ext_iff] at *; omega
      · exact ⟨_, b, habs _ (by decide)⟩
    · exact ⟨_, a, habs _ (by decide)⟩
  refine ⟨p0, p1, p2, ⟨hp0, hp1, hp2, ?_, ?_, ?_, ?_, ?_, ?_⟩⟩
  · exact pass_num _ n hn _ p0 hp0
  · exact pass_num _ n hn _ p1 hp1
  · exact pass_num _ n hn _ p2 hp2
  · rw [hv0]; exact Sel.found_of M0 lo'_lt hs (free.imp fun r hr => ⟨id, hr.2⟩) hb0
  · rw [hv1]; exact Sel.found_of M1 lo'_lt hs (free.imp fun r hr => ⟨fun e => hr.1 (.inl e), hr.2⟩) hb1
  · rw [hv2]; exact Sel.found_of M2 lo'_lt hs free hb2

end Cert.Proof
-- ==== Proof.KFin.lean ====
/-
  The shares of the three picked columns in the best three edges, in exact arithmetic: the average similarity is that of
  the three edges, and the sum over the picked columns that have a share is the sum over the edges' different columns.
-/
module

public import proofs.«01_k».proof.Proof.KSel

@[expose] public section

noncomputable section

namespace Cert.Proof

open Cert.KernelIdeal Cert.KernelIdeal.Gen
open Idealize.ShloMosaic

theorem minsi_ofNat {a b : ℕ} (ha : a < 2 ^ 31) (hb : b < 2 ^ 31) : Scalar.minsi (BitVec.ofNat 32 a) (BitVec.ofNat 32 b) = BitVec.ofNat 32 (min a b) := by
  show (if (BitVec.ofNat 32 a).slt (BitVec.ofNat 32 b) then BitVec.ofNat 32 a else BitVec.ofNat 32 b) = _
  rw [BitVec.slt_eq_decide, WordCmp.toInt_ofNat_of_lt (by omega), WordCmp.toInt_ofNat_of_lt (by omega)]
  rcases Nat.lt_or_ge a b with h | h
  · rw [if_pos (by simpa using h), Nat.min_eq_left h.le]
  · rw [if_neg (by simpa using h), Nat.min_eq_right h]

variable {n : Fin 512 → ℕ} {p0 p1 p2 t0 t1 t2 : Fin 512}

/-- The shares, in the four ways the three edges can lie. -/
theorem takes_of (hle : ∀ r, n r ≤ 800000) (o : Sel.Outcome n p0 p1 p2 t0 t1 t2) :
    let a := take0 (BitVec.ofNat 32 (n p0))
    let b := take1 (BitVec.ofNat 32 (n p0)) (BitVec.ofNat 32 (n p1))
    let c := take2 (BitVec.ofNat 32 (n p0)) (BitVec.ofNat 32 (n p1)) (BitVec.ofNat 32 (n p2))
    (a = 3#32 ∧ b = 0#32 ∧ c = 0#32 ∧ 0 < n p0 ∧ t0 = p0 ∧ t1 = p0 ∧ t2 = p0)
    ∨ (a = 2#32 ∧ b = 1#32 ∧ c = 0#32 ∧ 0 < n p0 ∧ 0 < n p1 ∧ p1 ≠ p0 ∧ t0 = p0 ∧ t1 = p0 ∧ t2 = p1)
    ∨ (a = 1#32 ∧ b = 2#32 ∧ c = 0#32 ∧ 0 < n p0 ∧ 0 < n p1 ∧ p1 ≠ p0 ∧ t0 = p0 ∧ t1 = p1 ∧ t2 = p1)
    ∨ (a = 1#32 ∧ b = 1#32 ∧ c = 1#32 ∧ 0 < n p0 ∧ 0 < n p1 ∧ 0 < n p2 ∧ p1 ≠ p0 ∧ p2 ≠ p0 ∧ p2 ≠ p1 ∧ t0 = p0 ∧ t1 = p1 ∧ t2 = p2) := by
  intro a b c
  have l0 := hle p0; have l1 := hle p1; have l2 := hle p2
  have ea : a = BitVec.ofNat 32 (min (n p0) 3) := minsi_ofNat (by omega) (by omega)
  have eb : ∀ k, k ≤ 3 → a = BitVec.ofNat 32 k → b = BitVec.ofNat 32 (min (n p1) (3 - k)) := fun k hk h => by
    rw [← minsi_ofNat (by omega) (by omega)]
    show Scalar.minsi _ (Scalar.subi 3#32 a) = _
    rw [h]; congr 1; interval_cases k <;> rfl
  have ec : ∀ k l, k + l ≤ 3 → a = BitVec.ofNat 32 k → b = BitVec.ofNat 32 l → c = BitVec.ofNat 32 (min (n p2) (3 - k - l)) := fun k l hk h h' => by
    rw [← minsi_ofNat (by omega) (by omega)]
    show Scalar.minsi _ (Scalar.subi (Scalar.subi 3#32 a) b) = _
    rw [h, h']; congr 1
    have : k ≤ 3 := by omega
    have : l ≤ 3 := by omega
    interval_cases k <;> interval_cases l <;> first | rfl | omega
  rcases o with ⟨h0, e0, e1, e2⟩ | ⟨h0, h1, d, e0, e1, e2⟩ | ⟨h0, h1, d, e0, e1, e2⟩ | ⟨h0, h1, h2, d, d', d'', e0, e1, e2⟩
  · have A : a = BitVec.ofNat 32 3 := by rw [ea, Nat.min_eq_right h0]
    have B : b = BitVec.ofNat 32 0 := by rw [eb 3 le_rfl A, Nat.min_eq_right (by omega)]
    have C : c = BitVec.ofNat 32 0 := by rw [ec 3 0 (by omega) A B, Nat.min_eq_right (by omega)]
    exact .inl ⟨A, B, C, by omega, e0, e1, e2⟩
  · have A : a = BitVec.ofNat 32 2 := by rw [ea, h0]; rfl
    have B : b = BitVec.ofNat 32 1 := by rw [eb 2 (by omega) A, Nat.min_eq_right (by omega)]
    have C : c = BitVec.ofNat 32 0 := by rw [ec 2 1 (by omega) A B, Nat.min_eq_right (by omega)]
    exact .inr (.inl ⟨A, B, C, by omega, by omega, d, e0, e1, e2⟩)
  · have A : a = BitVec.ofNat 32 1 := by rw [ea, h0]; rfl
    have B : b = BitVec.ofNat 32 2 := by rw [eb 1 (by omega) A, Nat.min_eq_right (by omega)]
    have C : c = BitVec.ofNat 32 0 := by rw [ec 1 2 (by omega) A B, Nat.min_eq_right (by omega)]
    exact .inr (.inr (.inl ⟨A, B, C, by omega, by omega, d, e0, e1, e2⟩))
  · have A : a = BitVec.ofNat 32 1 := by rw [ea, h0]; rfl
    have B : b = BitVec.ofNat 32 1 := by rw [eb 1 (by omega) A, h1]; rfl
    have C : c = BitVec.ofNat 32 1 := by rw [ec 1 1 (by omega) A B, Nat.min_eq_right (by omega)]
    exact .inr (.inr (.inr ⟨A, B, C, by omega, by omega, by omega, d, d', d'', e0, e1, e2⟩))

/-! ## The average and the weights -/

theorem mul_two' (x : EReal) : x * ((2 : ℝ) : EReal) = x + x := by
  rw [show (2 : ℝ) = 1 + 1 by norm_num, EReal.coe_add, EReal.left_distrib_of_nonneg (by norm_num) (by norm_num)]
  simp
theorem mul_three' (x : EReal) : x * ((3 : ℝ) : EReal) = x + x + x := by
  rw [show (3 : ℝ) = 2 + 1 by norm_num, EReal.coe_add, EReal.left_distrib_of_nonneg (by norm_num) (by norm_num), mul_two']
  simp

theorem toInt_0 : (((0#32 : BitVec 32).toInt : ℝ) : EReal) = 0 := by simp
theorem toInt_1 : (((1#32 : BitVec 32).toInt : ℝ) : EReal) = 1 := by
  rw [show (1#32 : BitVec 32).toInt = 1 by decide]; simp
theorem toInt_2 : (((2#32 : BitVec 32).toInt : ℝ) : EReal) = ((2 : ℝ) : EReal) := by
  rw [show (2#32 : BitVec 32).toInt = 2 by decide]; simp
theorem toInt_3 : (((3#32 : BitVec 32).toInt : ℝ) : EReal) = ((3 : ℝ) : EReal) := by
  rw [show (3#32 : BitVec 32).toInt = 3 by decide]; simp

variable {h : S32x512.Idx → BitVec 32} {s : S1x512.Idx → EReal}

theorem avg_at (P : Passes h s n p0 p1 p2) (hle : ∀ r, n r ≤ 800000) (o : Sel.Outcome n p0 p1 p2 t0 t1 t2) :
    (avgOf (F := Ideal) h s : EReal) = Ideal.div (s (ix2 0 t0) + s (ix2 0 t1) + s (ix2 0 t2)) (Ideal.ofBits .f32 0x40400000#32) := by
  have e : (avgOf (F := Ideal) h s : EReal) = Ideal.div (k2_pay4 (F := Ideal) h s * (((tk0 (F := Ideal) h s).toInt : ℝ) : EReal)
      + k2_pay8 (F := Ideal) h s * (((tk1 (F := Ideal) h s).toInt : ℝ) : EReal)
      + k2_pay13 (F := Ideal) cols (k2_pay7 (F := Ideal) h s) (k2_pay9 (F := Ideal) h s) * (((tk2 (F := Ideal) h s).toInt : ℝ) : EReal)) (Ideal.ofBits .f32 0x40400000#32) := by
    pointwise [avgOf, k2_pay16, k2_pay17]
    rfl
  rw [e]
  congr 1
  have T := takes_of hle o
  unfold tk0 tk1 tk2
  rw [P.num0, P.num1, P.num2]
  rcases T with ⟨a, b, c, c0, rfl, rfl, rfl⟩ | ⟨a, b, c, c0, c1, -, rfl, rfl, rfl⟩ | ⟨a, b, c, c0, c1, -, rfl, rfl, rfl⟩ | ⟨a, b, c, c0, c1, c2, -, -, -, rfl, rfl, rfl⟩
  · rw [a, b, c, P.found0.value c0, toInt_0, toInt_3, mul_three', mul_zero, mul_zero, add_zero, add_zero]
  · rw [a, b, c, P.found0.value c0, P.found1.value c1, toInt_0, toInt_1, toInt_2, mul_two', mul_zero, mul_one, add_zero]
  · rw [a, b, c, P.found0.value c0, P.found1.value c1, toInt_0, toInt_1, toInt_2, mul_two', mul_zero, mul_one, add_zero, add_assoc]
  · rw [a, b, c, P.found0.value c0, P.found1.value c1, P.found2.value c2, toInt_1, mul_one, mul_one, mul_one]

/-- One for an edge whose column no edge before it has. -/
def first1 (t0 t1 : Fin 512) : EReal := if t1 = t0 then 0 else 1
def first2 (t0 t1 t2 : Fin 512) : EReal := if t2 = t0 ∨ t2 = t1 then 0 else 1

theorem weight_zero : (k2_pay18 (F := Ideal) 0#32 : EReal) = 0 := by pointwise [k2_pay18]; rfl
theorem weight_pos {w : BitVec 32} (hw : (0#32).slt w = true) : (k2_pay18 (F := Ideal) w : EReal) = 1 := by
  pointwise [k2_pay18]
  show (if BitVec.ofBool ((0#32).slt w) = 1 then (1 : EReal) else 0) = 1
  rw [hw]; rfl

theorem weights_at (P : Passes h s n p0 p1 p2) (hle : ∀ r, n r ≤ 800000) (o : Sel.Outcome n p0 p1 p2 t0 t1 t2) (g : Fin 512 → EReal) :
    g p0 * k2_pay18 (F := Ideal) (tk0 (F := Ideal) h s) + g p1 * k2_pay19 (F := Ideal) (tk1 (F := Ideal) h s) + g p2 * k2_pay20 (F := Ideal) (tk2 (F := Ideal) h s)
      = g t0 * 1 + g t1 * first1 t0 t1 + g t2 * first2 t0 t1 t2 := by
  have T := takes_of hle o
  show g p0 * k2_pay18 (F := Ideal) (tk0 (F := Ideal) h s) + g p1 * k2_pay18 (F := Ideal) (tk1 (F := Ideal) h s) + g p2 * k2_pay18 (F := Ideal) (tk2 (F := Ideal) h s) = _
  unfold tk0 tk1 tk2
  rw [P.num0, P.num1, P.num2]
  rcases T with ⟨a, b, c, -, rfl, rfl, rfl⟩ | ⟨a, b, c, -, -, d, rfl, rfl, rfl⟩ | ⟨a, b, c, -, -, d, rfl, rfl, rfl⟩ | ⟨a, b, c, -, -, -, d, d', d'', rfl, rfl, rfl⟩
  · rw [a, b, c, weight_zero, weight_pos (by decide), first1, first2, if_pos rfl, if_pos (.inl rfl)]; simp
  · rw [a, b, c, weight_zero, weight_pos (by decide), weight_pos (by decide), first1, first2, if_pos rfl, if_neg (by simpa using d)]; simp
  · rw [a, b, c, weight_zero, weight_pos (by decide), weight_pos (by decide), first1, first2, if_neg d, if_pos (.inr rfl)]; simp
  · rw [a, b, c, weight_pos (by decide), first1, first2, if_neg d, if_neg (by simp [d', d''])]

theorem weight_sum (P : Passes h s n p0 p1 p2) (hle : ∀ r, n r ≤ 800000) (o : Sel.Outcome n p0 p1 p2 t0 t1 t2) :
    (k2_pay21 (F := Ideal) (tk0 (F := Ideal) h s) (tk1 (F := Ideal) h s) (tk2 (F := Ideal) h s) : EReal) = 1 + first1 t0 t1 + first2 t0 t1 t2 := by
  have e := weights_at P hle o (fun _ => 1)
  simp only [one_mul] at e
  rw [← e]
  pointwise [k2_pay21]
  done

end Cert.Proof
-- ==== Proof.RefVal.lean ====
/-
  The reference in exact arithmetic: the similarity of every edge, the best three edges, their columns, and which of them
  are the first of their column.
-/
module

public import proofs.«01_k».proof.Proof.SimsVal
public import proofs.«01_k».proof.Proof.KFin
public import proofs.«01_k».proof.Proof.Gen.ReferenceIdeal.Run
public import Idealize.ShloMosaic.Lib.SortFacts
public import Idealize.ShloMosaic.Lib.DynamicIndex
public import Idealize.ShloMosaic.Lib.Routing.OpsOne
public import Idealize.ShloMosaic.Lib.Routing.OpsSet
public import Idealize.ShloMosaic.Lib.Routing.Ops

@[expose] public section

noncomputable section

namespace Cert.Proof

open Idealize.ShloMosaic
open Idealize.ShloMosaic.WordCmp (select_ofBool)

/-! ## The best three -/

theorem gt_eq (a b : EReal) : (FloatOps.cmpfTotal (F := Ideal) (φ := .f32) .gt a b == 1#1) = decide (b < a) := by
  show (BitVec.ofBool (decide (b < a)) == 1#1) = decide (b < a)
  by_cases h : b < a <;> simp [h]

theorem along1 {N : ℕ} (j : (⟨1, ![N]⟩ : Shape).Idx) (k : Fin N) : j.along 0 k = ix1 k := by
  funext a
  obtain rfl : a = 0 := Subsingleton.elim _ _
  rfl

/-- The greatest three values and their places: the places are the first three of an order of all places in which no value rises. -/
theorem topK_at {N : ℕ} (hN : 3 ≤ N) (x : (⟨1, ![N]⟩ : Shape).Idx → EReal) (h : (⟨1, ![N]⟩ : Shape).Slices (fun _ => 0) ⟨1, ![3]⟩) :
    ∃ σ : Fin N → Fin N, Function.Injective σ ∧ Function.Surjective σ ∧ (∀ i j, i < j → x (ix1 (σ j)) ≤ x (ix1 (σ i)))
      ∧ ∀ k : Fin 3, (Host.topK ⟨1, ![3]⟩ 0 (FloatOps.cmpfTotal (F := Ideal) (φ := .f32) .gt) x h).1 (ix1 k) = x (ix1 (σ (Fin.castLE hN k)))
        ∧ (Host.topK ⟨1, ![3]⟩ 0 (FloatOps.cmpfTotal (F := Ideal) (φ := .f32) .gt) x h).2 (ix1 k) = BitVec.ofNat 32 (σ (Fin.castLE hN k)).val := by
  have hR : ∀ j : (⟨1, ![N]⟩ : Shape).Idx, (fun k k' : Fin N => FloatOps.cmpfTotal (F := Ideal) (φ := .f32) .gt (x (j.along 0 k)) (x (j.along 0 k')) == 1#1)
      = fun k k' => decide (x (ix1 k') < x (ix1 k)) := fun j => by
    funext k k'; rw [along1, along1, gt_eq]
  have key : ∀ (k : Fin 3) (j : (⟨1, ![N]⟩ : Shape).Idx), j 0 = Fin.castLE hN k →
      sortedFrom (fun k k' : Fin N => FloatOps.cmpfTotal (F := Ideal) (φ := .f32) .gt (x (j.along 0 k)) (x (j.along 0 k')) == 1#1) (j 0)
        = sortedFrom (fun k k' => decide (x (ix1 k') < x (ix1 k))) (Fin.castLE hN k) := fun k j hj => by
    rw [hj]; exact congrFun (congrArg sortedFrom (hR j)) _
  refine ⟨sortedFrom fun k k' => decide (x (ix1 k') < x (ix1 k)), sortedFrom_injective _, sortedFrom_surjective _, fun i j hij => ?_, fun k => ⟨?_, ?_⟩⟩
  · have := sortedFrom_noInversion (fun k k' => decide (x (ix1 k') < x (ix1 k))) (fun k k' => decide (x (ix1 k') < x (ix1 k)))
      (fun a b h => by simp only [decide_eq_true_eq, decide_eq_false_iff_not] at *; exact not_lt.2 h.le) (fun a b h => h)
      (fun a b c h1 h2 => by simp only [decide_eq_false_iff_not, not_lt] at *; exact h1.trans h2) i j hij
    simpa using this
  · simp only [Host.topK, Host.sort2, extractStridedSlice]
    rw [dif_pos (by exact Nat.zero_lt_one)]
    exact congrArg x ((along1 _ _).trans (congrArg ix1 (key k _ (Fin.ext (Nat.zero_add _)))))
  · simp only [Host.topK, Host.sort2, extractStridedSlice]
    rw [dif_pos (by exact Nat.zero_lt_one)]
    exact congrArg (fun f : Fin N => BitVec.ofNat 32 f.val) ((congrFun (along1 _ _) 0).trans (key k _ (Fin.ext (Nat.zero_add _))))

/-! ## The reference's own values -/

open Cert.ReferenceIdeal Cert.ReferenceIdeal.Gen Cert.ReferenceIdeal.Value
open Idealize.ShloMosaic.TcCoe Idealize.ShloMosaic.StableHlo

variable (V : Valuation τ sig (Elt Ideal))

/-- The arguments that the values below read. -/
abbrev embR : (⟨2, ![500, 64]⟩ : Shape).Idx → EReal := V (Proc.devRef .tc main_arg6)
abbrev encR : (⟨2, ![500, 64]⟩ : Shape).Idx → EReal := V (Proc.devRef .tc main_arg5)
abbrev edgR : (⟨1, ![800000]⟩ : Shape).Idx → BitVec 32 := V (Proc.devRef .tc main_arg1)
abbrev qryR : (⟨0, ![]⟩ : Shape).Idx → BitVec 32 := V (Proc.devRef .tc main_arg3)

variable (q : Fin 500) (hq : ∀ j, qryR V j = BitVec.ofNat 32 q.val)

include hq in
theorem start_at : (select (cmpi .slt (qryR V) (constantI S_ 32 0#32)) (addi (qryR V) (constantI S_ 32 500#32)) (qryR V) : S_.Idx → BitVec 32) = fun _ => BitVec.ofNat 32 q.val := by
  funext j
  refine (Routing.wrap_of_lt (qryR V j) _ ?_).trans (hq j)
  rw [hq, BitVec.toNat_ofNat]; have := q.isLt; omega

theorem toInt_row (q : Fin 500) : (BitVec.ofNat 32 q.val).toInt = q.val := WordCmp.toInt_ofNat_of_lt (by have := q.isLt; omega)

theorem row_start (f : Fin 2 → Int) (h0 : f 0 = q.val) (h1 : f 1 = 0) (k : Fin 64) (x : (⟨2, ![500, 64]⟩ : Shape).Idx → EReal) (ht : (2 : ℕ) = 2)
    (a0 : Host.clampedStart ⟨2, ![500, 64]⟩ ⟨2, ![1, 64]⟩ ht f 0 < 500) (a1 : Host.clampedStart ⟨2, ![500, 64]⟩ ⟨2, ![1, 64]⟩ ht f 1 + k.val < 64) :
    x (ix2 ⟨Host.clampedStart ⟨2, ![500, 64]⟩ ⟨2, ![1, 64]⟩ ht f 0, a0⟩ ⟨Host.clampedStart ⟨2, ![500, 64]⟩ ⟨2, ![1, 64]⟩ ht f 1 + k.val, a1⟩) = x (ix2 q k) := by
  have e0 : Host.clampedStart ⟨2, ![500, 64]⟩ ⟨2, ![1, 64]⟩ ht f 0 = q.val := by
    show (min (max (f 0) 0) ((500 - 1 : ℕ) : Int)).toNat = _
    rw [h0]; have := q.isLt; omega
  have e1 : Host.clampedStart ⟨2, ![500, 64]⟩ ⟨2, ![1, 64]⟩ ht f 1 = 0 := by
    show (min (max (f 1) 0) ((64 - 64 : ℕ) : Int)).toNat = _
    rw [h1]; rfl
  congr 2
  · exact Fin.ext e0
  · exact Fin.ext (by simp only [e1, Nat.zero_add])

theorem zero_start (j : S_.Idx) : ((select (cmpi .slt (constantI S_ 32 0#32) (constantI S_ 32 0#32)) (addi (constantI S_ 32 0#32) (constantI S_ 32 64#32)) (constantI S_ 32 0#32) : S_.Idx → BitVec 32) j).toInt = 0 := by
  show (Scalar.select (IntOp.cmpi .slt 0#32 0#32) (IntOp.addi 0#32 64#32) 0#32).toInt = 0
  decide

include hq in
theorem v7_at (k : Fin 64) : (res_main_v7 V (ix1 k) : EReal) = embR V (ix2 q k) := by
  pointwise [res_main_v7]
  exact row_start q _ ((congrArg BitVec.toInt (congrFun (start_at V q hq) _)).trans (toInt_row q)) (zero_start (Shape.Idx.first h_S_)) k (embR V) _ _ _

include hq in
theorem v66_at (k : Fin 64) : (res_main_v66 V (ix1 k) : EReal) = encR V (ix2 q k) := by
  pointwise [res_main_v66]
  exact row_start q _ ((congrArg BitVec.toInt (congrFun (start_at V q hq) _)).trans (toInt_row q)) (zero_start (Shape.Idx.first h_S_)) k (encR V) _ _ _

theorem scat_at (r : Fin 500) (x0 : (⟨1, ![500]⟩ : Shape).Idx → EReal) (idx : (⟨1, ![1]⟩ : Shape).Idx → BitVec 32) (hidx : ∀ j, idx j = BitVec.ofNat 32 q.val) (u : (⟨0, ![]⟩ : Shape).Idx → EReal) :
    Host.scatter scatter_S500_S1_S__n_0_0_0 (fun _ b => b) x0 idx u (ix1 r) = if r = q then u ix0 else x0 (ix1 r) := by
  have hl := Routing.lands_one scatter_S500_S1_S__n_0_0_0 rfl rfl idx q (by rw [hidx]; exact toInt_row q) r
  have h0 : ∀ j : (⟨0, ![]⟩ : Shape).Idx, j = ix0 := fun j => funext fun a => a.elim0
  split
  · rename_i h
    exact Routing.scatter_set_hit _ x0 idx u _ _ (fun j _ => congrArg u (h0 j)) ix0 (hl.2 h)
  · rename_i h
    exact Routing.scatter_set_miss _ x0 idx u _ fun j hj => h (hl.1 (by rw [h0 j] at hj; exact hj))

/-- A word up to `n` passes the bounds' check. -/
theorem in_bounds {w : BitVec 32} {n : ℕ} (hn : n < 2 ^ 31) (h : w.toNat ≤ n) :
    IntOp.andi (IntOp.cmpi .sge w 0#32) (IntOp.cmpi .sle w (BitVec.ofNat 32 n)) = 1#1 := by
  have e : (BitVec.ofNat 32 n).toNat = n := by rw [BitVec.toNat_ofNat]; omega
  rw [WordCmp.cmpi_sge_of_lt (by omega) (by decide), WordCmp.cmpi_sle_of_lt (by omega) (by omega), e, decide_eq_true h, decide_eq_true (by exact Nat.zero_le _)]
  rfl

theorem fold_andi_one {ι : Type} (S : Finset ι) (f : ι → BitVec 1) (h : ∀ x ∈ S, f x = 1#1) : S.fold IntOp.andi 1#1 f = 1#1 := by
  classical
  induction S using Finset.induction_on with
  | empty => rfl
  | insert a S ha ih =>
    rw [Finset.fold_insert ha, h a (Finset.mem_insert_self _ _), ih fun x hx => h x (Finset.mem_insert_of_mem hx)]; rfl

theorem call2_at (he : ∀ j, (edgR V j).toNat < 500) (x : S800000x1.Idx) : (res_main_call2_v5 V x : BitVec 32) = edgR V (ix1 (x 0)) := by
  obtain ⟨e, z, rfl⟩ : ∃ (e : Fin 800000) (z : Fin 1), x = ix2 e z := ⟨x 0, x 1, eq_ix2 x⟩
  pointwise [res_main_call2_v5]
  exact Routing.wrap_of_lt _ _ (lt_trans (he (ix1 e)) (by decide))

include hq in
theorem v21_at (he : ∀ j, (edgR V j).toNat < 500) (e : Fin 800000) : (res_main_v21 V (ix1 e) : EReal) = simR (embR V) q ⟨(edgR V (ix1 e)).toNat, he _⟩ := by
  have hb : ∀ x : S800000x1.Idx, IntOp.andi (IntOp.cmpi .sge (res_main_call2_v5 V x : BitVec 32) 0#32) (IntOp.cmpi .sle (res_main_call2_v5 V x : BitVec 32) 499#32) = 1#1 := fun x => by
    rw [call2_at V he]
    exact in_bounds (by decide) (by have := he (ix1 (x 0)); omega)
  pointwise [res_main_v21]
  refine (WordCmp.select_of_eq_one (fold_andi_one _ _ fun x _ => hb x) _ _).trans ?_
  refine (Routing.gather_take1 gather_S500_S800000x1_S800000_n_0_n_n_0_1_1 rfl rfl rfl rfl _ _ e ⟨(edgR V (ix1 e)).toNat, he _⟩ ?_ (by decide)).trans ?_
  · refine (call2_at V he (ix2 e 0)).trans ?_
    show edgR V (ix1 e) = BitVec.ofNat 32 (edgR V (ix1 e)).toNat
    rw [BitVec.ofNat_toNat, BitVec.setWidth_eq]
  refine (scat_at q _ _ _ (fun j => congrFun (start_at V q hq) _) _).trans ?_
  generalize (⟨(edgR V (ix1 e)).toNat, he _⟩ : Fin 500) = r
  unfold simR
  split
  · pointwise
  · pointwise
    simp only [v7_at V q hq]
    rfl

/-- The score the reference gives an edge. -/
abbrev scoreR (e : Fin 800000) : EReal := (res_main_v21 V : S800000.Idx → EReal) (ix1 e)

/-- The reference's best three edges. -/
structure Top (ε : Fin 3 → Fin 800000) : Prop where
  val : ∀ k, ((Host.topK S3 0 (FloatOps.cmpfTotal (F := Ideal) (φ := .f32) .gt) (res_main_v21 V : S800000.Idx → EReal) sliceFits_S800000_S3).1 (ix1 k) : EReal)
    = scoreR V (ε k)
  idx : ∀ k, (res_main_indices V (ix1 k) : BitVec 32) = BitVec.ofNat 32 (ε k).val
  ne01 : ε 1 ≠ ε 0
  ne02 : ε 2 ≠ ε 0
  ne12 : ε 2 ≠ ε 1
  max0 : ∀ f, scoreR V f ≤ scoreR V (ε 0)
  max1 : ∀ f, f ≠ ε 0 → scoreR V f ≤ scoreR V (ε 1)
  max2 : ∀ f, f ≠ ε 0 → f ≠ ε 1 → scoreR V f ≤ scoreR V (ε 2)

theorem exists_top : ∃ ε, Top V ε := by
  obtain ⟨σ, hi, hs, hm, hk⟩ := topK_at (N := 800000) (by decide) (res_main_v21 V : S800000.Idx → EReal) sliceFits_S800000_S3
  have le : ∀ i j : Fin 800000, i ≤ j → scoreR V (σ j) ≤ scoreR V (σ i) := fun i j h => by
    rcases h.lt_or_eq with h | rfl
    · exact hm i j h
    · exact le_rfl
  refine ⟨fun k => σ (Fin.castLE (by decide) k), fun k => (hk k).1, fun k => (hk k).2, fun h => ?_, fun h => ?_, fun h => ?_, fun f => ?_, fun f h0 => ?_, fun f h0 h1 => ?_⟩
  · exact absurd (congrArg Fin.val (hi h)) (by decide)
  · exact absurd (congrArg Fin.val (hi h)) (by decide)
  · exact absurd (congrArg Fin.val (hi h)) (by decide)
  all_goals obtain ⟨i, rfl⟩ := hs f
  all_goals refine le _ _ (Fin.le_def.2 ?_)
  · exact Nat.zero_le _
  · have : i.val ≠ 0 := fun e => h0 (congrArg σ (Fin.ext e))
    show 1 ≤ i.val; omega
  · have : i.val ≠ 0 := fun e => h0 (congrArg σ (Fin.ext e))
    have : i.val ≠ 1 := fun e => h1 (congrArg σ (Fin.ext e))
    show 2 ≤ i.val; omega

variable {ε : Fin 3 → Fin 800000} (T : Top V ε)

include T in
theorem call3_at (x : S3x1.Idx) : (res_main_call3_v5 V x : BitVec 32) = BitVec.ofNat 32 (ε (x 0)).val := by
  obtain ⟨k, z, rfl⟩ : ∃ (k : Fin 3) (z : Fin 1), x = ix2 k z := ⟨x 0, x 1, eq_ix2 x⟩
  pointwise [res_main_call3_v5]
  refine (Routing.wrap_of_lt (res_main_indices V (ix1 k) : BitVec 32) _ ?_).trans (T.idx k)
  rw [T.idx, BitVec.toNat_ofNat]; have := (ε k).isLt; omega

include T in
theorem v24_at (k : Fin 3) : (res_main_v24 V (ix1 k) : BitVec 32) = edgR V (ix1 (ε k)) := by
  have hb : ∀ x : S3x1.Idx, IntOp.andi (IntOp.cmpi .sge (res_main_call3_v5 V x : BitVec 32) 0#32) (IntOp.cmpi .sle (res_main_call3_v5 V x : BitVec 32) 799999#32) = 1#1 := fun x => by
    rw [call3_at V T]
    refine in_bounds (by decide) ?_
    rw [BitVec.toNat_ofNat]; have := (ε (x 0)).isLt; omega
  pointwise [res_main_v24]
  refine (WordCmp.select_of_eq_one (fold_andi_one _ _ fun x _ => hb x) _ _).trans ?_
  exact Routing.gather_take1 gather_S800000_S3x1_S3_n_0_n_n_0_1_1 rfl rfl rfl rfl _ _ k (ε k) (call3_at V T (ix2 k 0)) (by decide)

include T in
theorem call4_at (he : ∀ j, (edgR V j).toNat < 500) (x : S3x1.Idx) : (res_main_call4_v5 V x : BitVec 32) = edgR V (ix1 (ε (x 0))) := by
  obtain ⟨k, z, rfl⟩ : ∃ (k : Fin 3) (z : Fin 1), x = ix2 k z := ⟨x 0, x 1, eq_ix2 x⟩
  pointwise [res_main_call4_v5]
  refine (Routing.wrap_of_lt (res_main_v24 V (ix1 k) : BitVec 32) _ ?_).trans (v24_at V T k)
  rw [v24_at V T]; exact lt_trans (he _) (by decide)

theorem uitofp_not (p : Prop) [Decidable p] : (FloatOps.uitofp (F := Ideal) .f32 (~~~(BitVec.ofBool (decide p))) : EReal) = if p then 0 else 1 := by
  by_cases h : p
  · rw [if_pos h, decide_eq_true h]
    show (((~~~(BitVec.ofBool true)).toNat : ℝ) : EReal) = 0
    rw [show (~~~(BitVec.ofBool true)).toNat = 0 by decide]; simp
  · rw [if_neg h, decide_eq_false h]
    show (((~~~(BitVec.ofBool false)).toNat : ℝ) : EReal) = 1
    rw [show (~~~(BitVec.ofBool false)).toNat = 1 by decide]; simp

theorem fold3 (f : Fin 3 → BitVec 1) : Finset.fold IntOp.ori 0#1 f Finset.univ = IntOp.ori (f 0) (IntOp.ori (f 1) (IntOp.ori (f 2) 0#1)) := rfl

/-- The column of the edge `ε k`. -/
def colT (he : ∀ j, (edgR V j).toNat < 500) (ε : Fin 3 → Fin 800000) (k : Fin 3) : Fin 500 := ⟨(edgR V (ix1 (ε k))).toNat, he _⟩

include T in
/-- The check of the rows' bounds passes, and the rows gathered are the edges' columns'. -/
theorem rows_at (he : ∀ j, (edgR V j).toNat < 500) (S : Finset S3x1.Idx) (k : Fin 3) (y : Fin 64) (z : EReal) :
    Scalar.select (S.fold IntOp.andi 1#1 fun x => IntOp.andi (IntOp.cmpi .sge (res_main_call4_v5 V x : BitVec 32) 0#32) (IntOp.cmpi .sle (res_main_call4_v5 V x : BitVec 32) 499#32))
      (Host.gather gather_S500x64_S3x1_S3x64_1_0_n_n_0_1_164 (embR V) (res_main_call4_v5 V : S3x1.Idx → BitVec 32) (ix2 k y)) z
      = embR V (ix2 (colT V he ε k) y) := by
  refine (WordCmp.select_of_eq_one (fold_andi_one _ _ fun x _ => ?_) _ _).trans ?_
  · rw [call4_at V T he]
    exact in_bounds (by decide) (by have := he (ix1 (ε (x 0))); omega)
  · refine Routing.gather_row gather_S500x64_S3x1_S3x64_1_0_n_n_0_1_164 rfl rfl rfl rfl rfl _ _ k y (colT V he ε k) ?_ (by decide)
    refine (call4_at V T he (ix2 k 0)).trans ?_
    show edgR V (ix1 (ε k)) = BitVec.ofNat 32 (edgR V (ix1 (ε k))).toNat
    rw [BitVec.ofNat_toNat, BitVec.setWidth_eq]

theorem eq_bit (he : ∀ j, (edgR V j).toNat < 500) (j k : Fin 3) :
    IntOp.cmpi .eq (edgR V (ix1 (ε j)) : BitVec 32) (edgR V (ix1 (ε k))) = BitVec.ofBool (decide (colT V he ε j = colT V he ε k)) := by
  have h : (edgR V (ix1 (ε j)) : BitVec 32) = edgR V (ix1 (ε k)) ↔ colT V he ε j = colT V he ε k := by
    rw [← BitVec.toNat_inj, Fin.ext_iff]; exact Iff.rfl
  simp only [IntOp.cmpi, ← h]
  exact congrArg BitVec.ofBool (Bool.beq_eq_decide_eq _ _)

include T in
theorem v51_at0 (he : ∀ j, (edgR V j).toNat < 500) : @Eq EReal (res_main_v51 V (ix1 0)) 1 := by
  pointwise [res_main_v51, res_main_v37]
  rw [fold3]
  simp only [v24_at V T, eq_bit V he]
  refine Eq.trans (congrArg (fun b : BitVec 1 => (FloatOps.uitofp (F := Ideal) .f32 (~~~ b) : EReal)) (a₂ := BitVec.ofBool (decide False)) ?_) ((uitofp_not False).trans (if_neg id))
  simp [IntOp.cmpi, IntOp.andi, IntOp.ori]

include T in
theorem v51_at1 (he : ∀ j, (edgR V j).toNat < 500) : @Eq EReal (res_main_v51 V (ix1 1)) (if colT V he ε 1 = colT V he ε 0 then 0 else 1) := by
  pointwise [res_main_v51, res_main_v37]
  rw [fold3]
  simp only [v24_at V T, eq_bit V he]
  refine Eq.trans (congrArg (fun b : BitVec 1 => (FloatOps.uitofp (F := Ideal) .f32 (~~~ b) : EReal)) (a₂ := BitVec.ofBool (decide (colT V he ε 1 = colT V he ε 0))) ?_) (uitofp_not _)
  simp [IntOp.cmpi, IntOp.andi, IntOp.ori]
  cases decide (colT V he ε 1 = colT V he ε 0) <;> rfl

include T in
theorem v51_at2 (he : ∀ j, (edgR V j).toNat < 500) : @Eq EReal (res_main_v51 V (ix1 2)) (if colT V he ε 2 = colT V he ε 0 ∨ colT V he ε 2 = colT V he ε 1 then 0 else 1) := by
  pointwise [res_main_v51, res_main_v37]
  rw [fold3]
  simp only [v24_at V T, eq_bit V he]
  refine Eq.trans (congrArg (fun b : BitVec 1 => (FloatOps.uitofp (F := Ideal) .f32 (~~~ b) : EReal)) (a₂ := BitVec.ofBool (decide (colT V he ε 2 = colT V he ε 0 ∨ colT V he ε 2 = colT V he ε 1))) ?_) (uitofp_not _)
  simp [IntOp.cmpi, IntOp.andi, IntOp.ori]
  cases decide (colT V he ε 2 = colT V he ε 0) <;> cases decide (colT V he ε 2 = colT V he ε 1) <;> rfl

end Cert.Proof
-- ==== Proof.Steps.lean ====
/-
  The steps of one tile's task by values: the loads of sixteen words from the fetched words and from the private tables,
  the two sixteen-word stores, the indexed add of one vector, and the two copies in.
-/
module

public import proofs.«01_k».proof.Proof.Setup

@[expose] public section

noncomputable section

namespace Cert.Proof

open Cert.KernelIdeal Cert.KernelIdeal.Gen
open Cert.Proof.Hist (tab cnt full total hit lanes lanes_inb ln storeIdx_tab cnt_succ)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The memrefs, as the body table passes them -/

abbrev eV : Memref sig .scVector .hbm S800000 .i32 := Memref.whole main_arg1_scv
abbrev oV : Memref sig .scVector .hbm S32x512 .i32 := Memref.whole main_v0_scv
/-- A tile's scratch: the fetched words, the sixteen private tables, the summed table. -/
abbrev sE : Memref sig .scVector .vmem S25008 .i32 := Memref.whole cc0_scratch0
abbrev sB : Memref sig .scVector .vmem S8192 .i32 := Memref.whole cc0_scratch1
abbrev sO : Memref sig .scVector .vmem S512 .i32 := Memref.whole cc0_scratch2

/-! ## Reading and writing sixteen words of a vector -/

theorem unit_idx1 {N n : ℕ} {off : Fin 1 → ℕ} {inb} (x : (Rect.unit (s := ⟨1, ![N]⟩) off ![n] inb).shape.Idx) :
    ((Rect.unit (s := ⟨1, ![N]⟩) off ![n] inb).toLoadRect.idx x 0).val = off 0 + (x 0).val := by
  rw [LoadRect.idx_apply]
  show off 0 + 1 * (x 0).val = _
  rw [Nat.one_mul]

theorem mem_unit1 {N n : ℕ} {off : Fin 1 → ℕ} {inb} {j : Shape.Idx ⟨1, ![N]⟩} :
    j ∈ (Rect.unit (s := ⟨1, ![N]⟩) off ![n] inb).set ↔ off 0 ≤ (j 0).val ∧ (j 0).val < off 0 + n := by
  rw [Rect.mem_set_unit]
  exact ⟨fun h => h 0, fun h a => by obtain rfl : a = 0 := Subsingleton.elim _ _; exact h⟩

/-- A rectangle's elements, as a segment. -/
theorem unit_seg {N n lo hi : ℕ} {off : Fin 1 → ℕ} {inb} (h₀ : off 0 = lo) (h₁ : lo + n = hi) :
    (Rect.unit (s := ⟨1, ![N]⟩) off ![n] inb).set = seg N lo hi := by
  ext j; rw [mem_unit1, mem_seg, h₀, h₁]

section Views

variable {κ : Kind} {N : ℕ}

theorem read_access (b : Ref sig κ) (r : Rect b.ty.shape) (f : b.ty.Contents (Elt F)) (x : r.shape.Idx) :
    ((Memref.whole b).access r).read (Elt F) f x = f (r.toLoadRect.idx x) := by
  rw [View.read_apply]; exact cast_eq _ _

theorem write_access_of_not_mem (b : Ref sig κ) (r : Rect b.ty.shape) (f : b.ty.Contents (Elt F)) (w : r.shape.Idx → Elt F b.ty.elt)
    (j : b.ty.shape.Idx) (hj : j ∉ r.set) : ((Memref.whole b).access r).write (Elt F) f w Finset.univ j = f j :=
  View.write_of_not_mem (v := (Memref.whole b).access r) _ _ _ (by
    show j ∉ ((View.whole b).slice r).set
    rw [View.set_slice_whole]; exact hj)

theorem write_access_idx (b : Ref sig κ) (r : Rect b.ty.shape) (f : b.ty.Contents (Elt F)) (w : r.shape.Idx → Elt F b.ty.elt)
    (x : r.shape.Idx) : ((Memref.whole b).access r).write (Elt F) f w Finset.univ (r.toLoadRect.idx x) = w x := by
  refine (View.write_emb_of_mem (v := (Memref.whole b).access r) f w (Finset.mem_univ x)).trans ?_
  exact cast_eq _ _

end Views

theorem write_sB (f : S8192.Idx → BitVec 32) (off : Fin 1 → ℕ) (inb) (w : S16.Idx → BitVec 32) (j : S8192.Idx) (n : ℕ) (hn : off 0 = n) :
    (sB.access (Rect.unit (s := S8192) off S16.size inb)).write (Elt F) f w Finset.univ j
      = if h : n ≤ (j 0).val ∧ (j 0).val < n + 16 then w (ln ⟨(j 0).val - n, by omega⟩) else f j := by
  subst hn
  split
  · rename_i h
    have e : j = (Rect.unit (s := S8192) off S16.size inb).toLoadRect.idx (ln ⟨(j 0).val - off 0, by omega⟩) := by
      funext a; obtain rfl : a = 0 := Subsingleton.elim _ _
      apply Fin.ext; rw [unit_idx1]
      show (j 0).val = off 0 + ((j 0).val - off 0); omega
    conv_lhs => rw [e]
    exact write_access_idx (F := F) cc0_scratch1 _ _ _ _
  · rename_i h
    exact write_access_of_not_mem (F := F) cc0_scratch1 _ _ _ _ (by rw [mem_unit1]; exact h)

theorem write_sO (f : S512.Idx → BitVec 32) (off : Fin 1 → ℕ) (inb) (w : S16.Idx → BitVec 32) (j : S512.Idx) (n : ℕ) (hn : off 0 = n) :
    (sO.access (Rect.unit (s := S512) off S16.size inb)).write (Elt F) f w Finset.univ j
      = if h : n ≤ (j 0).val ∧ (j 0).val < n + 16 then w (ln ⟨(j 0).val - n, by omega⟩) else f j := by
  subst hn
  split
  · rename_i h
    have e : j = (Rect.unit (s := S512) off S16.size inb).toLoadRect.idx (ln ⟨(j 0).val - off 0, by omega⟩) := by
      funext a; obtain rfl : a = 0 := Subsingleton.elim _ _
      apply Fin.ext; rw [unit_idx1]
      show (j 0).val = off 0 + ((j 0).val - off 0); omega
    conv_lhs => rw [e]
    exact write_access_idx (F := F) cc0_scratch2 _ _ _ _
  · rename_i h
    exact write_access_of_not_mem (F := F) cc0_scratch2 _ _ _ _ (by rw [mem_unit1]; exact h)

/-- What the fetched words' scratch holds: tile `w`'s words, and its last eight elements as they were. -/
def fetched (e : S800000.Idx → BitVec 32) (w : ℕ) (old : S25008.Idx → BitVec 32) : S25008.Idx → BitVec 32 :=
  fun j => if (j 0).val < 25000 then mine e w (j 0).val else old j

/-- Sixteen of the fetched words. -/
theorem load_fetched (e : S800000.Idx → BitVec 32) (w : ℕ) (old : S25008.Idx → BitVec 32) (off : Fin 1 → ℕ) (inb) (n : ℕ) (hn : off 0 = n)
    (x : S16.Idx) (hx : n + (x 0).val < 25000) :
    sE.view.readAt (Elt F) (Rect.unit (s := S25008) off S16.size inb).toLoadRect (fetched e w old) x = mine e w (n + (x 0).val) := by
  refine (read_access (F := F) cc0_scratch0 (Rect.unit (s := S25008) off S16.size inb) (fetched e w old) x).trans ?_
  unfold fetched
  rw [unit_idx1, hn, if_pos hx]

theorem load_fetched_inb (e : S800000.Idx → BitVec 32) (w : ℕ) (old : S25008.Idx → BitVec 32) (off : Fin 1 → ℕ) (inb) (n : ℕ) (hn : off 0 = n)
    (hx : n + 16 ≤ 25000) (he : ∀ j, (e j).toNat < 512) (x : S16.Idx) :
    (sE.view.readAt (Elt F) (Rect.unit (s := S25008) off S16.size inb).toLoadRect (fetched e w old) x : BitVec 32).toNat < 512 := by
  have h16 : (x 0).val < 16 := (x 0).isLt
  rw [load_fetched e w old off inb n hn x (by omega)]
  exact mine_lt he _ _

/-- Sixteen bins of one private table. -/
theorem load_tab (c : ℕ → ℕ → ℕ) (off : Fin 1 → ℕ) (inb) (l n : ℕ) (hn : off 0 = 512 * l + n) (x : S16.Idx) (hx : n + (x 0).val < 512) :
    sB.view.readAt (Elt F) (Rect.unit (s := S8192) off S16.size inb).toLoadRect (tab c) x = BitVec.ofNat 32 (c l (n + (x 0).val)) := by
  refine (read_access (F := F) cc0_scratch1 (Rect.unit (s := S8192) off S16.size inb) (tab c) x).trans ?_
  unfold tab
  rw [unit_idx1, hn]
  congr 2 <;> omega

theorem setOn_whole_subset {κ : Kind} (b : Ref sig κ) (M N : Finset b.ty.shape.Idx) (h : M ⊆ N) : (Memref.whole b).view.setOn M ⊆ N := by
  intro i hi
  obtain ⟨x, hx, rfl⟩ := Finset.mem_map.mp hi
  exact h hx

/-! ## One vector's indexed add -/

section Step

variable [FloatOps F] (d : Dev nD) (c : Fin τ.nSC) (i : Fin τ.nSub)

abbrev bPts (f : S8192.Idx → BitVec 32) : sProp 𝕄 := ((V d c i).loc cc0_scratch1) ↦{fullShare} (f : Buf (Elt F) ((V d c i).loc cc0_scratch1))

theorem pts_sB (f : S8192.Idx → BitVec 32) :
    ((sB.access (.whole S8192)).loc (V d c i) ↦[(sB.access (.whole S8192)).set]{fullShare} (f : Buf (Elt F) ((V d c i).loc cc0_scratch1)) : sProp 𝕄)
      = bPts (F := F) d c i f := by
  rw [show (sB.access (.whole S8192)).set = Finset.univ from Memref.set_access_whole (cc0_scratch1 : Ref sig .scVector)]

/-- The indexed add of one vector of words: the tables at `t` become the tables at `t'`. -/
theorem wp_count {α : Type} {Q : α → sProp 𝕄} {k : PUnit → Prog (TpuEff nD τ sig (Elt F) Λ₀ (.scVector c i)) α}
    {v : IVec S16 32} {mask : IVec S16 1} {h : ∀ a x, ((![addi k0_pay5 v] : Fin 1 → IVec S16 32) a x).toNat < S8192.size a} {hs}
    (t t' : ℕ → ℕ → ℕ) (hv : ∀ x, (v x).toNat < 512)
    (ht : ∀ (k : Fin 16) (b : ℕ), b < 512 → t' k.val b = t k.val b + if mask (ln k) = 1 then hit (v (ln k)) b else 0) :
    bPts (F := F) d c i (tab t)
      ⊢ iprop((bPts (F := F) d c i (tab t') -∗ wp frame (wpE (defs₀ (F := F)) 𝒱₀ (V d c i) none) Set.univ (k ⟨⟩) Q)
        -∗ wp frame (wpE (defs₀ (F := F)) 𝒱₀ (V d c i) none) Set.univ
            (SparseCore.vectorStoreIdx (F := F) sB ![addi k0_pay5 v] k0_pay6 mask true h hs >>= k) Q) := by
  iintro H Hk
  ihave H' := (Entails.of_eq (pts_sB (F := F) d c i _).symm) $$ H
  iapply (SparseCore.wp_vectorStoreIdx 𝒱₀ (V d c i) none Set.univ (base := sB)) $$ H'; iintro H
  iapply Hk
  rw [show (sB.access (.whole S8192)).write (Elt F) (tab t) (storeIdx ((sB.access (.whole S8192)).read (Elt F) (tab t)) ![addi k0_pay5 v] k0_pay6 mask true h) Finset.univ
      = tab t' from (Memref.write_access_whole_univ (Elt F) cc0_scratch1 (tab t) _).trans ?_]
  · ihave H' := (Entails.of_eq (pts_sB (F := F) d c i _)) $$ H
    iexact H'
  · have e : (sB.access (.whole S8192)).read (Elt F) (tab t) = tab t := by
      funext x
      refine (read_access (F := F) cc0_scratch1 (.whole S8192) (tab t) x).trans (congrArg (tab t) ?_)
      funext a; apply Fin.ext; rw [LoadRect.idx_apply]; show 0 + 1 * (x a).val = _; omega
    rw [e]; exact storeIdx_tab (F := F) v hv mask h t t' ht

/-- Eight vectors' indexed adds. -/
theorem wp_count8 {α : Type} {Q : α → sProp 𝕄} {k : PUnit → Prog (TpuEff nD τ sig (Elt F) Λ₀ (.scVector c i)) α}
    {v0 v1 v2 v3 v4 v5 v6 v7 : IVec S16 32}
    {h0 : ∀ a x, ((![addi k0_pay5 v0] : Fin 1 → IVec S16 32) a x).toNat < S8192.size a} {h1 : ∀ a x, ((![addi k0_pay5 v1] : Fin 1 → IVec S16 32) a x).toNat < S8192.size a}
    {h2 : ∀ a x, ((![addi k0_pay5 v2] : Fin 1 → IVec S16 32) a x).toNat < S8192.size a} {h3 : ∀ a x, ((![addi k0_pay5 v3] : Fin 1 → IVec S16 32) a x).toNat < S8192.size a}
    {h4 : ∀ a x, ((![addi k0_pay5 v4] : Fin 1 → IVec S16 32) a x).toNat < S8192.size a} {h5 : ∀ a x, ((![addi k0_pay5 v5] : Fin 1 → IVec S16 32) a x).toNat < S8192.size a}
    {h6 : ∀ a x, ((![addi k0_pay5 v6] : Fin 1 → IVec S16 32) a x).toNat < S8192.size a} {h7 : ∀ a x, ((![addi k0_pay5 v7] : Fin 1 → IVec S16 32) a x).toNat < S8192.size a}
    {hs0 hs1 hs2 hs3 hs4 hs5 hs6 hs7}
    (W : ℕ → BitVec 32) (hW : ∀ n, (W n).toNat < 512) (n : ℕ)
    (e0 : ∀ x, v0 x = W (16 * n + (x 0).val)) (e1 : ∀ x, v1 x = W (16 * (n + 1) + (x 0).val)) (e2 : ∀ x, v2 x = W (16 * (n + 2) + (x 0).val))
    (e3 : ∀ x, v3 x = W (16 * (n + 3) + (x 0).val)) (e4 : ∀ x, v4 x = W (16 * (n + 4) + (x 0).val)) (e5 : ∀ x, v5 x = W (16 * (n + 5) + (x 0).val))
    (e6 : ∀ x, v6 x = W (16 * (n + 6) + (x 0).val)) (e7 : ∀ x, v7 x = W (16 * (n + 7) + (x 0).val)) :
    bPts (F := F) d c i (tab (cnt W n))
      ⊢ iprop((bPts (F := F) d c i (tab (cnt W (n + 8))) -∗ wp frame (wpE (defs₀ (F := F)) 𝒱₀ (V d c i) none) Set.univ (k ⟨⟩) Q)
        -∗ wp frame (wpE (defs₀ (F := F)) 𝒱₀ (V d c i) none) Set.univ
            (SparseCore.vectorStoreIdx (F := F) sB ![addi k0_pay5 v0] k0_pay6 (fun _ => 1#1) true h0 hs0 >>= fun _ =>
              SparseCore.vectorStoreIdx (F := F) sB ![addi k0_pay5 v1] k0_pay6 (fun _ => 1#1) true h1 hs1 >>= fun _ =>
              SparseCore.vectorStoreIdx (F := F) sB ![addi k0_pay5 v2] k0_pay6 (fun _ => 1#1) true h2 hs2 >>= fun _ =>
              SparseCore.vectorStoreIdx (F := F) sB ![addi k0_pay5 v3] k0_pay6 (fun _ => 1#1) true h3 hs3 >>= fun _ =>
              SparseCore.vectorStoreIdx (F := F) sB ![addi k0_pay5 v4] k0_pay6 (fun _ => 1#1) true h4 hs4 >>= fun _ =>
              SparseCore.vectorStoreIdx (F := F) sB ![addi k0_pay5 v5] k0_pay6 (fun _ => 1#1) true h5 hs5 >>= fun _ =>
              SparseCore.vectorStoreIdx (F := F) sB ![addi k0_pay5 v6] k0_pay6 (fun _ => 1#1) true h6 hs6 >>= fun _ =>
              SparseCore.vectorStoreIdx (F := F) sB ![addi k0_pay5 v7] k0_pay6 (fun _ => 1#1) true h7 hs7 >>= k) Q) := by
  have one : ∀ (v : IVec S16 32) (m : ℕ), (∀ x, v x = W (16 * m + (x 0).val)) → (∀ x, (v x).toNat < 512) ∧
      ∀ (k : Fin 16) (b : ℕ), b < 512 → cnt W (m + 1) k.val b = cnt W m k.val b + if (fun _ => 1#1 : IVec S16 1) (ln k) = 1 then hit (v (ln k)) b else 0 := by
    intro v m e
    refine ⟨fun x => by rw [e]; exact hW _, fun k b _ => ?_⟩
    rw [cnt_succ, e]; exact congrArg _ (if_pos rfl).symm
  iintro H Hk
  iapply (wp_count d c i _ _ (one v0 n e0).1 (one v0 n e0).2) $$ H; iintro H
  iapply (wp_count d c i _ _ (one v1 _ e1).1 (one v1 _ e1).2) $$ H; iintro H
  iapply (wp_count d c i _ _ (one v2 _ e2).1 (one v2 _ e2).2) $$ H; iintro H
  iapply (wp_count d c i _ _ (one v3 _ e3).1 (one v3 _ e3).2) $$ H; iintro H
  iapply (wp_count d c i _ _ (one v4 _ e4).1 (one v4 _ e4).2) $$ H; iintro H
  iapply (wp_count d c i _ _ (one v5 _ e5).1 (one v5 _ e5).2) $$ H; iintro H
  iapply (wp_count d c i _ _ (one v6 _ e6).1 (one v6 _ e6).2) $$ H; iintro H
  iapply (wp_count d c i _ _ (one v7 _ e7).1 (one v7 _ e7).2) $$ H; iintro H
  iapply Hk; iexact H

end Step

end Cert.Proof
-- ==== Proof.Trips.lean ====
/-
  One trip of each of a tile's four loops, by values: the zeroing loop, the two counting loops, and the loop that sums
  the sixteen private tables.
-/
module

public import proofs.«01_k».proof.Proof.Steps

@[expose] public section

noncomputable section

namespace Cert.Proof

open Cert.KernelIdeal Cert.KernelIdeal.Gen
open Cert.Proof.Hist (tab cnt full total hit lanes lanes_inb ln storeIdx_tab cnt_succ sum_full)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The tile's number, and its coordinates as the machine's. -/
abbrev wid (L : grid0.Coords) : ℕ := 2 * (L 1).val + (L 0).val
abbrev cV (L : grid0.Coords) : Fin τ.nSC := (L 0).castLE hcore0
abbrev jV (L : grid0.Coords) : Fin τ.nSub := (L 1).castLE hsub0

variable (d : Dev nD) (L : grid0.Coords)

abbrev tbPts (f : S8192.Idx → BitVec 32) : sProp 𝕄 := bPts (F := F) d (cV L) (jV L) f
abbrev tePts (M : Finset S25008.Idx) (f : S25008.Idx → BitVec 32) : sProp 𝕄 :=
  ((V d (cV L) (jV L)).loc cc0_scratch0) ↦[M]{fullShare} (f : Buf (Elt F) ((V d (cV L) (jV L)).loc cc0_scratch0))
abbrev toPts (f : S512.Idx → BitVec 32) : sProp 𝕄 :=
  ((V d (cV L) (jV L)).loc cc0_scratch2) ↦{fullShare} (f : Buf (Elt F) ((V d (cV L) (jV L)).loc cc0_scratch2))

/-! ## The zeroing loop -/

/-- The tables with their first `n` elements zeroed. -/
def zeroed (f : S8192.Idx → BitVec 32) (n : ℕ) : S8192.Idx → BitVec 32 := fun j => if (j 0).val < n then 0#32 else f j

theorem trip1 (f : S8192.Idx → BitVec 32) (t : Fin k0_t1_loop.trips) (acc : BitVec 32) :
    tbPts (F := F) d L (zeroed f (16 * t.val))
      ⊢ wp frame (wpE (defs₀ (F := F)) 𝒱₀ (V d (cV L) (jV L)) none) Set.univ
          (k0_t1_body L eV (Memref.isWhole_whole _) oV (Memref.isWhole_whole _) sE (Memref.isWhole_whole _) sB (Memref.isWhole_whole _)
            sO (Memref.isWhole_whole _) cc0_scratch3 cc0_scratch4 cc0_scoped0 t acc)
          fun _ => tbPts (F := F) d L (zeroed f (16 * (t.val + 1))) := by
  have e : zeroed f (16 * (t.val + 1))
      = (sB.access (Rect.unit (s := S8192) (k0_off3 t) S16.size (k0_off3_inb t))).write (Elt F) (zeroed f (16 * t.val)) k0_pay4 Finset.univ := by
    funext j
    have h0 : k0_off3 t 0 = 16 * t.val := by rw [k0_off3_eq]; rfl
    rw [write_sB _ _ _ _ _ _ h0]
    unfold zeroed
    by_cases h : (j 0).val < 16 * t.val
    · rw [if_pos (by omega), dif_neg (by omega), if_pos h]
    · by_cases h' : (j 0).val < 16 * (t.val + 1)
      · rw [if_pos h', dif_pos (by omega)]; rfl
      · rw [if_neg h', dif_neg (by omega), if_neg h]
  unfold k0_t1_body
  simp only [Prog.lift, Prog.bind_op, Prog.bind_ret, Prog.pure_eq_ret]
  iintro H
  iapply (wp_load 𝒱₀ (V d (cV L) (jV L)) none Set.univ (m := sB) (S := Finset.univ) (Finset.subset_univ _)) $$ H; iintro H
  iapply (wp_store 𝒱₀ (V d (cV L) (jV L)) none Set.univ (m := sB) (r := Rect.unit (s := S8192) (k0_off3 t) S16.size (k0_off3_inb t)) (f := zeroed f (16 * t.val)) (S := Finset.univ) (Finset.subset_univ _)) $$ H; iintro H
  rw [wp_ret]; imodintro
  rw [e]; iexact H

/-! ## The counting loops -/

theorem trip2 (e : S800000.Idx → BitVec 32) (he : ∀ j, (e j).toNat < 512) (w : ℕ) (old : S25008.Idx → BitVec 32)
    (t : Fin k0_t2_loop.trips) (acc : BitVec 32) :
    iprop(tePts (F := F) d L (seg 25008 0 12416) (fetched e w old) ∗ tbPts (F := F) d L (tab (cnt (mine e w) (8 * t.val))))
      ⊢ wp frame (wpE (defs₀ (F := F)) 𝒱₀ (V d (cV L) (jV L)) none) Set.univ
          (k0_t2_body L eV (Memref.isWhole_whole _) oV (Memref.isWhole_whole _) sE (Memref.isWhole_whole _) sB (Memref.isWhole_whole _)
            sO (Memref.isWhole_whole _) cc0_scratch3 cc0_scratch4 cc0_scoped0 t acc)
          fun _ => iprop(tePts (F := F) d L (seg 25008 0 12416) (fetched e w old) ∗ tbPts (F := F) d L (tab (cnt (mine e w) (8 * (t.val + 1))))) := by
  have ht : t.val < 97 := lt_of_lt_of_le t.isLt k0_t2_abs.2.1
  have off : ∀ r : Fin 8, k0_off4 t (BitVec.ofNat 32 r.val) 0 = 16 * (8 * t.val + r.val) := fun r => by
    rw [k0_off4_eq]; show 128 * t.val + 16 * r.val = _; omega
  have sub : ∀ r : Fin 8, sE.view.setOn (Rect.unit (s := S25008) (k0_off4 t (BitVec.ofNat 32 r.val)) S16.size (k0_off4_inb t r)).toLoadRect.set
      ⊆ seg 25008 0 12416 := fun r => setOn_whole_subset cc0_scratch0 _ _ fun j hj => by
    have := mem_unit1.mp hj
    rw [off] at this; exact mem_seg.mpr ⟨by omega, by omega⟩
  have ld : ∀ (r : Fin 8) (x : S16.Idx), sE.view.readAt (Elt F) (Rect.unit (s := S25008) (k0_off4 t (BitVec.ofNat 32 r.val)) S16.size (k0_off4_inb t r)).toLoadRect (fetched e w old) x
      = mine e w (16 * (8 * t.val + r.val) + (x 0).val) := fun r x => by
    have h16 : (x 0).val < 16 := (x 0).isLt
    exact load_fetched e w old _ _ _ (off r) x (by omega)
  have chk : ∀ (r : Fin 8) (a : Fin 1) (x : S16.Idx), ((![addi k0_pay5 (sE.view.readAt (Elt F) (Rect.unit (s := S25008) (k0_off4 t (BitVec.ofNat 32 r.val)) S16.size (k0_off4_inb t r)).toLoadRect (fetched e w old))] : Fin 1 → IVec S16 32) a x).toNat < S8192.size a :=
    fun r => lanes_inb _ fun x => by rw [ld]; exact mine_lt he _ _
  unfold k0_t2_body
  rw [k0_part1_eq_skeleton]; unfold k0_part1_skel
  simp only [Prog.lift, Prog.bind_op, Prog.bind_ret, Prog.pure_eq_ret]
  iintro ⟨He, Hb⟩
  iapply (wp_load 𝒱₀ (V d (cV L) (jV L)) none Set.univ (m := sE) (S := seg 25008 0 12416) (sub 0)) $$ He; iintro He
  iapply (wp_load 𝒱₀ (V d (cV L) (jV L)) none Set.univ (m := sE) (S := seg 25008 0 12416) (sub 1)) $$ He; iintro He
  iapply (wp_load 𝒱₀ (V d (cV L) (jV L)) none Set.univ (m := sE) (S := seg 25008 0 12416) (sub 2)) $$ He; iintro He
  iapply (wp_load 𝒱₀ (V d (cV L) (jV L)) none Set.univ (m := sE) (S := seg 25008 0 12416) (sub 3)) $$ He; iintro He
  iapply (wp_load 𝒱₀ (V d (cV L) (jV L)) none Set.univ (m := sE) (S := seg 25008 0 12416) (sub 4)) $$ He; iintro He
  iapply (wp_load 𝒱₀ (V d (cV L) (jV L)) none Set.univ (m := sE) (S := seg 25008 0 12416) (sub 5)) $$ He; iintro He
  iapply (wp_load 𝒱₀ (V d (cV L) (jV L)) none Set.univ (m := sE) (S := seg 25008 0 12416) (sub 6)) $$ He; iintro He
  iapply (wp_load 𝒱₀ (V d (cV L) (jV L)) none Set.univ (m := sE) (S := seg 25008 0 12416) (sub 7)) $$ He; iintro He
  iapply (Entails.of_eq (wp_assume_of (P := k0_chk1 _) 𝒱₀ (V d (cV L) (jV L)) none Set.univ (chk 0)).symm)
  iapply (Entails.of_eq (wp_assume_of (P := k0_chk2 _) 𝒱₀ (V d (cV L) (jV L)) none Set.univ (chk 1)).symm)
  iapply (Entails.of_eq (wp_assume_of (P := k0_chk3 _) 𝒱₀ (V d (cV L) (jV L)) none Set.univ (chk 2)).symm)
  iapply (Entails.of_eq (wp_assume_of (P := k0_chk4 _) 𝒱₀ (V d (cV L) (jV L)) none Set.univ (chk 3)).symm)
  iapply (Entails.of_eq (wp_assume_of (P := k0_chk5 _) 𝒱₀ (V d (cV L) (jV L)) none Set.univ (chk 4)).symm)
  iapply (Entails.of_eq (wp_assume_of (P := k0_chk6 _) 𝒱₀ (V d (cV L) (jV L)) none Set.univ (chk 5)).symm)
  iapply (Entails.of_eq (wp_assume_of (P := k0_chk7 _) 𝒱₀ (V d (cV L) (jV L)) none Set.univ (chk 6)).symm)
  iapply (Entails.of_eq (wp_assume_of (P := k0_chk8 _) 𝒱₀ (V d (cV L) (jV L)) none Set.univ (chk 7)).symm)
  iapply (wp_count8 d (cV L) (jV L) (mine e w) (mine_lt he w) (8 * t.val) (ld 0) (ld 1) (ld 2) (ld 3) (ld 4) (ld 5) (ld 6) (ld 7)) $$ Hb; iintro Hb
  rw [wp_ret]; imodintro
  isplitl [He]; · iexact He
  iexact Hb

theorem trip3 (e : S800000.Idx → BitVec 32) (he : ∀ j, (e j).toNat < 512) (w : ℕ) (old : S25008.Idx → BitVec 32)
    (t : Fin k0_t3_loop.trips) (acc : BitVec 32) :
    iprop(tePts (F := F) d L Finset.univ (fetched e w old) ∗ tbPts (F := F) d L (tab (cnt (mine e w) (776 + 8 * t.val))))
      ⊢ wp frame (wpE (defs₀ (F := F)) 𝒱₀ (V d (cV L) (jV L)) none) Set.univ
          (k0_t3_body L eV (Memref.isWhole_whole _) oV (Memref.isWhole_whole _) sE (Memref.isWhole_whole _) sB (Memref.isWhole_whole _)
            sO (Memref.isWhole_whole _) cc0_scratch3 cc0_scratch4 cc0_scoped0 k0_pay5 k0_pay6 t acc)
          fun _ => iprop(tePts (F := F) d L Finset.univ (fetched e w old) ∗ tbPts (F := F) d L (tab (cnt (mine e w) (776 + 8 * (t.val + 1))))) := by
  have ht : t.val < 98 := lt_of_lt_of_le t.isLt k0_t3_abs.2.1
  have off : ∀ r : Fin 8, k0_off5 t (BitVec.ofNat 32 r.val) 0 = 16 * (776 + 8 * t.val + r.val) := fun r => by
    rw [k0_off5_eq]; simp; omega
  have ld : ∀ (r : Fin 8) (x : S16.Idx), sE.view.readAt (Elt F) (Rect.unit (s := S25008) (k0_off5 t (BitVec.ofNat 32 r.val)) S16.size (k0_off5_inb t r)).toLoadRect (fetched e w old) x
      = mine e w (16 * (776 + 8 * t.val + r.val) + (x 0).val) := fun r x => by
    have h16 : (x 0).val < 16 := (x 0).isLt
    exact load_fetched e w old _ _ _ (off r) x (by omega)
  have chk : ∀ (r : Fin 8) (a : Fin 1) (x : S16.Idx), ((![addi k0_pay5 (sE.view.readAt (Elt F) (Rect.unit (s := S25008) (k0_off5 t (BitVec.ofNat 32 r.val)) S16.size (k0_off5_inb t r)).toLoadRect (fetched e w old))] : Fin 1 → IVec S16 32) a x).toNat < S8192.size a :=
    fun r => lanes_inb _ fun x => by rw [ld]; exact mine_lt he _ _
  unfold k0_t3_body
  rw [k0_part2_eq_skeleton]; unfold k0_part2_skel
  simp only [Prog.lift, Prog.bind_op, Prog.bind_ret, Prog.pure_eq_ret]
  iintro ⟨He, Hb⟩
  iapply (wp_load 𝒱₀ (V d (cV L) (jV L)) none Set.univ (m := sE) (S := Finset.univ) (Finset.subset_univ _)) $$ He; iintro He
  iapply (wp_load 𝒱₀ (V d (cV L) (jV L)) none Set.univ (m := sE) (S := Finset.univ) (Finset.subset_univ _)) $$ He; iintro He
  iapply (wp_load 𝒱₀ (V d (cV L) (jV L)) none Set.univ (m := sE) (S := Finset.univ) (Finset.subset_univ _)) $$ He; iintro He
  iapply (wp_load 𝒱₀ (V d (cV L) (jV L)) none Set.univ (m := sE) (S := Finset.univ) (Finset.subset_univ _)) $$ He; iintro He
  iapply (wp_load 𝒱₀ (V d (cV L) (jV L)) none Set.univ (m := sE) (S := Finset.univ) (Finset.subset_univ _)) $$ He; iintro He
  iapply (wp_load 𝒱₀ (V d (cV L) (jV L)) none Set.univ (m := sE) (S := Finset.univ) (Finset.subset_univ _)) $$ He; iintro He
  iapply (wp_load 𝒱₀ (V d (cV L) (jV L)) none Set.univ (m := sE) (S := Finset.univ) (Finset.subset_univ _)) $$ He; iintro He
  iapply (wp_load 𝒱₀ (V d (cV L) (jV L)) none Set.univ (m := sE) (S := Finset.univ) (Finset.subset_univ _)) $$ He; iintro He
  iapply (Entails.of_eq (wp_assume_of (P := k0_chk9 _) 𝒱₀ (V d (cV L) (jV L)) none Set.univ (chk 0)).symm)
  iapply (Entails.of_eq (wp_assume_of (P := k0_chk10 _) 𝒱₀ (V d (cV L) (jV L)) none Set.univ (chk 1)).symm)
  iapply (Entails.of_eq (wp_assume_of (P := k0_chk11 _) 𝒱₀ (V d (cV L) (jV L)) none Set.univ (chk 2)).symm)
  iapply (Entails.of_eq (wp_assume_of (P := k0_chk12 _) 𝒱₀ (V d (cV L) (jV L)) none Set.univ (chk 3)).symm)
  iapply (Entails.of_eq (wp_assume_of (P := k0_chk13 _) 𝒱₀ (V d (cV L) (jV L)) none Set.univ (chk 4)).symm)
  iapply (Entails.of_eq (wp_assume_of (P := k0_chk14 _) 𝒱₀ (V d (cV L) (jV L)) none Set.univ (chk 5)).symm)
  iapply (Entails.of_eq (wp_assume_of (P := k0_chk15 _) 𝒱₀ (V d (cV L) (jV L)) none Set.univ (chk 6)).symm)
  iapply (Entails.of_eq (wp_assume_of (P := k0_chk16 _) 𝒱₀ (V d (cV L) (jV L)) none Set.univ (chk 7)).symm)
  iapply (wp_count8 d (cV L) (jV L) (mine e w) (mine_lt he w) (776 + 8 * t.val) (ld 0) (ld 1) (ld 2) (ld 3) (ld 4) (ld 5) (ld 6) (ld 7)) $$ Hb; iintro Hb
  rw [wp_ret]; imodintro
  isplitl [He]; · iexact He
  iexact Hb

/-! ## The summing loop -/

/-- The summed table with its first `n` bins in place. -/
def summed (W : ℕ → BitVec 32) (f : S512.Idx → BitVec 32) (n : ℕ) : S512.Idx → BitVec 32 :=
  fun j => if (j 0).val < n then BitVec.ofNat 32 (total W 25000 (j 0).val) else f j

/-- The sum of the sixteen tables' vectors, at a lane. -/
theorem pay3_sum {v0 v1 v2 v3 v4 v5 v6 v7 v8 v9 v10 v11 v12 v13 v14 v15 : S16.Idx → BitVec 32} (x : S16.Idx) (c : ℕ → ℕ)
    (h0 : v0 x = BitVec.ofNat 32 (c 0)) (h1 : v1 x = BitVec.ofNat 32 (c 1)) (h2 : v2 x = BitVec.ofNat 32 (c 2)) (h3 : v3 x = BitVec.ofNat 32 (c 3))
    (h4 : v4 x = BitVec.ofNat 32 (c 4)) (h5 : v5 x = BitVec.ofNat 32 (c 5)) (h6 : v6 x = BitVec.ofNat 32 (c 6)) (h7 : v7 x = BitVec.ofNat 32 (c 7))
    (h8 : v8 x = BitVec.ofNat 32 (c 8)) (h9 : v9 x = BitVec.ofNat 32 (c 9)) (h10 : v10 x = BitVec.ofNat 32 (c 10)) (h11 : v11 x = BitVec.ofNat 32 (c 11))
    (h12 : v12 x = BitVec.ofNat 32 (c 12)) (h13 : v13 x = BitVec.ofNat 32 (c 13)) (h14 : v14 x = BitVec.ofNat 32 (c 14)) (h15 : v15 x = BitVec.ofNat 32 (c 15)) :
    k0_pay3 (F := F) v0 v1 v2 v3 v4 v5 v6 v7 v8 v9 v10 v11 v12 v13 v14 v15 x = BitVec.ofNat 32 (∑ l ∈ Finset.range 16, c l) := by
  show (((v0 x + v1 x) + (v2 x + v3 x)) + ((v4 x + v5 x) + (v6 x + v7 x))) + (((v8 x + v9 x) + (v10 x + v11 x)) + ((v12 x + v13 x) + (v14 x + v15 x))) = _
  rw [h0, h1, h2, h3, h4, h5, h6, h7, h8, h9, h10, h11, h12, h13, h14, h15]
  simp only [← BitVec.ofNat_add]
  refine congrArg _ ?_
  simp only [Finset.sum_range_succ, Finset.sum_range_zero]; omega

theorem trip4 (W : ℕ → BitVec 32) (f : S512.Idx → BitVec 32) (t : Fin k0_t4_loop.trips) (acc : BitVec 32) :
    iprop(tbPts (F := F) d L (tab (full W 8)) ∗ toPts (F := F) d L (summed W f (16 * t.val)))
      ⊢ wp frame (wpE (defs₀ (F := F)) 𝒱₀ (V d (cV L) (jV L)) none) Set.univ
          (k0_t4_body L eV (Memref.isWhole_whole _) oV (Memref.isWhole_whole _) sE (Memref.isWhole_whole _) sB (Memref.isWhole_whole _)
            sO (Memref.isWhole_whole _) cc0_scratch3 cc0_scratch4 cc0_scoped0 t acc)
          fun _ => iprop(tbPts (F := F) d L (tab (full W 8)) ∗ toPts (F := F) d L (summed W f (16 * (t.val + 1)))) := by
  have ht : t.val < 32 := lt_of_lt_of_le t.isLt k0_t4_abs.2.1
  have ld : ∀ (r : Fin 16) (x : S16.Idx), sB.view.readAt (Elt F) (Rect.unit (s := S8192) (k0_off6 t (BitVec.ofNat 32 (512 * r.val))) S16.size (k0_off6_inb t r)).toLoadRect (tab (full W 8)) x
      = BitVec.ofNat 32 (full W 8 r.val (16 * t.val + (x 0).val)) := fun r x => by
    have h16 : (x 0).val < 16 := (x 0).isLt
    refine load_tab _ _ _ _ _ ?_ x (by omega)
    rw [k0_off6_eq]; simp
  unfold k0_t4_body
  rw [k0_part3_eq_skeleton]; unfold k0_part3_skel
  simp only [Prog.lift, Prog.bind_op, Prog.bind_ret, Prog.pure_eq_ret]
  iintro ⟨Hb, Ho⟩
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sB) (S := Finset.univ) (Finset.subset_univ _)) $$ Hb; iintro Hb
  iapply (wp_load 𝒱₀ (V d (cV L) (jV L)) none Set.univ (m := sO) (S := Finset.univ) (Finset.subset_univ _)) $$ Ho; iintro Ho
  iapply (wp_store 𝒱₀ (V d (cV L) (jV L)) none Set.univ (m := sO) (r := Rect.unit (s := S512) (k0_off7 t) S16.size (k0_off7_inb t)) (f := summed W f (16 * t.val)) (S := Finset.univ) (Finset.subset_univ _)) $$ Ho; iintro Ho
  rw [wp_ret]; imodintro
  isplitl [Hb]; · iexact Hb
  iapply (Entails.of_eq (pointsTo_congr ?_)) $$ Ho
  intro j _
  have h0 : k0_off7 t 0 = 16 * t.val := by rw [k0_off7_eq]; rfl
  rw [write_sO _ _ _ _ _ _ h0]
  unfold summed
  by_cases h : (j 0).val < 16 * t.val
  · rw [if_pos (show (j 0).val < 16 * (t.val + 1) by omega), dif_neg (by omega), if_pos h]
  · by_cases h' : (j 0).val < 16 * (t.val + 1)
    · rw [if_pos h', dif_pos (by omega)]
      have hb : 16 * t.val + ((ln ⟨(j 0).val - 16 * t.val, by omega⟩) 0).val = (j 0).val := by
        show 16 * t.val + ((j 0).val - 16 * t.val) = _; omega
      refine (pay3_sum _ (fun l => full W 8 l (j 0).val) ?_ ?_ ?_ ?_ ?_ ?_ ?_ ?_ ?_ ?_ ?_ ?_ ?_ ?_ ?_ ?_).trans (congrArg _ (sum_full W (j 0).val)) <;>
        [refine (ld 0 _).trans ?_; refine (ld 1 _).trans ?_; refine (ld 2 _).trans ?_; refine (ld 3 _).trans ?_;
         refine (ld 4 _).trans ?_; refine (ld 5 _).trans ?_; refine (ld 6 _).trans ?_; refine (ld 7 _).trans ?_;
         refine (ld 8 _).trans ?_; refine (ld 9 _).trans ?_; refine (ld 10 _).trans ?_; refine (ld 11 _).trans ?_;
         refine (ld 12 _).trans ?_; refine (ld 13 _).trans ?_; refine (ld 14 _).trans ?_; refine (ld 15 _).trans ?_] <;>
        (rw [hb]; rfl)
    · rw [if_neg h', dif_neg (by omega), if_neg h]

end Cert.Proof
-- ==== Proof.Tile.lean ====
/-
  One tile's task, from its own words of the edge array and its own row of the table of histograms to that row holding
  the histogram of those words.
-/
module

public import proofs.«01_k».proof.Proof.Trips
public import Idealize.ShloMosaic.Lib.Transfers
public import Idealize.ShloMosaic.Lib.WordArith

@[expose] public section

noncomputable section

namespace Cert.Proof

open Cert.KernelIdeal Cert.KernelIdeal.Gen
open Cert.Proof.Hist (tab cnt full total hit lanes lanes_inb ln storeIdx_tab cnt_succ)

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev EC : UEmb Counters (MT nD τ sig (HIx 1) (Elt F) ℕ UU ℕ) := countersEmb

/-! ## The slices the copies move -/

section Slices

variable (L : grid0.Coords)

abbrev eA : Memref sig .scVector .hbm S12416 .i32 := eV.slice (Rect.unit (s := S800000) (k0_off1 L) S12416.size (k0_off1_inb L)) (fun _ => rfl)
abbrev eB : Memref sig .scVector .hbm S12584 .i32 := eV.slice (Rect.unit (s := S800000) (k0_off2 L) S12584.size (k0_off2_inb L)) (fun _ => rfl)
abbrev sA : Memref sig .scVector .vmem S12416 .i32 := sE.slice (Rect.unit (s := S25008) ![0] S12416.size inb_S25008_S12416_0) (fun _ => rfl)
abbrev sC : Memref sig .scVector .vmem S12584 .i32 := sE.slice (Rect.unit (s := S25008) ![12416] S12584.size inb_S25008_S12584_12416) (fun _ => rfl)
abbrev oRow : Memref sig .scVector .hbm S512 .i32 :=
  (oV.slice (Rect.unit (s := S32x512) (k0_off8 L) S1x512.size (k0_off8_inb L)) (fun _ => rfl)).squeeze S512 squeezes_S1x512_S512

theorem off1 : k0_off1 L 0 = 25000 * wid L := by rw [k0_off1_eq]; show 50000 * _ + 25000 * _ = _; ring
theorem off2 : k0_off2 L 0 = 25000 * wid L + 12416 := by rw [k0_off2_eq]; simp; ring

theorem set_eA : (eA L).view.set = seg 800000 (25000 * wid L) (25000 * wid L + 12416) := by
  show ((View.whole main_arg1_scv).slice _).set = _
  rw [View.set_slice_whole]; exact unit_seg (off1 L) rfl
theorem set_eB : (eB L).view.set = seg 800000 (25000 * wid L + 12416) (25000 * wid L + 25000) := by
  show ((View.whole main_arg1_scv).slice _).set = _
  rw [View.set_slice_whole]; exact unit_seg (off2 L) (by omega)
theorem set_sA : sA.view.set = seg 25008 0 12416 := by
  show ((View.whole cc0_scratch0).slice _).set = _
  rw [View.set_slice_whole]; exact unit_seg rfl rfl
theorem set_sC : sC.view.set = seg 25008 12416 25000 := by
  show ((View.whole cc0_scratch0).slice _).set = _
  rw [View.set_slice_whole]; exact unit_seg rfl rfl

/-- What a copy of `n` words lands at the fetched words' elements from `lo`. -/
theorem copy_lands (n lo w : ℕ) (off : Fin 1 → ℕ) (h₁ : ∀ a, off a + (![n] : Fin 1 → ℕ) a ≤ S800000.size a)
    (h₂ : ∀ a, (![lo] : Fin 1 → ℕ) a + (![n] : Fin 1 → ℕ) a ≤ S25008.size a) (hoff : off 0 = 25000 * w + lo)
    (e : S800000.Idx → BitVec 32) (f : S25008.Idx → BitVec 32) (j : S25008.Idx) (hj : lo ≤ (j 0).val ∧ (j 0).val < lo + n) :
    (sE.access (Rect.unit (s := S25008) ![lo] ![n] h₂)).write (Elt F) f
        ((eV.access (Rect.unit (s := S800000) off ![n] h₁)).read (Elt F) e) Finset.univ j = mine e w (j 0).val := by
  have ej : j = (Rect.unit (s := S25008) ![lo] ![n] h₂).toLoadRect.idx (Shape.ofLane (d := ![n]) ⟨(j 0).val - lo, show _ < n by omega⟩) := by
    funext a; obtain rfl : a = 0 := Subsingleton.elim _ _
    apply Fin.ext; rw [unit_idx1]
    show (j 0).val = lo + ((j 0).val - lo); omega
  conv_lhs => rw [ej]
  refine (write_access_idx (F := F) cc0_scratch0 (Rect.unit (s := S25008) ![lo] ![n] h₂) f _ _).trans ?_
  refine (read_access (F := F) main_arg1_scv (Rect.unit (s := S800000) off ![n] h₁) e _).trans ?_
  unfold mine
  refine (word_at e _ _ ?_).symm
  rw [unit_idx1, hoff]
  show 25000 * w + lo + ((j 0).val - lo) = _; omega

theorem copy_keeps (n lo : ℕ) (h₂ : ∀ a, (![lo] : Fin 1 → ℕ) a + (![n] : Fin 1 → ℕ) a ≤ S25008.size a)
    (f : S25008.Idx → BitVec 32) (x) (j : S25008.Idx) (hj : ¬ (lo ≤ (j 0).val ∧ (j 0).val < lo + n)) :
    (sE.access (Rect.unit (s := S25008) ![lo] ![n] h₂)).write (Elt F) f x Finset.univ j = f j :=
  write_access_of_not_mem (F := F) cc0_scratch0 _ _ _ _ (by rw [mem_unit1]; exact hj)

theorem landsA (e : S800000.Idx → BitVec 32) (f : S25008.Idx → BitVec 32) (j : S25008.Idx) (hj : j ∈ seg 25008 0 12416) :
    sA.view.write (Elt F) f ((eA L).view.read (Elt F) e) Finset.univ j = fetched e (wid L) f j := by
  rw [mem_seg] at hj
  refine (copy_lands (F := F) 12416 0 (wid L) (k0_off1 L) (k0_off1_inb L) inb_S25008_S12416_0 (off1 L) e f j (by omega)).trans ?_
  unfold fetched; rw [if_pos (by omega)]

theorem landsC (e : S800000.Idx → BitVec 32) (f : S25008.Idx → BitVec 32) (j : S25008.Idx) (hj : j ∈ Finset.univ \ seg 25008 0 12416) :
    sC.view.write (Elt F) f ((eB L).view.read (Elt F) e) Finset.univ j = fetched e (wid L) f j := by
  have hj' : ¬ (j 0).val < 12416 := fun h => (Finset.mem_sdiff.mp hj).2 (mem_seg.mpr ⟨Nat.zero_le _, h⟩)
  unfold fetched
  by_cases h : (j 0).val < 25000
  · rw [if_pos h]
    exact copy_lands (F := F) 12584 12416 (wid L) (k0_off2 L) (k0_off2_inb L) inb_S25008_S12584_12416 (off2 L) e f j (by omega)
  · rw [if_neg h]
    exact copy_keeps (F := F) 12584 12416 inb_S25008_S12584_12416 f _ j (by omega)

/-- Where the tile's row lies in the table. -/
theorem oRow_emb (x : S512.Idx) : (((oRow L).view.emb x) 0).val = wid L ∧ (((oRow L).view.emb x) 1).val = (x 0).val := by
  have key : ∀ y : S1x512.Idx, (((oV.slice (Rect.unit (s := S32x512) (k0_off8 L) S1x512.size (k0_off8_inb L)) (fun _ => rfl)).view.emb y) 0).val = wid L + (y 0).val
      ∧ (((oV.slice (Rect.unit (s := S32x512) (k0_off8 L) S1x512.size (k0_off8_inb L)) (fun _ => rfl)).view.emb y) 1).val = (y 1).val := by
    intro y
    have h0 : k0_off8 L 0 = wid L := by rw [k0_off8_eq]; rfl
    have h1 : k0_off8 L 1 = 0 := by rw [k0_off8_eq]; rfl
    constructor
    · show k0_off8 L 0 + 1 * (y 0).val = _
      rw [h0, Nat.one_mul]
    · show k0_off8 L 1 + 1 * (y 1).val = _
      rw [h1]; omega
  have hx : Shape.reshapeEquiv (s := S1x512) (s' := S512) squeezes_S1x512_S512.numel_eq x = Fin.cons ⟨0, Nat.one_pos⟩ x :=
    Shape.reshapeEquiv_cons_one _ x
  have he : (oRow L).view.emb x = (oV.slice (Rect.unit (s := S32x512) (k0_off8 L) S1x512.size (k0_off8_inb L)) (fun _ => rfl)).view.emb
      (Fin.cons ⟨0, Nat.one_pos⟩ x : S1x512.Idx) := by rw [← hx]; rfl
  obtain ⟨k0, k1⟩ := key (Fin.cons ⟨0, Nat.one_pos⟩ x : S1x512.Idx)
  rw [he]
  exact ⟨k0, k1⟩

theorem set_oRow : (oRow L).view.set = rowOf (wid L) := by
  ext j
  rw [mem_rowOf]
  constructor
  · intro h
    obtain ⟨x, -, rfl⟩ := Finset.mem_map.mp h
    exact (oRow_emb L x).1
  · intro h
    have h1 : (j 1).val < 512 := (j 1).isLt
    refine Finset.mem_map.mpr ⟨Shape.ofLane (d := ![512]) ⟨(j 1).val, h1⟩, Finset.mem_univ _, ?_⟩
    obtain ⟨e0, e1⟩ := oRow_emb L (Shape.ofLane (d := ![512]) ⟨(j 1).val, h1⟩)
    funext a
    match a with
    | 0 => exact Fin.ext (e0.trans h.symm)
    | 1 => exact Fin.ext e1

/-- What the copy out lands at the tile's row: the summed table. -/
theorem row_lands (g : S32x512.Idx → BitVec 32) (f : S512.Idx → BitVec 32) (j : S32x512.Idx) (hj : j ∈ rowOf (wid L)) :
    (oRow L).view.write (Elt F) g (sO.view.read (Elt F) f) Finset.univ j = f (Shape.ofLane (d := ![512]) ⟨(j 1).val, (j 1).isLt⟩) := by
  rw [← set_oRow] at hj
  obtain ⟨x, -, rfl⟩ := Finset.mem_map.mp hj
  refine (View.write_emb_of_mem (Val := Elt F) (v := (oRow L).view) (g : Buf (Elt F) (((SparseCore.T (nD := nD) (τ := τ) 0).loc main_v0))) _ (Finset.mem_univ x)).trans ?_
  refine (cast_eq _ _).trans ?_
  refine congrArg f ?_
  funext a
  match a with
  | 0 => exact Fin.ext (oRow_emb L x).2.symm

end Slices

/-! ## The loops' counts, and where the tables start and end -/

theorem t1_trips : k0_t1_loop.trips = 512 := by decide
theorem t2_trips : k0_t2_loop.trips = 97 := by decide
theorem t3_trips : k0_t3_loop.trips = 98 := by decide
theorem t4_trips : k0_t4_loop.trips = 32 := by decide

theorem zeroed_none (f : S8192.Idx → BitVec 32) : zeroed f (16 * 0) = f := by
  funext j; unfold zeroed; rw [if_neg (by omega)]
theorem zeroed_all (f : S8192.Idx → BitVec 32) (W : ℕ → BitVec 32) : zeroed f (16 * 512) = tab (cnt W (8 * 0)) := by
  funext j
  have : (j 0).val < 8192 := (j 0).isLt
  unfold zeroed tab; rw [if_pos (by omega)]; simp [cnt]
theorem summed_none (W : ℕ → BitVec 32) (f : S512.Idx → BitVec 32) : summed W f (16 * 0) = f := by
  funext j; unfold summed; rw [if_neg (by omega)]
theorem summed_all (e : S800000.Idx → BitVec 32) (w : ℕ) (f : S512.Idx → BitVec 32) (j : S32x512.Idx) (hj : (j 0).val = w) :
    summed (mine e w) f (16 * 32) (Shape.ofLane (d := ![512]) ⟨(j 1).val, (j 1).isLt⟩) = histTab e j := by
  have h1 : (j 1).val < 512 := (j 1).isLt
  unfold summed histTab
  rw [if_pos (by show (j 1).val < _; omega), hj]
  rfl

/-! ## The tail vector: its first eight lanes, each clamped to the bins -/

/-- The tail vector with each lane clamped to the bins. -/
def clamped (v : S16.Idx → BitVec 32) : S16.Idx → BitVec 32 := fun x => IntOp.minsi 511#32 (IntOp.maxsi 0#32 (v x))

theorem toNat_clamped (v : S16.Idx → BitVec 32) (x : S16.Idx) : (clamped v x).toNat = min 511 (v x).toInt.toNat := by
  have e := WordArith.toNat_maxsi_zero (v x)
  have h := BitVec.toInt_eq_toNat_cond (v x)
  have hl := (v x).isLt
  unfold clamped
  rw [WordArith.toNat_minsi_of_lt 511#32 _ (by decide) (by rw [e]; split at h <;> omega), e]
  rfl

theorem clamped_lt (v : S16.Idx → BitVec 32) (x : S16.Idx) : (clamped v x).toNat < 512 := by
  rw [toNat_clamped]; omega

theorem clamped_of_lt (v : S16.Idx → BitVec 32) (x : S16.Idx) (h : (v x).toNat < 512) : clamped v x = v x := by
  apply BitVec.eq_of_toNat_eq
  have e := BitVec.toInt_eq_toNat_cond (v x)
  rw [if_pos (by omega)] at e
  rw [toNat_clamped, e]; omega

theorem tail_mask : ∀ k : Fin 16, k0_pay1 (ln k) = 1 ↔ k.val < 8 := by decide

theorem tail_step (W : ℕ → BitVec 32) (hW : ∀ n, (W n).toNat < 512) (v : S16.Idx → BitVec 32)
    (hv : ∀ x : S16.Idx, (x 0).val < 8 → v x = W (16 * 1562 + (x 0).val)) (k : Fin 16) (b : ℕ) (_hb : b < 512) :
    full W 8 k.val b = cnt W 1562 k.val b + if k0_pay1 (ln k) = 1 then hit (clamped v (ln k)) b else 0 := by
  unfold full
  by_cases hk : k.val < 8
  · have e := hv (ln k) hk
    rw [if_pos hk, if_pos ((tail_mask k).mpr hk), clamped_of_lt v (ln k) (by rw [e]; exact hW _), e]
    rfl
  · rw [if_neg hk, if_neg fun h => hk ((tail_mask k).mp h)]

end Cert.Proof
-- ==== Proof.TileRun.lean ====
/-
  One tile's task run by values: from its own words of the edge array and its own row of the table of histograms to that
  row holding the histogram of those words.
-/
module

public import proofs.«01_k».proof.Proof.Tile

@[expose] public section

noncomputable section

namespace Cert.Proof

open Cert.KernelIdeal Cert.KernelIdeal.Gen
open Cert.Proof.Hist (tab cnt full total hit lanes lanes_inb ln storeIdx_tab cnt_succ)

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The tile's cells, its scratch, and the slices as elements of the arrays -/

abbrev cellA (c : Fin τ.nSC) (i : Fin τ.nSub) : GSem nD τ sig := (V d c i, .dma cc0_scratch3.sem)
abbrev cellC (c : Fin τ.nSC) (i : Fin τ.nSub) : GSem nD τ sig := (V d c i, .dma cc0_scratch4.sem)
abbrev cellO (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cellA d (cV L) (jV L)) 0 ∗ semVal (cellC d (cV L) (jV L)) 0 ∗ semVal (cellO d (cV L) (jV L)) 0
          ∗ bigSep ((((ownCells (V d (cV L) (jV L))).erase (cellA d (cV L) (jV L))).erase (cellC d (cV L) (jV L))).erase (cellO d (cV L) (jV L)))
              fun g => semVal g 0) := by
  unfold SparseCore.Cfg.ownSems0
  rw [SparseCore.bigSep_erase' ((mem_ownCells (g := cellA d (cV L) (jV L))).mpr ⟨rfl, by
      show (SemLoc.dma cc0_scratch3.sem : SemLoc sig).isScoped .scVector = true; decide⟩),
    SparseCore.bigSep_erase' (Finset.mem_erase.mpr ⟨by simp [cellA, cellC]; decide, (mem_ownCells (g := cellC d (cV L) (jV L))).mpr ⟨rfl, by
      show (SemLoc.dma cc0_scratch4.sem : SemLoc sig).isScoped .scVector = true; decide⟩⟩),
    SparseCore.bigSep_erase' (Finset.mem_erase.mpr ⟨by simp [cellC, cellO]; decide, Finset.mem_erase.mpr ⟨by simp [cellA, cellO]; decide,
      (mem_ownCells (g := cellO d (cV L) (jV L))).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

abbrev ePts (M : Finset S800000.Idx) (f : S800000.Idx → BitVec 32) : sProp 𝕄 := eLoc d ↦[M]{fullShare} (f : Buf (Elt F) (eLoc d))
abbrev oPts (M : Finset S32x512.Idx) (f : S32x512.Idx → BitVec 32) : sProp 𝕄 := oLoc d ↦[M]{fullShare} (f : Buf (Elt F) (oLoc d))

omit [FloatOps F] in
theorem pts_eA (f : S800000.Idx → BitVec 32) :
    ((eA L).view.loc (V d (cV L) (jV L)) ↦[(eA L).view.set]{fullShare} (f : Buf (Elt F) (eLoc d)) : sProp 𝕄)
      = ePts (F := F) d (seg 800000 (25000 * wid L) (25000 * wid L + 12416)) f := by
  rw [set_eA]
omit [FloatOps F] in
theorem pts_eB (f : S800000.Idx → BitVec 32) :
    ((eB L).view.loc (V d (cV L) (jV L)) ↦[(eB L).view.set]{fullShare} (f : Buf (Elt F) (eLoc d)) : sProp 𝕄)
      = ePts (F := F) d (seg 800000 (25000 * wid L + 12416) (25000 * wid L + 25000)) f := by
  rw [set_eB]

omit [FloatOps F] in
theorem ePts_split (f : S800000.Idx → BitVec 32) (w : ℕ) :
    (ePts (F := F) d (seg 800000 (25000 * w) (25000 * w + 25000)) f : sProp 𝕄)
      ⊣⊢ iprop(ePts (F := F) d (seg 800000 (25000 * w) (25000 * w + 12416)) f ∗ ePts (F := F) d (seg 800000 (25000 * w + 12416) (25000 * w + 25000)) f) := by
  rw [← seg_union (N := 800000) (a := 25000 * w) (b := 25000 * w + 12416) (c := 25000 * w + 25000) (by omega) (by omega)]
  exact pointsTo_union (seg_disjoint (by omega))

omit [FloatOps F] in
theorem tePts_split (f : S25008.Idx → BitVec 32) :
    (tePts (F := F) d L Finset.univ f : sProp 𝕄)
      ⊣⊢ iprop(tePts (F := F) d L (seg 25008 0 12416) f ∗ tePts (F := F) d L (Finset.univ \ seg 25008 0 12416) f) :=
  pointsTo_split_subset (Finset.subset_univ _)

theorem set_sC_subset : sC.view.set ⊆ Finset.univ \ seg 25008 0 12416 := by
  rw [set_sC]
  intro j hj
  rw [mem_seg] at hj
  exact Finset.mem_sdiff.mpr ⟨Finset.mem_univ _, fun h => by rw [mem_seg] at h; omega⟩

/-- What the first copy landed, as the fetched words. -/
theorem pts_landsA (e : S800000.Idx → BitVec 32) (fs : S25008.Idx → BitVec 32) :
    (tePts (F := F) d L (seg 25008 0 12416) (sA.view.write (Elt F) fs ((eA L).view.read (Elt F) e) Finset.univ) : sProp 𝕄)
      = tePts (F := F) d L (seg 25008 0 12416) (fetched e (wid L) fs) :=
  pointsTo_congr (landsA (F := F) L e fs)

/-- What the second copy landed, as the fetched words. -/
theorem pts_landsC (e : S800000.Idx → BitVec 32) (fs : S25008.Idx → BitVec 32) :
    (tePts (F := F) d L (Finset.univ \ seg 25008 0 12416) (sC.view.write (Elt F) fs ((eB L).view.read (Elt F) e) Finset.univ) : sProp 𝕄)
      = tePts (F := F) d L (Finset.univ \ seg 25008 0 12416) (fetched e (wid L) fs) :=
  pointsTo_congr (landsC (F := F) L e fs)

/-! ## The first half: both copies in, the tables zeroed, and the first 776 vectors counted -/

set_option maxHeartbeats 1600000 in
theorem first_half (e : S800000.Idx → BitVec 32) (he : ∀ j, (e j).toNat < 512) (fs : S25008.Idx → BitVec 32) (fb : S8192.Idx → BitVec 32)
    (O : CellTallies nD τ sig (HIx 1)) (W : Waits sig (HIx 1)) (hO : ∀ g, O g none = 0)
    {Q : (Σ' (_ : IVec S16 32) (_ : IVec S16 32), BitVec 32) → sProp 𝕄} :
    iprop(levAts (K (F := F)).L (K (F := F)).lev
        ∗ ePts (F := F) d (seg 800000 (25000 * wid L) (25000 * wid L + 25000)) e
        ∗ tePts (F := F) d L Finset.univ fs ∗ tbPts (F := F) d L fb
        ∗ semVal (cellA d (cV L) (jV L)) 0 ∗ semVal (cellC d (cV L) (jV L)) 0 ∗ owes (V d (cV L) (jV L)) O W)
      ⊢ iprop((iprop(ePts (F := F) d (seg 800000 (25000 * wid L) (25000 * wid L + 25000)) e
            ∗ tePts (F := F) d L Finset.univ (fetched e (wid L) fs) ∗ tbPts (F := F) d L (tab (cnt (mine e (wid L)) 776))
            ∗ semVal (cellA d (cV L) (jV L)) 0 ∗ semVal (cellC d (cV L) (jV L)) 0
            ∗ owes (V d (cV L) (jV L)) O (insert (SemLoc.dma cc0_scratch4.sem, none) (insert (SemLoc.dma cc0_scratch3.sem, none) W)))
          -∗ Q ⟨k0_pay5, k0_pay6, 0#32⟩)
        -∗ wp frame (wpE (defs₀ (F := F)) 𝒱₀ (V d (cV L) (jV L)) none) Set.univ
          (k0_part4 L eV (Memref.isWhole_whole _) oV (Memref.isWhole_whole _) sE (Memref.isWhole_whole _) sB (Memref.isWhole_whole _)
            sO (Memref.isWhole_whole _) cc0_scratch3 cc0_scratch4 cc0_scoped0) Q) := by
  rw [k0_part4_eq_skeleton]; unfold k0_part4_skel
  simp only [Prog.lift, Prog.bind_op, Prog.bind_ret, Prog.pure_eq_ret]
  iintro ⟨#Hlv, He, Hs, Hb, HsA, HsC, HO⟩ Hk
  ihave He := (ePts_split (F := F) d e (wid L)).1 $$ He
  icases He with ⟨HeA, HeB⟩
  ihave HeA := (Entails.of_eq (pts_eA (F := F) d L _).symm) $$ HeA
  ihave HeB := (Entails.of_eq (pts_eB (F := F) d L _).symm) $$ HeB
  ihave Hs := (tePts_split (F := F) d L fs).1 $$ Hs
  icases Hs with ⟨HsLo, HsHi⟩
  -- the first copy's issue
  iapply (Transfers.wp_dmaLocal EC 𝒱₀ (V d (cV L) (jV L)) none (src := eA L) (dst := sA) (sm := .dma cc0_scratch3.sem) (q := fullShare)
      (fs := (e : Buf (Elt F) (eLoc d))) (Sd := seg 25008 0 12416) (fd := (fs : Buf (Elt F) ((V d (cV L) (jV L)).loc cc0_scratch0)))
      none _ rfl (View.dmaCredit_pos _ (by decide)) (set_sA.subset)) $$ [HeA HsLo HsA]
  · isplitl [HeA]; · iexact HeA
    isplitl [HsLo]; · iexact HsLo
    iexact HsA
  iintro HfA
  -- the second copy's issue
  iapply (Transfers.wp_dmaLocal EC 𝒱₀ (V d (cV L) (jV L)) none (src := eB L) (dst := sC) (sm := .dma cc0_scratch4.sem) (q := fullShare)
      (fs := (e : Buf (Elt F) (eLoc d))) (Sd := Finset.univ \ seg 25008 0 12416) (fd := (fs : Buf (Elt F) ((V d (cV L) (jV L)).loc cc0_scratch0)))
      none _ rfl (View.dmaCredit_pos _ (by decide)) set_sC_subset) $$ [HeB HsHi HsC]
  · isplitl [HeB]; · iexact HeB
    isplitl [HsHi]; · iexact HsHi
    iexact HsC
  iintro HfC
  -- the tables zeroed
  iapply (Scf.wp_for_bind frame (wpE (defs₀ (F := F)) 𝒱₀ (V d (cV L) (jV L)) none) Set.univ _ _ _ _ _ _
      (fun n _ => tbPts (F := F) d L (zeroed fb (16 * n))) (fun t acc => trip1 d L fb t acc)) $$ [Hb]
  · rw [zeroed_none]; iexact Hb
  iintro %a1 Hb
  ihave Hb := (Entails.of_eq (congrArg (fun f => tbPts (F := F) d L f)
      ((congrArg (fun n => zeroed fb (16 * n)) t1_trips).trans (zeroed_all fb (mine e (wid L)))))) $$ Hb
  -- the first copy's wait
  iapply (Transfers.wp_waitLocalO EC 𝒱₀ (V d (cV L) (jV L)) none none (O := O) (W := W) rfl) $$ [HfA HO]
  · isplitl [HfA]; · iexact HfA
    isplitl [HO]; · iexact HO
    iapply ((K (F := F)).mayWait_none (SemLoc.dma cc0_scratch3.sem) hO); iexact Hlv
  iintro ⟨⟨HsLo, HeA⟩, HsA, HO⟩
  ihave HsLo := (Entails.of_eq (pts_landsA (F := F) d L e fs)) $$ HsLo
  -- the first loop of counts
  iapply (Scf.wp_for_bind frame (wpE (defs₀ (F := F)) 𝒱₀ (V d (cV L) (jV L)) none) Set.univ _ _ _ _ _ _
      (fun n _ => iprop(tePts (F := F) d L (seg 25008 0 12416) (fetched e (wid L) fs) ∗ tbPts (F := F) d L (tab (cnt (mine e (wid L)) (8 * n)))))
      (fun t acc => trip2 d L e he (wid L) fs t acc)) $$ [HsLo Hb]
  · isplitl [HsLo]; · iexact HsLo
    iexact Hb
  iintro %a2 ⟨HsLo, Hb⟩
  ihave Hb := (Entails.of_eq (congrArg (fun n => tbPts (F := F) d L (tab (cnt (mine e (wid L)) (8 * n)))) t2_trips)) $$ Hb
  -- the second copy's wait
  iapply (Transfers.wp_waitLocalO EC 𝒱₀ (V d (cV L) (jV L)) none none (O := O) (W := insert (SemLoc.dma cc0_scratch3.sem, none) W) rfl) $$ [HfC HO]
  · isplitl [HfC]; · iexact HfC
    isplitl [HO]; · iexact HO
    iapply ((K (F := F)).mayWait_none (SemLoc.dma cc0_scratch4.sem) hO); iexact Hlv
  iintro ⟨⟨HsHi, HeB⟩, HsC, HO⟩
  ihave HsHi := (Entails.of_eq (pts_landsC (F := F) d L e fs)) $$ HsHi
  rw [wp_ret]; imodintro
  iapply Hk
  isplitl [HeA HeB]
  · iapply (ePts_split (F := F) d e (wid L)).2
    isplitl [HeA]
    · iapply (Entails.of_eq (pts_eA (F := F) d L _)); iexact HeA
    · iapply (Entails.of_eq (pts_eB (F := F) d L _)); iexact HeB
  isplitl [HsLo HsHi]
  · iapply (tePts_split (F := F) d L _).2
    isplitl [HsLo]; · iexact HsLo
    iexact HsHi
  isplitl [Hb]; · iexact Hb
  isplitl [HsA]; · iexact HsA
  isplitl [HsC]; · iexact HsC
  iexact HO

/-! ## The whole task -/

omit [FloatOps F] in
theorem pts_oRow (g : S32x512.Idx → BitVec 32) :
    ((oRow L).view.loc (V d (cV L) (jV L)) ↦[(oRow L).view.set]{fullShare} (g : Buf (Elt F) (oLoc d)) : sProp 𝕄)
      = oPts (F := F) d (rowOf (wid L)) g := by
  rw [set_oRow]

omit [FloatOps F] in
theorem pts_sO (f : S512.Idx → BitVec 32) :
    (sO.view.loc (V d (cV L) (jV L)) ↦[sO.view.set]{fullShare} (f : Buf (Elt F) ((V d (cV L) (jV L)).loc cc0_scratch2)) : sProp 𝕄)
      = toPts (F := F) d L f := by
  rw [show sO.view.set = Finset.univ from View.set_whole _]

/-- What the copy out landed, as the row of the table of histograms. -/
theorem pts_lands_row (e : S800000.Idx → BitVec 32) (g : S32x512.Idx → BitVec 32) (f : S512.Idx → BitVec 32) :
    (oPts (F := F) d (rowOf (wid L)) ((oRow L).view.write (Elt F) g (sO.view.read (Elt F) (summed (mine e (wid L)) f (16 * 32))) Finset.univ) : sProp 𝕄)
      = oPts (F := F) d (rowOf (wid L)) (histTab e) :=
  pointsTo_congr fun j hj => (row_lands (F := F) L g _ j hj).trans (summed_all e (wid L) f j (mem_rowOf.mp hj))

/-- A word vector of the fetched words, at a lane: below 512, and the word it is. -/
theorem vec_at (e : S800000.Idx → BitVec 32) (he : ∀ j, (e j).toNat < 512) (w : ℕ) (old : S25008.Idx → BitVec 32) (off : Fin 1 → ℕ) (inb) (n : ℕ)
    (hn : off 0 = 16 * n) (h : n < 1562) (x : S16.Idx) :
    (sE.view.readAt (Elt F) (Rect.unit (s := S25008) off S16.size inb).toLoadRect (fetched e w old) x : BitVec 32).toNat < 512
      ∧ sE.view.readAt (Elt F) (Rect.unit (s := S25008) off S16.size inb).toLoadRect (fetched e w old) x = mine e w (16 * n + (x 0).val) := by
  have h16 : (x 0).val < 16 := (x 0).isLt
  have e1 := load_fetched (F := F) e w old off inb (16 * n) hn x (by omega)
  exact ⟨by rw [e1]; exact mine_lt he _ _, e1⟩

theorem vec2 (e : S800000.Idx → BitVec 32) (w : ℕ) (old : S25008.Idx → BitVec 32) (x : S16.Idx) (hx : (x 0).val < 8) :
    sE.view.readAt (Elt F) (Rect.unit (s := S25008) ![24992] S16.size inb_S25008_S16_24992).toLoadRect (fetched e w old) x = mine e w (16 * 1562 + (x 0).val) :=
  load_fetched (F := F) e w old ![24992] inb_S25008_S16_24992 (16 * 1562) rfl x (by omega)

theorem one_more (W : ℕ → BitVec 32) (v : S16.Idx → BitVec 32) (n : ℕ) (h : ∀ x, v x = W (16 * n + (x 0).val)) (k : Fin 16) (b : ℕ) (_hb : b < 512) :
    cnt W (n + 1) k.val b = cnt W n k.val b + if (fun _ => 1#1 : IVec S16 1) (ln k) = 1 then hit (v (ln k)) b else 0 := by
  rw [cnt_succ, h]; exact congrArg _ (if_pos rfl).symm

set_option maxHeartbeats 1600000 in
/-- The task on vector subcore `(L 0, L 1)` of device `d`. -/
theorem tile_body (hF : (K (F := F)).Facts) (e : S800000.Idx → BitVec 32) (he : ∀ j, (e j).toNat < 512) (g : S32x512.Idx → BitVec 32)
    (O : CellTallies nD τ sig (HIx 1)) (W : Waits sig (HIx 1)) (hO : ∀ g, O g none = 0) :
    iprop(levAts (K (F := F)).L (K (F := F)).lev ∗ emp
        ∗ (ePts (F := F) d (seg 800000 (25000 * wid L) (25000 * wid L + 25000)) e ∗ oPts (F := F) d (rowOf (wid L)) g)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_hist L eV (Memref.isWhole_whole _) oV (Memref.isWhole_whole _) sE (Memref.isWhole_whole _) sB (Memref.isWhole_whole _)
            sO (Memref.isWhole_whole _) cc0_scratch3 cc0_scratch4 cc0_scoped0)
          fun _ => iprop((ePts (F := F) d (seg 800000 (25000 * wid L) (25000 * wid L + 25000)) e ∗ oPts (F := F) d (rowOf (wid L)) (histTab e))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_hist_eq_skeleton]; unfold cc0_hist_skel
  rw [wp_bind]
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  iintro ⟨#Hlv, -, ⟨He, Ho⟩, ⟨⟨%fs, Hs⟩, ⟨%fb, Hb⟩, ⟨%fo, Hc⟩, Hbufs⟩, ⟨HsA, HsC, HsO, Hsems⟩, HO⟩
  iapply (first_half (F := F) d L e he fs fb O W hO) $$ [He Hs Hb HsA HsC HO]
  · isplitr; · iexact Hlv
    isplitl [He]; · iexact He
    isplitl [Hs]; · iexact Hs
    isplitl [Hb]; · iexact Hb
    isplitl [HsA]; · iexact HsA
    isplitl [HsC]; · iexact HsC
    iexact HO
  iintro ⟨He, Hs, Hb, HsA, HsC, HO⟩
  -- the second loop of counts
  iapply (Scf.wp_for_bind frame (wpE (defs₀ (F := F)) 𝒱₀ (V d (cV L) (jV L)) none) Set.univ _ _ _ _ _ _
      (fun n _ => iprop(tePts (F := F) d L Finset.univ (fetched e (wid L) fs) ∗ tbPts (F := F) d L (tab (cnt (mine e (wid L)) (776 + 8 * n)))))
      (fun t acc => trip3 d L e he (wid L) fs t acc)) $$ [Hs Hb]
  · isplitl [Hs]; · iexact Hs
    iexact Hb
  iintro %a3 ⟨Hs, Hb⟩
  ihave Hb := (Entails.of_eq (congrArg (fun n => tbPts (F := F) d L (tab (cnt (mine e (wid L)) (776 + 8 * n)))) t3_trips)) $$ Hb
  -- the two vectors left over
  iapply (wp_load 𝒱₀ (V d (cV L) (jV L)) none Set.univ (m := sE) (S := Finset.univ) (Finset.subset_univ _)) $$ Hs; iintro Hs
  iapply (wp_load 𝒱₀ (V d (cV L) (jV L)) none Set.univ (m := sE) (S := Finset.univ) (Finset.subset_univ _)) $$ Hs; iintro Hs
  iapply (Entails.of_eq (wp_assume_of (P := k0_chk17 _) 𝒱₀ (V d (cV L) (jV L)) none Set.univ
    (lanes_inb _ fun x => (vec_at (F := F) e he (wid L) fs ![24960] inb_S25008_S16_24960 1560 rfl (by omega) x).1)).symm)
  iapply (wp_count d (cV L) (jV L) _ (cnt (mine e (wid L)) 1561) (fun x => (vec_at (F := F) e he (wid L) fs ![24960] inb_S25008_S16_24960 1560 rfl (by omega) x).1)
    (one_more (mine e (wid L)) _ 1560 fun x => (vec_at (F := F) e he (wid L) fs ![24960] inb_S25008_S16_24960 1560 rfl (by omega) x).2)) $$ Hb; iintro Hb
  iapply (Entails.of_eq (wp_assume_of (P := k0_chk18 _) 𝒱₀ (V d (cV L) (jV L)) none Set.univ
    (lanes_inb _ fun x => (vec_at (F := F) e he (wid L) fs ![24976] inb_S25008_S16_24976 1561 rfl (by omega) x).1)).symm)
  iapply (wp_count d (cV L) (jV L) _ (cnt (mine e (wid L)) 1562) (fun x => (vec_at (F := F) e he (wid L) fs ![24976] inb_S25008_S16_24976 1561 rfl (by omega) x).1)
    (one_more (mine e (wid L)) _ 1561 fun x => (vec_at (F := F) e he (wid L) fs ![24976] inb_S25008_S16_24976 1561 rfl (by omega) x).2)) $$ Hb; iintro Hb
  -- the masked tail
  iapply (wp_load 𝒱₀ (V d (cV L) (jV L)) none Set.univ (m := sE) (S := Finset.univ) (Finset.subset_univ _)) $$ Hs; iintro Hs
  iapply (Entails.of_eq (wp_assume_of (P := k0_chk19 _) 𝒱₀ (V d (cV L) (jV L)) none Set.univ
    (lanes_inb _ fun x => clamped_lt _ x)).symm)
  iapply (wp_count d (cV L) (jV L) _ (full (mine e (wid L)) 8) (fun x => clamped_lt _ x)
    (tail_step (mine e (wid L)) (mine_lt he _) _ fun x hx => vec2 (F := F) e (wid L) fs x hx)) $$ Hb; iintro Hb
  -- the sums
  iapply (Scf.wp_for_bind frame (wpE (defs₀ (F := F)) 𝒱₀ (V d (cV L) (jV L)) none) Set.univ _ _ _ _ _ _
      (fun n _ => iprop(tbPts (F := F) d L (tab (full (mine e (wid L)) 8)) ∗ toPts (F := F) d L (summed (mine e (wid L)) fo (16 * n))))
      (fun t acc => trip4 d L (mine e (wid L)) fo t acc)) $$ [Hb Hc]
  · isplitl [Hb]; · iexact Hb
    rw [summed_none]; iexact Hc
  iintro %a4 ⟨Hb, Hc⟩
  ihave Hc := (Entails.of_eq (congrArg (fun n => toPts (F := F) d L (summed (mine e (wid L)) fo (16 * n))) t4_trips)) $$ Hc
  -- the copy out
  ihave Hc := (Entails.of_eq (pts_sO (F := F) d L _).symm) $$ Hc
  ihave Ho := (Entails.of_eq (pts_oRow (F := F) d L _).symm) $$ Ho
  iapply (Transfers.wp_dmaLocal EC 𝒱₀ (V d (cV L) (jV L)) none (src := sO) (dst := oRow L) (sm := .dma cc0_scoped0.sem) (q := fullShare)
      (fs := (summed (mine e (wid L)) fo (16 * 32) : Buf (Elt F) ((V d (cV L) (jV L)).loc cc0_scratch2))) (Sd := (oRow L).view.set) (fd := (g : Buf (Elt F) (oLoc d)))
      none _ rfl (View.dmaCredit_pos _ (by decide)) (Finset.Subset.refl _)) $$ [Hc Ho HsO]
  · isplitl [Hc]; · iexact Hc
    isplitl [Ho]; · iexact Ho
    iexact HsO
  iintro HfO
  iapply (Transfers.wp_waitLocalO EC 𝒱₀ (V d (cV L) (jV L)) none none (O := O)
      (W := insert (SemLoc.dma cc0_scratch4.sem, none) (insert (SemLoc.dma cc0_scratch3.sem, none) W)) rfl) $$ [HfO HO]
  · isplitl [HfO]; · iexact HfO
    isplitl [HO]; · iexact HO
    iapply ((K (F := F)).mayWait_none (SemLoc.dma cc0_scoped0.sem) hO); iexact Hlv
  iintro ⟨⟨Ho, Hc⟩, HsO, HO⟩
  ihave Ho := (Entails.of_eq (pts_oRow (F := F) d L _)) $$ Ho
  ihave Ho := (Entails.of_eq (pts_lands_row (F := F) d L e g fo)) $$ Ho
  ihave Hc := (Entails.of_eq (pts_sO (F := F) d L _)) $$ Hc
  rw [wp_ret]; imodintro
  isplitl [He Ho]
  · isplitl [He]; · iexact He
    iexact Ho
  isplitl [Hs Hb Hc Hbufs]
  · isplitl [Hs]; · iexists _; iexact Hs
    isplitl [Hb]; · iexists _; iexact Hb
    isplitl [Hc]; · iexists _; iexact Hc
    iexact Hbufs
  isplitl [HsA HsC HsO Hsems]
  · isplitl [HsA]; · iexact HsA
    isplitl [HsC]; · iexact HsC
    isplitl [HsO]; · iexact HsO
    iexact Hsems
  iexists (insert (SemLoc.dma cc0_scoped0.sem, none) (insert (SemLoc.dma cc0_scratch4.sem, none) (insert (SemLoc.dma cc0_scratch3.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Cert.Proof
-- ==== Proof.Deal.lean ====
/-
  The SparseCore call's payloads: each tile is handed its own words of the edge array and its own row of the table of
  histograms, and hands back that row holding its histogram; the tiles' words and rows together are the two arrays.
-/
module

public import proofs.«01_k».proof.Proof.TileRun

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-! ## What a tile holds -/

/-- Tile `w`'s words of the edge array, and its row of the table at contents `g`. -/
abbrev tilePts (d : Dev nD) (g : S32x512.Idx → BitVec 32) (w : ℕ) : sProp 𝕄 :=
  iprop(ePts (F := F) d (seg 800000 (25000 * w) (25000 * w + 25000)) (m (eLoc d)) ∗ oPts (F := F) d (rowOf w) g)

/-- The sixteen tiles' of SparseCore `c`. -/
abbrev corePts (d : Dev nD) (g : S32x512.Idx → BitVec 32) (c : ℕ) : sProp 𝕄 :=
  bigSep Finset.univ fun i : Fin 16 => tilePts m d g (2 * i.val + c)

theorem nSub_zero : (K (F := F)).nSub 0 = 16 := rfl
theorem nCore_zero : (K (F := F)).nCore 0 = 2 := rfl

/-- The one call: every tile from its words and its row as launched to the same words and the row's histogram. -/
def P : (K (F := F)).Pay (nD := nD) (Val := Elt F) (Name := ℕ) (U := UU) where
  st := fun q d c => match q with | 0 => corePts m d (m (oLoc d)) c.val
  dn := fun q d c => match q with | 0 => corePts m d (histTab (m (eLoc d))) c.val
  go := fun q d c i => match q with | 0 => tilePts m d (m (oLoc d)) (2 * i.val + c.val)
  td := fun q d c i => match q with | 0 => tilePts m d (histTab (m (eLoc d))) (2 * i.val + c.val)
  x := fun _ _ => iprop(emp)

instance P_storable : (P (F := F) m).IsStorable where
  st q d c := match q with
    | 0 => (inferInstance : BI.Storable (upEmb : UEmb _ 𝕄) (corePts m d (m (oLoc d)) c.val))
  dn q d c := match q with
    | 0 => (inferInstance : BI.Storable (upEmb : UEmb _ 𝕄) (corePts m d (histTab (m (eLoc d))) c.val))
  go q d c i := match q with
    | 0 => (inferInstance : BI.Storable (upEmb : UEmb _ 𝕄) (tilePts m d (m (oLoc d)) (2 * i.val + c.val)))
  td q d c i := match q with
    | 0 => (inferInstance : BI.Storable (upEmb : UEmb _ 𝕄) (tilePts m d (histTab (m (eLoc d))) (2 * i.val + c.val)))

/-- A SparseCore's sequencer hands each tile its share, and gathers the shares back. -/
theorem vecSplit : (K (F := F)).VecSplit' (P m) 0 := by
  intro d c
  show (corePts m d (m (oLoc d)) c.val : sProp 𝕄) ⊢ |={Set.univ}=> iprop(
      corePts m d (m (oLoc d)) c.val ∗ (corePts m d (histTab (m (eLoc d))) c.val -∗ corePts m d (histTab (m (eLoc d))) c.val))
  iintro H; imodintro
  isplitl [H]; · iexact H
  iintro H; iexact H

/-! ## The tiles' shares together -/

/-- The tile of a SparseCore and a subcore. -/
abbrev tileOf (p : Fin 2 × Fin 16) : ℕ := 2 * p.2.val + p.1.val

theorem tileOf_inj {p q : Fin 2 × Fin 16} (h : tileOf p = tileOf q) : p = q := by
  obtain ⟨a, b⟩ := p; obtain ⟨c, e⟩ := q
  simp only [tileOf] at h
  have := a.isLt; have := c.isLt
  exact Prod.ext (Fin.ext (show a.val = c.val by omega)) (Fin.ext (show b.val = e.val by omega))

theorem segs_disjoint : ∀ p ∈ (Finset.univ : Finset (Fin 2 × Fin 16)), ∀ q ∈ (Finset.univ : Finset (Fin 2 × Fin 16)), p ≠ q →
    Disjoint (seg 800000 (25000 * tileOf p) (25000 * tileOf p + 25000)) (seg 800000 (25000 * tileOf q) (25000 * tileOf q + 25000)) := by
  intro p _ q _ h
  have h' : tileOf p ≠ tileOf q := fun e => h (tileOf_inj e)
  generalize tileOf p = a at h'; generalize tileOf q = b at h'
  refine Finset.disjoint_left.mpr fun j hj hj' => ?_
  rw [mem_seg] at hj hj'; omega

theorem rows_disjoint : ∀ p ∈ (Finset.univ : Finset (Fin 2 × Fin 16)), ∀ q ∈ (Finset.univ : Finset (Fin 2 × Fin 16)), p ≠ q →
    Disjoint (rowOf (tileOf p)) (rowOf (tileOf q)) := by
  intro p _ q _ h
  have h' : tileOf p ≠ tileOf q := fun e => h (tileOf_inj e)
  refine Finset.disjoint_left.mpr fun j hj hj' => ?_
  rw [mem_rowOf] at hj hj'; exact h' (hj.symm.trans hj')

/-- Every word belongs to a tile, -/
theorem segs_cover : (Finset.univ : Finset (Fin 2 × Fin 16)).biUnion (fun p => seg 800000 (25000 * tileOf p) (25000 * tileOf p + 25000)) = Finset.univ := by
  refine Finset.eq_univ_iff_forall.mpr fun j => ?_
  have hj : (j 0).val < 800000 := (j 0).isLt
  have h1 : (j 0).val / 25000 % 2 < 2 := Nat.mod_lt _ (by decide)
  refine Finset.mem_biUnion.mpr ⟨(⟨(j 0).val / 25000 % 2, h1⟩, ⟨(j 0).val / 25000 / 2, by omega⟩), Finset.mem_univ _, ?_⟩
  rw [mem_seg]; simp only [tileOf]; omega

/-- and every row. -/
theorem rows_cover : (Finset.univ : Finset (Fin 2 × Fin 16)).biUnion (fun p => rowOf (tileOf p)) = Finset.univ := by
  refine Finset.eq_univ_iff_forall.mpr fun j => ?_
  have hj : (j 0).val < 32 := (j 0).isLt
  have h1 : (j 0).val % 2 < 2 := Nat.mod_lt _ (by decide)
  refine Finset.mem_biUnion.mpr ⟨(⟨(j 0).val % 2, h1⟩, ⟨(j 0).val / 2, by omega⟩), Finset.mem_univ _, ?_⟩
  rw [mem_rowOf]; simp only [tileOf]; omega

/-- The two SparseCores' shares are the two arrays whole. -/
theorem cores_eq (d : Dev nD) (g : S32x512.Idx → BitVec 32) :
    (bigSep Finset.univ fun c : Fin 2 => corePts m d g c.val)
      = (iprop((eLoc d ↦{fullShare} m (eLoc d)) ∗ oLoc d ↦{fullShare} (g : Buf (Elt F) (oLoc d))) : sProp 𝕄) := by
  have h1 : (bigSep Finset.univ fun c : Fin 2 => corePts m d g c.val)
      = (bigSep Finset.univ fun p : Fin 2 × Fin 16 => tilePts m d g (tileOf p) : sProp 𝕄) :=
    (bigSep_univ_prod fun p : Fin 2 × Fin 16 => tilePts m d g (tileOf p)).symm
  rw [h1, bigSep_sep',
    ← pointsTo_biUnion Finset.univ (ℓ := eLoc d) (fun p : Fin 2 × Fin 16 => seg 800000 (25000 * tileOf p) (25000 * tileOf p + 25000)) segs_disjoint,
    ← pointsTo_biUnion Finset.univ (ℓ := oLoc d) (fun p : Fin 2 × Fin 16 => rowOf (tileOf p)) rows_disjoint, segs_cover, rows_cover]

theorem st0_eq (d : Dev nD) : (bigSep Finset.univ fun c : Fin ((K (F := F)).nCore 0) => (P m).st 0 d c)
    = (iprop((eLoc d ↦{fullShare} m (eLoc d)) ∗ oLoc d ↦{fullShare} m (oLoc d)) : sProp 𝕄) :=
  cores_eq m d (m (oLoc d))

theorem dn0_eq (d : Dev nD) : (bigSep Finset.univ fun c : Fin ((K (F := F)).nCore 0) => (P m).dn 0 d c)
    = (iprop((eLoc d ↦{fullShare} m (eLoc d)) ∗ oLoc d ↦{fullShare} (histTab (m (eLoc d)) : Buf (Elt F) (oLoc d))) : sProp 𝕄) :=
  cores_eq m d (histTab (m (eLoc d)))

/-! ## The tiles' obligation -/

variable [FloatOps F]

/-- The grid's coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_hist (coordsV c s)
          eV (Memref.isWhole_whole _) oV (Memref.isWhole_whole _)
          sE (Memref.isWhole_whole _) sB (Memref.isWhole_whole _) sO (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 2048 in
theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (m (eLoc d)) (fun j => hpre d j) (m (oLoc d)) O W hO).trans
    (wp_mono frame _ _ fun _ => obl_post)

end Cert.Proof
-- ==== Proof.Regions.lean ====
/-
  The two TensorCore regions as the pipeline library sees them: their proof data, what each body is handed and leaves,
  and the buffers after each region.
-/
module

public import proofs.«01_k».proof.Proof.Sims
public import proofs.«01_k».proof.Proof.Fuse
public import proofs.«01_k».proof.Proof.Gen.KernelIdeal.Launch
public import proofs.«01_k».proof.Proof.Gen.KernelIdeal.Points
public import Idealize.ShloMosaic.Lib.Pipeline.RegionArraysS

@[expose] public section

noncomputable section

namespace Cert.Proof

open Cert.KernelIdeal Cert.KernelIdeal.Gen

open Idealize.ShloMosaic
open Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## Region 1 -/

/-- Its proof data over buffers at `V`: the inputs stay, the outputs end at the body's values. -/
def dat1 (V : Valuation τ sig (Elt F)) (c : Dev nD) : Dat τ (Elt F) (HIx 1) ℕ UU ℕ cfg1 c where
  A w := V (Proc.devRef .tc (Pipeline.arrRef spec1 w))
  after w _ := match w with
    | ⟨0, _⟩ => V (Proc.devRef .tc main_arg6)
    | ⟨1, _⟩ => V (Proc.devRef .tc main_arg5)
    | ⟨2, _⟩ => V (Proc.devRef .tc main_v1)
    | ⟨3, _⟩ => V (Proc.devRef .tc main_arg7)
    | ⟨4, _⟩ => V (Proc.devRef .tc main_v2)
    | ⟨5, _⟩ => V (Proc.devRef .tc main_arg9)
    | ⟨6, _⟩ => V (Proc.devRef .tc main_v3)
    | ⟨7, _⟩ => simsOf (V (Proc.devRef .tc main_arg6)) (V (Proc.devRef .tc main_v1))
    | ⟨8, _⟩ => rowAt (V (Proc.devRef .tc main_arg5)) (qrel (V (Proc.devRef .tc main_v1)))
    | ⟨9, _⟩ => confOf (V (Proc.devRef .tc main_arg5)) (V (Proc.devRef .tc main_v1)) (V (Proc.devRef .tc main_arg7)) (V (Proc.devRef .tc main_v2)) (V (Proc.devRef .tc main_arg9)) (V (Proc.devRef .tc main_v3))
    | ⟨_ + 10, h⟩ => absurd h (Nat.not_lt.2 (Nat.le_add_left _ _))
  Φ _ := Pipeline.scopedRest (Ix := HIx 1) (Name := ℕ) (U := UU) (Lvl := ℕ) (Val := Elt F) spec1 c
  q _ := fullShare
  owed _ := 0

/-- What the body is handed of input `w`: the array, whole. -/
theorem before1_0 (V : Valuation τ sig (Elt F)) (c : Dev nD) (d) : (dat1 V c).before 0 t1_0 d = V (Proc.devRef .tc main_arg6) := by
  unfold Dat.before; rw [if_pos (fetch1_0 t1_0)]
  show View.read (Elt F) (win1_0.blk t1_0).view (V (Proc.devRef .tc main_arg6)) = _
  exact Memref.read_access_unit_zero (Elt F) main_arg6 (off := fun a => 0 * main_arg6.ty.shape.size a) (funext fun _ => Nat.zero_mul _) _ _
theorem before1_1 (V : Valuation τ sig (Elt F)) (c : Dev nD) (d) : (dat1 V c).before 1 t1_0 d = V (Proc.devRef .tc main_arg5) := by
  unfold Dat.before; rw [if_pos (fetch1_1 t1_0)]
  show View.read (Elt F) (win1_1.blk t1_0).view (V (Proc.devRef .tc main_arg5)) = _
  exact Memref.read_access_unit_zero (Elt F) main_arg5 (off := fun a => 0 * main_arg5.ty.shape.size a) (funext fun _ => Nat.zero_mul _) _ _
theorem before1_2 (V : Valuation τ sig (Elt F)) (c : Dev nD) (d) : (dat1 V c).before 2 t1_0 d = V (Proc.devRef .tc main_v1) := by
  unfold Dat.before; rw [if_pos (fetch1_2 t1_0)]
  show View.read (Elt F) (win1_2.blk t1_0).view (V (Proc.devRef .tc main_v1)) = _
  exact Memref.read_access_unit_zero (Elt F) main_v1 (off := fun a => 0 * main_v1.ty.shape.size a) (funext fun _ => Nat.zero_mul _) _ _
theorem before1_3 (V : Valuation τ sig (Elt F)) (c : Dev nD) (d) : (dat1 V c).before 3 t1_0 d = V (Proc.devRef .tc main_arg7) := by
  unfold Dat.before; rw [if_pos (fetch1_3 t1_0)]
  show View.read (Elt F) (win1_3.blk t1_0).view (V (Proc.devRef .tc main_arg7)) = _
  exact Memref.read_access_unit_zero (Elt F) main_arg7 (off := fun a => 0 * main_arg7.ty.shape.size a) (funext fun _ => Nat.zero_mul _) _ _
theorem before1_4 (V : Valuation τ sig (Elt F)) (c : Dev nD) (d) : (dat1 V c).before 4 t1_0 d = V (Proc.devRef .tc main_v2) := by
  unfold Dat.before; rw [if_pos (fetch1_4 t1_0)]
  show View.read (Elt F) (win1_4.blk t1_0).view (V (Proc.devRef .tc main_v2)) = _
  exact Memref.read_access_unit_zero (Elt F) main_v2 (off := fun a => 0 * main_v2.ty.shape.size a) (funext fun _ => Nat.zero_mul _) _ _
theorem before1_5 (V : Valuation τ sig (Elt F)) (c : Dev nD) (d) : (dat1 V c).before 5 t1_0 d = V (Proc.devRef .tc main_arg9) := by
  unfold Dat.before; rw [if_pos (fetch1_5 t1_0)]
  show View.read (Elt F) (win1_5.blk t1_0).view (V (Proc.devRef .tc main_arg9)) = _
  exact Memref.read_access_unit_zero (Elt F) main_arg9 (off := fun a => 0 * main_arg9.ty.shape.size a) (funext fun _ => Nat.zero_mul _) _ _
theorem before1_6 (V : Valuation τ sig (Elt F)) (c : Dev nD) (d) : (dat1 V c).before 6 t1_0 d = V (Proc.devRef .tc main_v3) := by
  unfold Dat.before; rw [if_pos (fetch1_6 t1_0)]
  show View.read (Elt F) (win1_6.blk t1_0).view (V (Proc.devRef .tc main_v3)) = _
  exact Memref.read_access_unit_zero (Elt F) main_v3 (off := fun a => 0 * main_v3.ty.shape.size a) (funext fun _ => Nat.zero_mul _) _ _

/-- The body's obligation. -/
theorem body1 (V : Valuation τ sig (Elt F)) (c : Dev nD)
    (h : k1_chk1 (qword (V (Proc.devRef .tc main_v1)))) : BodyObligation (dat1 V c) (defs₀ (F := F)) 𝒱₀ none Set.univ := fun t => by
  obtain rfl := fin_N1 t
  rw [bigSep_W1, bigSep_W1]
  simp only [owns_whole_eq]
  rw [show (dat1 V c).Φ t1_0.succ = (dat1 V c).Φ t1_0.castSucc from rfl]
  unfold Dat.owesAt Pipeline.owesWithin
  rw [show (dat1 V c).owed t1_0.succ = (dat1 V c).owed t1_0.castSucc from rfl]
  iintro ⟨HΦ, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  rw [before1_0] at hf0; subst hf0
  rw [before1_1] at hf1; subst hf1
  rw [before1_2] at hf2; subst hf2
  rw [before1_3] at hf3; subst hf3
  rw [before1_4] at hf4; subst hf4
  rw [before1_5] at hf5; subst hf5
  rw [before1_6] at hf6; subst hf6
  iapply (sims_run c (V (Proc.devRef .tc main_arg6)) (V (Proc.devRef .tc main_arg5)) (V (Proc.devRef .tc main_v1)) (V (Proc.devRef .tc main_arg7)) (V (Proc.devRef .tc main_v2)) (V (Proc.devRef .tc main_arg9)) (V (Proc.devRef .tc main_v3)) f7 f8 f9 h)
  isplitl [H0 H1 H2 H3 H4 H5 H6 H7 H8 H9]
  · unfold pt
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  unfold pt
  iintro ⟨H0, H1, H2, H3, H4, H5, H6, H7, H8, H9⟩
  isplitl [HΦ]; · iexact HΦ
  isplitl [HO]
  · iexists W; isplitr; · ipureintro; exact fun _ _ => Or.inl trivial
    iexact HO
  isplitl [H0]; · iexists _; isplitr; swap; (· iexact H0); ipureintro; dsimp only [dat1]
  isplitl [H1]; · iexists _; isplitr; swap; (· iexact H1); ipureintro; dsimp only [dat1]
  isplitl [H2]; · iexists _; isplitr; swap; (· iexact H2); ipureintro; dsimp only [dat1]
  isplitl [H3]; · iexists _; isplitr; swap; (· iexact H3); ipureintro; dsimp only [dat1]
  isplitl [H4]; · iexists _; isplitr; swap; (· iexact H4); ipureintro; dsimp only [dat1]
  isplitl [H5]; · iexists _; isplitr; swap; (· iexact H5); ipureintro; dsimp only [dat1]
  isplitl [H6]; · iexists _; isplitr; swap; (· iexact H6); ipureintro; dsimp only [dat1]
  isplitl [H7]; · iexists _; isplitr; swap; (· iexact H7); ipureintro; dsimp only [dat1]
  isplitl [H8]; · iexists _; isplitr; swap; (· iexact H8); ipureintro; dsimp only [dat1]
  iexists _; isplitr; swap; (· iexact H9); ipureintro; dsimp only [dat1]

/-- The outputs after the region. -/
theorem final1_7 (V : Valuation τ sig (Elt F)) (c : Dev nD) : (dat1 V c).arrAt 7 cfg1.N = simsOf (V (Proc.devRef .tc main_arg6)) (V (Proc.devRef .tc main_v1)) := by
  rw [show cfg1.N = (t1_0 : Fin cfg1.N).val + 1 from N_1]
  rw [Dat.arrAt_succ, if_pos (flush1_7 t1_0)]
  exact Memref.write_access_unit_zero_univ (Elt F) main_v4_0 (off := fun a => 0 * main_v4_0.ty.shape.size a) (funext fun _ => Nat.zero_mul _) _ _ _
theorem final1_8 (V : Valuation τ sig (Elt F)) (c : Dev nD) : (dat1 V c).arrAt 8 cfg1.N = rowAt (V (Proc.devRef .tc main_arg5)) (qrel (V (Proc.devRef .tc main_v1))) := by
  rw [show cfg1.N = (t1_0 : Fin cfg1.N).val + 1 from N_1]
  rw [Dat.arrAt_succ, if_pos (flush1_8 t1_0)]
  exact Memref.write_access_unit_zero_univ (Elt F) main_v4_1 (off := fun a => 0 * main_v4_1.ty.shape.size a) (funext fun _ => Nat.zero_mul _) _ _ _
theorem final1_9 (V : Valuation τ sig (Elt F)) (c : Dev nD) : (dat1 V c).arrAt 9 cfg1.N = confOf (V (Proc.devRef .tc main_arg5)) (V (Proc.devRef .tc main_v1)) (V (Proc.devRef .tc main_arg7)) (V (Proc.devRef .tc main_v2)) (V (Proc.devRef .tc main_arg9)) (V (Proc.devRef .tc main_v3)) := by
  rw [show cfg1.N = (t1_0 : Fin cfg1.N).val + 1 from N_1]
  rw [Dat.arrAt_succ, if_pos (flush1_9 t1_0)]
  exact Memref.write_access_unit_zero_univ (Elt F) main_v4_2 (off := fun a => 0 * main_v4_2.ty.shape.size a) (funext fun _ => Nat.zero_mul _) _ _ _

/-! ## Region 2 -/

/-- Its proof data over buffers at `V`: the inputs stay, the outputs end at the body's values. -/
def dat2 (V : Valuation τ sig (Elt F)) (c : Dev nD) : Dat τ (Elt F) (HIx 1) ℕ UU ℕ cfg2 c where
  A w := V (Proc.devRef .tc (Pipeline.arrRef spec2 w))
  after w _ := match w with
    | ⟨0, _⟩ => V (Proc.devRef .tc main_v0)
    | ⟨1, _⟩ => V (Proc.devRef .tc main_v4_0)
    | ⟨2, _⟩ => V (Proc.devRef .tc main_v4_1)
    | ⟨3, _⟩ => V (Proc.devRef .tc main_v4_2)
    | ⟨4, _⟩ => V (Proc.devRef .tc main_arg6)
    | ⟨5, _⟩ => V (Proc.devRef .tc main_arg11)
    | ⟨6, _⟩ => V (Proc.devRef .tc main_v5)
    | ⟨7, _⟩ => V (Proc.devRef .tc main_arg13)
    | ⟨8, _⟩ => V (Proc.devRef .tc main_v6)
    | ⟨9, _⟩ => V (Proc.devRef .tc main_arg15)
    | ⟨10, _⟩ => V (Proc.devRef .tc main_v7)
    | ⟨11, _⟩ => V (Proc.devRef .tc main_arg17)
    | ⟨12, _⟩ => V (Proc.devRef .tc main_v8)
    | ⟨13, _⟩ => fusedOf (V (Proc.devRef .tc main_v0)) (V (Proc.devRef .tc main_v4_0)) (V (Proc.devRef .tc main_v4_1)) (V (Proc.devRef .tc main_v4_2)) (V (Proc.devRef .tc main_arg6)) (V (Proc.devRef .tc main_arg11)) (V (Proc.devRef .tc main_v5)) (V (Proc.devRef .tc main_arg13)) (V (Proc.devRef .tc main_v6)) (V (Proc.devRef .tc main_arg15)) (V (Proc.devRef .tc main_v7)) (V (Proc.devRef .tc main_arg17)) (V (Proc.devRef .tc main_v8))
    | ⟨14, _⟩ => scoreOf (V (Proc.devRef .tc main_v0)) (V (Proc.devRef .tc main_v4_0)) (V (Proc.devRef .tc main_v4_2))
    | ⟨_ + 15, h⟩ => absurd h (Nat.not_lt.2 (Nat.le_add_left _ _))
  Φ _ := Pipeline.scopedRest (Ix := HIx 1) (Name := ℕ) (U := UU) (Lvl := ℕ) (Val := Elt F) spec2 c
  q _ := fullShare
  owed _ := 0

/-- What the body is handed of input `w`: the array, whole. -/
theorem before2_0 (V : Valuation τ sig (Elt F)) (c : Dev nD) (d) : (dat2 V c).before 0 t2_0 d = V (Proc.devRef .tc main_v0) := by
  unfold Dat.before; rw [if_pos (fetch2_0 t2_0)]
  show View.read (Elt F) (win2_0.blk t2_0).view (V (Proc.devRef .tc main_v0)) = _
  exact Memref.read_access_unit_zero (Elt F) main_v0 (off := fun a => 0 * main_v0.ty.shape.size a) (funext fun _ => Nat.zero_mul _) _ _
theorem before2_1 (V : Valuation τ sig (Elt F)) (c : Dev nD) (d) : (dat2 V c).before 1 t2_0 d = V (Proc.devRef .tc main_v4_0) := by
  unfold Dat.before; rw [if_pos (fetch2_1 t2_0)]
  show View.read (Elt F) (win2_1.blk t2_0).view (V (Proc.devRef .tc main_v4_0)) = _
  exact Memref.read_access_unit_zero (Elt F) main_v4_0 (off := fun a => 0 * main_v4_0.ty.shape.size a) (funext fun _ => Nat.zero_mul _) _ _
theorem before2_2 (V : Valuation τ sig (Elt F)) (c : Dev nD) (d) : (dat2 V c).before 2 t2_0 d = V (Proc.devRef .tc main_v4_1) := by
  unfold Dat.before; rw [if_pos (fetch2_2 t2_0)]
  show View.read (Elt F) (win2_2.blk t2_0).view (V (Proc.devRef .tc main_v4_1)) = _
  exact Memref.read_access_unit_zero (Elt F) main_v4_1 (off := fun a => 0 * main_v4_1.ty.shape.size a) (funext fun _ => Nat.zero_mul _) _ _
theorem before2_3 (V : Valuation τ sig (Elt F)) (c : Dev nD) (d) : (dat2 V c).before 3 t2_0 d = V (Proc.devRef .tc main_v4_2) := by
  unfold Dat.before; rw [if_pos (fetch2_3 t2_0)]
  show View.read (Elt F) (win2_3.blk t2_0).view (V (Proc.devRef .tc main_v4_2)) = _
  exact Memref.read_access_unit_zero (Elt F) main_v4_2 (off := fun a => 0 * main_v4_2.ty.shape.size a) (funext fun _ => Nat.zero_mul _) _ _
theorem before2_4 (V : Valuation τ sig (Elt F)) (c : Dev nD) (d) : (dat2 V c).before 4 t2_0 d = V (Proc.devRef .tc main_arg6) := by
  unfold Dat.before; rw [if_pos (fetch2_4 t2_0)]
  show View.read (Elt F) (win2_4.blk t2_0).view (V (Proc.devRef .tc main_arg6)) = _
  exact Memref.read_access_unit_zero (Elt F) main_arg6 (off := fun a => 0 * main_arg6.ty.shape.size a) (funext fun _ => Nat.zero_mul _) _ _
theorem before2_5 (V : Valuation τ sig (Elt F)) (c : Dev nD) (d) : (dat2 V c).before 5 t2_0 d = V (Proc.devRef .tc main_arg11) := by
  unfold Dat.before; rw [if_pos (fetch2_5 t2_0)]
  show View.read (Elt F) (win2_5.blk t2_0).view (V (Proc.devRef .tc main_arg11)) = _
  exact Memref.read_access_unit_zero (Elt F) main_arg11 (off := fun a => 0 * main_arg11.ty.shape.size a) (funext fun _ => Nat.zero_mul _) _ _
theorem before2_6 (V : Valuation τ sig (Elt F)) (c : Dev nD) (d) : (dat2 V c).before 6 t2_0 d = V (Proc.devRef .tc main_v5) := by
  unfold Dat.before; rw [if_pos (fetch2_6 t2_0)]
  show View.read (Elt F) (win2_6.blk t2_0).view (V (Proc.devRef .tc main_v5)) = _
  exact Memref.read_access_unit_zero (Elt F) main_v5 (off := fun a => 0 * main_v5.ty.shape.size a) (funext fun _ => Nat.zero_mul _) _ _
theorem before2_7 (V : Valuation τ sig (Elt F)) (c : Dev nD) (d) : (dat2 V c).before 7 t2_0 d = V (Proc.devRef .tc main_arg13) := by
  unfold Dat.before; rw [if_pos (fetch2_7 t2_0)]
  show View.read (Elt F) (win2_7.blk t2_0).view (V (Proc.devRef .tc main_arg13)) = _
  exact Memref.read_access_unit_zero (Elt F) main_arg13 (off := fun a => 0 * main_arg13.ty.shape.size a) (funext fun _ => Nat.zero_mul _) _ _
theorem before2_8 (V : Valuation τ sig (Elt F)) (c : Dev nD) (d) : (dat2 V c).before 8 t2_0 d = V (Proc.devRef .tc main_v6) := by
  unfold Dat.before; rw [if_pos (fetch2_8 t2_0)]
  show View.read (Elt F) (win2_8.blk t2_0).view (V (Proc.devRef .tc main_v6)) = _
  exact Memref.read_access_unit_zero (Elt F) main_v6 (off := fun a => 0 * main_v6.ty.shape.size a) (funext fun _ => Nat.zero_mul _) _ _
theorem before2_9 (V : Valuation τ sig (Elt F)) (c : Dev nD) (d) : (dat2 V c).before 9 t2_0 d = V (Proc.devRef .tc main_arg15) := by
  unfold Dat.before; rw [if_pos (fetch2_9 t2_0)]
  show View.read (Elt F) (win2_9.blk t2_0).view (V (Proc.devRef .tc main_arg15)) = _
  exact Memref.read_access_unit_zero (Elt F) main_arg15 (off := fun a => 0 * main_arg15.ty.shape.size a) (funext fun _ => Nat.zero_mul _) _ _
theorem before2_10 (V : Valuation τ sig (Elt F)) (c : Dev nD) (d) : (dat2 V c).before 10 t2_0 d = V (Proc.devRef .tc main_v7) := by
  unfold Dat.before; rw [if_pos (fetch2_10 t2_0)]
  show View.read (Elt F) (win2_10.blk t2_0).view (V (Proc.devRef .tc main_v7)) = _
  exact Memref.read_access_unit_zero (Elt F) main_v7 (off := fun a => 0 * main_v7.ty.shape.size a) (funext fun _ => Nat.zero_mul _) _ _
theorem before2_11 (V : Valuation τ sig (Elt F)) (c : Dev nD) (d) : (dat2 V c).before 11 t2_0 d = V (Proc.devRef .tc main_arg17) := by
  unfold Dat.before; rw [if_pos (fetch2_11 t2_0)]
  show View.read (Elt F) (win2_11.blk t2_0).view (V (Proc.devRef .tc main_arg17)) = _
  exact Memref.read_access_unit_zero (Elt F) main_arg17 (off := fun a => 0 * main_arg17.ty.shape.size a) (funext fun _ => Nat.zero_mul _) _ _
theorem before2_12 (V : Valuation τ sig (Elt F)) (c : Dev nD) (d) : (dat2 V c).before 12 t2_0 d = V (Proc.devRef .tc main_v8) := by
  unfold Dat.before; rw [if_pos (fetch2_12 t2_0)]
  show View.read (Elt F) (win2_12.blk t2_0).view (V (Proc.devRef .tc main_v8)) = _
  exact Memref.read_access_unit_zero (Elt F) main_v8 (off := fun a => 0 * main_v8.ty.shape.size a) (funext fun _ => Nat.zero_mul _) _ _

set_option maxHeartbeats 1000000 in
/-- The body's obligation. -/
theorem body2 (V : Valuation τ sig (Elt F)) (c : Dev nD) : BodyObligation (dat2 V c) (defs₀ (F := F)) 𝒱₀ none Set.univ := fun t => by
  obtain rfl := fin_N2 t
  rw [bigSep_W2, bigSep_W2]
  simp only [owns_whole_eq]
  rw [show (dat2 V c).Φ t2_0.succ = (dat2 V c).Φ t2_0.castSucc from rfl]
  unfold Dat.owesAt Pipeline.owesWithin
  rw [show (dat2 V c).owed t2_0.succ = (dat2 V c).owed t2_0.castSucc from rfl]
  iintro ⟨HΦ, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩⟩
  rw [before2_0] at hf0; subst hf0
  rw [before2_1] at hf1; subst hf1
  rw [before2_2] at hf2; subst hf2
  rw [before2_3] at hf3; subst hf3
  rw [before2_4] at hf4; subst hf4
  rw [before2_5] at hf5; subst hf5
  rw [before2_6] at hf6; subst hf6
  rw [before2_7] at hf7; subst hf7
  rw [before2_8] at hf8; subst hf8
  rw [before2_9] at hf9; subst hf9
  rw [before2_10] at hf10; subst hf10
  rw [before2_11] at hf11; subst hf11
  rw [before2_12] at hf12; subst hf12
  iapply (fuse_run c (V (Proc.devRef .tc main_v0)) (V (Proc.devRef .tc main_v4_0)) (V (Proc.devRef .tc main_v4_1)) (V (Proc.devRef .tc main_v4_2)) (V (Proc.devRef .tc main_arg6)) (V (Proc.devRef .tc main_arg11)) (V (Proc.devRef .tc main_v5)) (V (Proc.devRef .tc main_arg13)) (V (Proc.devRef .tc main_v6)) (V (Proc.devRef .tc main_arg15)) (V (Proc.devRef .tc main_v7)) (V (Proc.devRef .tc main_arg17)) (V (Proc.devRef .tc main_v8)) f13 f14)
  isplitl [H0 H1 H2 H3 H4 H5 H6 H7 H8 H9 H10 H11 H12 H13 H14]
  · unfold pt
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  unfold pt
  iintro ⟨H0, H1, H2, H3, H4, H5, H6, H7, H8, H9, H10, H11, H12, H13, H14⟩
  isplitl [HΦ]; · iexact HΦ
  isplitl [HO]
  · iexists W; isplitr; · ipureintro; exact fun _ _ => Or.inl trivial
    iexact HO
  isplitl [H0]; · iexists _; isplitr; swap; (· iexact H0); ipureintro; dsimp only [dat2]
  isplitl [H1]; · iexists _; isplitr; swap; (· iexact H1); ipureintro; dsimp only [dat2]
  isplitl [H2]; · iexists _; isplitr; swap; (· iexact H2); ipureintro; dsimp only [dat2]
  isplitl [H3]; · iexists _; isplitr; swap; (· iexact H3); ipureintro; dsimp only [dat2]
  isplitl [H4]; · iexists _; isplitr; swap; (· iexact H4); ipureintro; dsimp only [dat2]
  isplitl [H5]; · iexists _; isplitr; swap; (· iexact H5); ipureintro; dsimp only [dat2]
  isplitl [H6]; · iexists _; isplitr; swap; (· iexact H6); ipureintro; dsimp only [dat2]
  isplitl [H7]; · iexists _; isplitr; swap; (· iexact H7); ipureintro; dsimp only [dat2]
  isplitl [H8]; · iexists _; isplitr; swap; (· iexact H8); ipureintro; dsimp only [dat2]
  isplitl [H9]; · iexists _; isplitr; swap; (· iexact H9); ipureintro; dsimp only [dat2]
  isplitl [H10]; · iexists _; isplitr; swap; (· iexact H10); ipureintro; dsimp only [dat2]
  isplitl [H11]; · iexists _; isplitr; swap; (· iexact H11); ipureintro; dsimp only [dat2]
  isplitl [H12]; · iexists _; isplitr; swap; (· iexact H12); ipureintro; dsimp only [dat2]
  isplitl [H13]; · iexists _; isplitr; swap; (· iexact H13); ipureintro; dsimp only [dat2]
  iexists _; isplitr; swap; (· iexact H14); ipureintro; dsimp only [dat2]

/-- The outputs after the region. -/
theorem final2_13 (V : Valuation τ sig (Elt F)) (c : Dev nD) : (dat2 V c).arrAt 13 cfg2.N = fusedOf (V (Proc.devRef .tc main_v0)) (V (Proc.devRef .tc main_v4_0)) (V (Proc.devRef .tc main_v4_1)) (V (Proc.devRef .tc main_v4_2)) (V (Proc.devRef .tc main_arg6)) (V (Proc.devRef .tc main_arg11)) (V (Proc.devRef .tc main_v5)) (V (Proc.devRef .tc main_arg13)) (V (Proc.devRef .tc main_v6)) (V (Proc.devRef .tc main_arg15)) (V (Proc.devRef .tc main_v7)) (V (Proc.devRef .tc main_arg17)) (V (Proc.devRef .tc main_v8)) := by
  rw [show cfg2.N = (t2_0 : Fin cfg2.N).val + 1 from N_2]
  rw [Dat.arrAt_succ, if_pos (flush2_13 t2_0)]
  exact Memref.write_access_unit_zero_univ (Elt F) main_v9_0 (off := fun a => 0 * main_v9_0.ty.shape.size a) (funext fun _ => Nat.zero_mul _) _ _ _
theorem final2_14 (V : Valuation τ sig (Elt F)) (c : Dev nD) : (dat2 V c).arrAt 14 cfg2.N = scoreOf (V (Proc.devRef .tc main_v0)) (V (Proc.devRef .tc main_v4_0)) (V (Proc.devRef .tc main_v4_2)) := by
  rw [show cfg2.N = (t2_0 : Fin cfg2.N).val + 1 from N_2]
  rw [Dat.arrAt_succ, if_pos (flush2_14 t2_0)]
  exact Memref.write_access_unit_zero_univ (Elt F) main_v9_1 (off := fun a => 0 * main_v9_1.ty.shape.size a) (funext fun _ => Nat.zero_mul _) _ _ _

end Cert.Proof
-- ==== Proof.Run.lean ====
/-
  The kernel's whole run: @main on the TensorCore — the SparseCore call, then two regions between lines of host
  operations — from the launch memory to the buffers it ends with.
-/
module

public import proofs.«01_k».proof.Proof.Deal
public import proofs.«01_k».proof.Proof.Regions

@[expose] public section

noncomputable section

namespace Cert.Proof

open Cert.KernelIdeal Cert.KernelIdeal.Gen

open Idealize.ShloMosaic
open Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The pipelines' rounds, the left factor of the right factor. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by unfold EP; infer_instance

/-! ## The host operations -/

def ops0 : List (HloOp τ sig (Elt F)) :=
  [StableHlo.reshape main_arg3 main_v1 (rfl : (.i32 : EltTy) = .i32) shapeCasts_S_S1x1,
   StableHlo.reshape main_arg8 main_v2 (rfl : (.f32 : EltTy) = .f32) shapeCasts_S32_S1x32,
   StableHlo.reshape main_arg10 main_v3 (rfl : (.f32 : EltTy) = .f32) shapeCasts_S1_S1x1]

def ops1 : List (HloOp τ sig (Elt F)) :=
  [StableHlo.reshape main_arg12 main_v5 (rfl : (.f32 : EltTy) = .f32) shapeCasts_S64_S1x64,
   StableHlo.reshape main_arg14 main_v6 (rfl : (.f32 : EltTy) = .f32) shapeCasts_S64_S1x64,
   StableHlo.reshape main_arg16 main_v7 (rfl : (.f32 : EltTy) = .f32) shapeCasts_S64_S1x64,
   StableHlo.reshape main_arg18 main_v8 (rfl : (.f32 : EltTy) = .f32) shapeCasts_S64_S1x64]

def ops2 : List (HloOp τ sig (Elt F)) :=
  [StableHlo.reshape main_v9_0 main_v10 (rfl : (.f32 : EltTy) = .f32) shapeCasts_S1x64_S64,
   StableHlo.reshape main_v9_1 main_v11 (rfl : (.f32 : EltTy) = .f32) shapeCasts_S1x1_S_]

/-! ## The buffers between the stretches -/

/-- As launched, -/
def V0 (c : Dev nD) : Valuation τ sig (Elt F) := fun b => m (c, b)
/-- after the SparseCore call, -/
def V1 (c : Dev nD) : Valuation τ sig (Elt F) :=
  Function.update (V0 m c) (Proc.devRef .tc main_v0) (histTab (m (eLoc c)))
/-- after the first line of host operations, -/
def V2 (c : Dev nD) : Valuation τ sig (Elt F) := StableHlo.after ops0 (V1 m c)
/-- after the first region, -/
def V3 (c : Dev nD) : Valuation τ sig (Elt F) := Pipeline.afterRegion (dat1 (V2 m c) c) (V2 m c)
/-- after the second line, -/
def V4 (c : Dev nD) : Valuation τ sig (Elt F) := StableHlo.after ops1 (V3 m c)
/-- after the second region, -/
def V5 (c : Dev nD) : Valuation τ sig (Elt F) := Pipeline.afterRegion (dat2 (V4 m c) c) (V4 m c)
/-- and at the end. -/
def V6 (c : Dev nD) : Valuation τ sig (Elt F) := StableHlo.after ops2 (V5 m c)

def adm : (p : Fin 2) → (pcfgs (F := F) p).Adm := fun p => (cfgs p).toPCfg_adm

def dats : (p : Fin 2) → (c : Dev nD) → Dat τ (Elt F) (HIx 1) ℕ UU ℕ (Pipeline.pin (pcfgs (F := F)) adm p) c
  | ⟨0, _⟩, c => dat1 (V2 m c) c
  | ⟨1, _⟩, c => dat2 (V4 m c) c

/-! ## The stretches as segments -/

abbrev Lx (F : FTy → Type) : GSem nD τ sig → Finset (HIx 1) := (K (F := F)).L
abbrev lvx (F : FTy → Type) : GSem nD τ sig → HIx 1 → ℕ := (K (F := F)).lev

/-- What the TensorCore owes between two stretches: nothing. -/
abbrev owes0 (c : Dev nD) : sProp 𝕄 := iprop(∃ Wd, owes (c : Thread nD τ) (0 : CellTallies nD τ sig (HIx 1)) Wd)

/-- What holds between two stretches: every unscoped buffer at `W c`, and nothing owed. -/
abbrev mid (W : Dev nD → Valuation τ sig (Elt F)) (c : Dev nD) : sProp 𝕄 :=
  iprop(StableHlo.held c.tc (Pipeline.ucRefs τ sig) (W c) ∗ owes0 c)

theorem ops0_sub : ∀ op ∈ ops0 (F := F), op.bufs ⊆ Pipeline.ucRefs τ sig := by
  intro op h
  simp only [ops0, List.mem_cons, List.not_mem_nil, or_false] at h
  rcases h with rfl | rfl | rfl <;> exact Pipeline.sub_ucRefs _ (StableHlo.reshape_bufs_sub ..)
theorem ops1_sub : ∀ op ∈ ops1 (F := F), op.bufs ⊆ Pipeline.ucRefs τ sig := by
  intro op h
  simp only [ops1, List.mem_cons, List.not_mem_nil, or_false] at h
  rcases h with rfl | rfl | rfl | rfl <;> exact Pipeline.sub_ucRefs _ (StableHlo.reshape_bufs_sub ..)
theorem ops2_sub : ∀ op ∈ ops2 (F := F), op.bufs ⊆ Pipeline.ucRefs τ sig := by
  intro op h
  simp only [ops2, List.mem_cons, List.not_mem_nil, or_false] at h
  rcases h with rfl | rfl <;> exact Pipeline.sub_ucRefs _ (StableHlo.reshape_bufs_sub ..)

set_option backward.isDefEq.respectTransparency.types false in
def seg0 : Pipeline.HostSeg (nD := nD) (Name := ℕ) (U := UU) (pcfgs (F := F)) defs₀ 𝒱₀ (Lx F) (lvx F) :=
  .ofOps _ _ _ _ _ (Pipeline.ucRefs τ sig) ops0 ops0_sub
    (by intro _ h; (repeat (cases h with | head => rfl | tail _ h => ?_)); exact nomatch h) (V1 m) owes0
set_option backward.isDefEq.respectTransparency.types false in
def seg1 : Pipeline.HostSeg (nD := nD) (Name := ℕ) (U := UU) (pcfgs (F := F)) defs₀ 𝒱₀ (Lx F) (lvx F) :=
  .ofOps _ _ _ _ _ (Pipeline.ucRefs τ sig) ops1 ops1_sub
    (by intro _ h; (repeat (cases h with | head => rfl | tail _ h => ?_)); exact nomatch h) (V3 m) owes0
set_option backward.isDefEq.respectTransparency.types false in
def seg2 : Pipeline.HostSeg (nD := nD) (Name := ℕ) (U := UU) (pcfgs (F := F)) defs₀ 𝒱₀ (Lx F) (lvx F) :=
  .ofOps _ _ _ _ _ (Pipeline.ucRefs τ sig) ops2 ops2_sub
    (by intro _ h; (repeat (cases h with | head => rfl | tail _ h => ?_)); exact nomatch h) (V5 m) owes0

/-- What is asked of the query relation at region 1's entry. -/
def QOK : Prop := ∀ c : Dev nD, k1_chk1 (qword (V2 m c (Proc.devRef .tc main_v1)))

theorem cut (p : Fin 2) : Pipeline.LevelCut (pcfgs (F := F)) adm none (Lx F) (lvx F) p (fun _ => 0) fun _ => 0 where
  hι c w s := Finset.mem_univ _
  hιb c w s := le_rfl
  hD c g i h := absurd h (by simp)

theorem mid_in (A B : sProp 𝕄) : iprop(A ∗ B) ⊢ iprop(A ∗ B ∗ emp ∗ emp) := by
  iintro ⟨H, HO⟩
  isplitl [H]; · iexact H
  isplitl [HO]; · iexact HO
  isplitr <;> iempintro
theorem mid_out (A B : sProp 𝕄) : iprop(A ∗ B ∗ emp ∗ emp) ⊢ iprop(A ∗ B) := by
  iintro ⟨H, HO, -⟩
  isplitl [H] <;> iassumption
theorem wand_in (A B : sProp 𝕄) : A ⊢ iprop((B -∗ B) ∗ A) := by
  iintro H
  isplitr
  · iintro H'; iexact H'
  iexact H
theorem rest_in (A : sProp 𝕄) : iprop(A ∗ emp) ⊢ A := sep_elim_left
theorem rest_out (A : sProp 𝕄) : A ⊢ iprop(A ∗ emp) := by
  iintro H; isplitl [H]; · iexact H
  iempintro

attribute [local irreducible] Pipeline.scopedRest

set_option backward.isDefEq.respectTransparency.types false in
def reg1 (hq : QOK m) : Pipeline.RegionSeg (nD := nD) (Name := ℕ) (U := UU) (pcfgs (F := F)) adm (dats m) none defs₀ 𝒱₀ (Lx F) (lvx F) 0 :=
  .ofHeldIn _ _ _ _ _ _ _ _ _ (fun _ => 0) (Pipeline.ucRefs τ sig) (fun _ => iprop(emp)) (fun _ => iprop(emp))
    launch1.toP rfl (fun c => (body1 (V2 m c) c (hq c)).loose) (fun _ _ => rfl) (fun _ => rfl)
    (fun c => (dat1 (V2 m c) c).share_full fun _ => rfl)
    (fun c => rest_in _) (fun c => rest_out _)
    (fun _ => 0) (cut 0) (fun _ => iprop(emp)) (V2 m) (fun _ _ => rfl)

set_option backward.isDefEq.respectTransparency.types false in
def reg2 : Pipeline.RegionSeg (nD := nD) (Name := ℕ) (U := UU) (pcfgs (F := F)) adm (dats m) none defs₀ 𝒱₀ (Lx F) (lvx F) 1 :=
  .ofHeldIn _ _ _ _ _ _ _ _ _ (fun _ => 0) (Pipeline.ucRefs τ sig) (fun _ => iprop(emp)) (fun _ => iprop(emp))
    launch2.toP rfl (fun c => (body2 (V4 m c) c).loose) (fun _ _ => rfl) (fun _ => rfl)
    (fun c => (dat2 (V4 m c) c).share_full fun _ => rfl)
    (fun c => rest_in _) (fun c => rest_out _)
    (fun _ => 0) (cut 1) (fun _ => iprop(emp)) (V4 m) (fun _ _ => rfl)

abbrev segs (hq : QOK m) : List (Pipeline.Seg (nD := nD) (Name := ℕ) (U := UU) (pcfgs (F := F)) adm (dats m) none defs₀ 𝒱₀ (Lx F) (lvx F)) :=
  [.host (seg0 m), .region (reg1 m hq), .host (seg1 m), .region (reg2 m), .host (seg2 m)]

theorem arrs1 : Pipeline.arrRefs (τ := τ) spec1 ⊆ Pipeline.ucRefs τ sig := Pipeline.arrRefs_sub_ucRefs spec1 (by decide)
theorem arrs2 : Pipeline.arrRefs (τ := τ) spec2 ⊆ Pipeline.ucRefs τ sig := Pipeline.arrRefs_sub_ucRefs spec2 (by decide)

set_option backward.isDefEq.respectTransparency.types false in
theorem pre1 (hq : QOK m) (c : Dev nD) : mid (V2 m) c ⊢ (reg1 m hq).pre c := by
  have h := Pipeline.RegionSeg.ofHeldIn_pre (pcs := pcfgs (F := F)) (a := adm) (pdats := dats m) (p := 0) (W := V2 m) (ι := none) (defs₀ := defs₀) (𝒱₀ := 𝒱₀) (L := Lx F) (lv := lvx F) (D := fun _ => 0)
    (S := Pipeline.ucRefs τ sig) (X := fun _ => iprop(emp)) (Y := fun _ => iprop(emp)) (R := fun _ => iprop(emp)) arrs1 (kit := launch1.toP) (hK := rfl) (hbody := fun c => (body1 (V2 m c) c (hq c)).loose)
    (howed := fun _ _ => rfl) (hrec := fun _ => rfl) (hshare := fun c => (dat1 (V2 m c) c).share_full fun _ => rfl)
    (hin := fun _ => rest_in _) (hout := fun _ => rest_out _) (b := fun _ => 0) (hcut := cut 0) (hW := fun _ _ => rfl) c
  exact (mid_in _ _).trans h

set_option backward.isDefEq.respectTransparency.types false in
theorem post1 (hq : QOK m) (c : Dev nD) : (reg1 m hq).post c ⊢ mid (V3 m) c := by
  have h := Pipeline.RegionSeg.ofHeldIn_post (pcs := pcfgs (F := F)) (a := adm) (pdats := dats m) (p := 0) (W := V2 m) (ι := none) (defs₀ := defs₀) (𝒱₀ := 𝒱₀) (L := Lx F) (lv := lvx F) (D := fun _ => 0)
    (S := Pipeline.ucRefs τ sig) (X := fun _ => iprop(emp)) (Y := fun _ => iprop(emp)) (R := fun _ => iprop(emp)) arrs1 (kit := launch1.toP) (hK := rfl) (hbody := fun c => (body1 (V2 m c) c (hq c)).loose)
    (howed := fun _ _ => rfl) (hrec := fun _ => rfl) (hshare := fun c => (dat1 (V2 m c) c).share_full fun _ => rfl)
    (hin := fun _ => rest_in _) (hout := fun _ => rest_out _) (b := fun _ => 0) (hcut := cut 0) (hW := fun _ _ => rfl) c
  exact h.trans (mid_out _ _)

set_option backward.isDefEq.respectTransparency.types false in
theorem pre2 (c : Dev nD) : mid (V4 m) c ⊢ (reg2 m).pre c := by
  have h := Pipeline.RegionSeg.ofHeldIn_pre (pcs := pcfgs (F := F)) (a := adm) (pdats := dats m) (p := 1) (W := V4 m) (ι := none) (defs₀ := defs₀) (𝒱₀ := 𝒱₀) (L := Lx F) (lv := lvx F) (D := fun _ => 0)
    (S := Pipeline.ucRefs τ sig) (X := fun _ => iprop(emp)) (Y := fun _ => iprop(emp)) (R := fun _ => iprop(emp)) arrs2 (kit := launch2.toP) (hK := rfl) (hbody := fun c => (body2 (V4 m c) c).loose)
    (howed := fun _ _ => rfl) (hrec := fun _ => rfl) (hshare := fun c => (dat2 (V4 m c) c).share_full fun _ => rfl)
    (hin := fun _ => rest_in _) (hout := fun _ => rest_out _) (b := fun _ => 0) (hcut := cut 1) (hW := fun _ _ => rfl) c
  exact (mid_in _ _).trans h

set_option backward.isDefEq.respectTransparency.types false in
theorem post2 (c : Dev nD) : (reg2 m).post c ⊢ mid (V5 m) c := by
  have h := Pipeline.RegionSeg.ofHeldIn_post (pcs := pcfgs (F := F)) (a := adm) (pdats := dats m) (p := 1) (W := V4 m) (ι := none) (defs₀ := defs₀) (𝒱₀ := 𝒱₀) (L := Lx F) (lv := lvx F) (D := fun _ => 0)
    (S := Pipeline.ucRefs τ sig) (X := fun _ => iprop(emp)) (Y := fun _ => iprop(emp)) (R := fun _ => iprop(emp)) arrs2 (kit := launch2.toP) (hK := rfl) (hbody := fun c => (body2 (V4 m c) c).loose)
    (howed := fun _ _ => rfl) (hrec := fun _ => rfl) (hshare := fun c => (dat2 (V4 m c) c).share_full fun _ => rfl)
    (hin := fun _ => rest_in _) (hout := fun _ => rest_out _) (b := fun _ => 0) (hcut := cut 1) (hW := fun _ _ => rfl) c
  exact h.trans (mid_out _ _)

/-- The stretches run one after the other. -/
abbrev tail (hq : QOK m) := Pipeline.Seg.run (segs m hq)

set_option backward.isDefEq.respectTransparency.types false in
theorem main_eq (hq : QOK m) (d : Dev nD) :
    main (F := F) d = (sc (F := F)).run d 0 >>= fun _ => SparseCore.liftProg (tail m hq) := by
  rfl

set_option backward.isDefEq.respectTransparency.types false in
theorem tail_wp [∀ e, Nonempty (Elt F e)] (hq : QOK m) (d : Dev nD) :
    iprop(boundary (d.tc : Thread nD τ) ∗ mid (V1 m) d ∗ levAts (Lx F) (lvx F) ∗ Pipeline.ghostOn (pcfgs (F := F)) adm EP Finset.univ d)
      ⊢ wp frame (wpE (D (F := F)) 𝒱 (d.tc : Thread nD τ) none) Set.univ (tail m hq)
          fun _ => iprop(boundary (d.tc : Thread nD τ) ∗ mid (V6 m) d) := by
  exact (wand_in _ (iprop(boundary (d.tc : Thread nD τ) ∗ mid (V6 m) d))).trans (Pipeline.wp_segs (pcfgs (F := F)) adm (dats m) none cellOf_inj EP defs₀ 𝒱₀ (Lx F) (lvx F) d (Q := fun _ => iprop(boundary (d.tc : Thread nD τ) ∗ mid (V6 m) d)) (segs m hq) Finset.univ (mid (V1 m)) (mid (V6 m))
    (by simp only [segs, Pipeline.Seg.pipes_host, Pipeline.Seg.pipes_region, Pipeline.Seg.pipes_nil]; decide) (fun _ _ => Finset.mem_univ _)
    ⟨fun _ => .rfl, pre1 m hq, post1 m hq, pre2 m, post2 m, fun _ => .rfl⟩)

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), (1 : Counters)))

theorem ghost_join : iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))
    ⊢ bigSep Finset.univ fun c : Dev nD => Pipeline.ghostOn (pcfgs (F := F)) adm EP Finset.univ c := by
  rw [← bigSep_sep']
  exact bigSep_mono fun c _ => show iprop((bigSep Finset.univ fun p => Pipeline.cellsGhost (Pipeline.pin (pcfgs (F := F)) adm) EP p c)
      ∗ bigSep Finset.univ fun p => (Pipeline.toksInit (Pipeline.pin (pcfgs (F := F)) adm) EP p c : sProp 𝕄))
      ⊢ Pipeline.PerCore.ghostOn (pcfgs (F := F)) (fun _ => adm) EP Finset.univ c
    from Entails.of_eq (by unfold Pipeline.PerCore.ghostOn; rw [bigSep_sep'])

theorem fund : (BI.own (((Emb.inl : Emb UP (UP × Counters)).trans (embR : Emb (UP × Counters) 𝕄)) (initOf (Pipeline.cells (Pipeline.pin (pcfgs (F := F)) adm) cellOf_inj) (Pipeline.launchToks (Pipeline.pin (pcfgs (F := F)) adm) cellOf_inj))) : sProp 𝕄)
    ⊢ iprop(|==> ((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))) :=
  Pipeline.fund_ghost (Pipeline.pin (pcfgs (F := F)) adm) EP cellOf_inj

theorem px_emp : (bigSep Finset.univ fun thr : Thread nD τ => bigSep Finset.univ fun q : Fin 1 => (P (F := F) m).x q thr) = (iprop(emp) : sProp 𝕄) :=
  (bigSep_congr fun _ _ => bigSep_emp_const _).trans (bigSep_emp_const _)

theorem hu₀ : (ownU (u₀ (F := F)) : sProp 𝕄)
    ⊢ |={Set.univ}=> iprop(BI.own (EH (initOf (K (F := F)).hsCells (K (F := F)).hsToks))
        ∗ (bigSep Finset.univ fun d : Dev nD => Pipeline.ghostOn (pcfgs (F := F)) adm EP Finset.univ d)
        ∗ bigSep Finset.univ fun thr : Thread nD τ => bigSep Finset.univ fun q : Fin 1 => (P m).x q thr) := by
  rw [px_emp]
  unfold u₀
  iintro Hu
  ihave H := (ownU_pair _ _) $$ Hu
  icases H with ⟨HH, HR⟩
  ihave H := (own_pair_emb _ _ _) $$ HR
  icases H with ⟨HP, -⟩
  imod (fund (F := F)) $$ HP with ⟨Hg, Ht⟩
  ihave HG := (ghost_join (F := F)) $$ [Hg Ht]
  · isplitl [Hg] <;> iassumption
  imodintro
  isplitl [HH]; · iexact HH
  isplitl [HG]; · iexact HG
  iempintro

/-! ## @main -/

abbrev eRef : DevRef τ sig := Proc.devRef .tc main_arg1
abbrev oRef : DevRef τ sig := Proc.devRef .tc main_v0

theorem two_sub : ({eRef, oRef} : Finset (DevRef τ sig)) ⊆ Pipeline.ucRefs τ sig := by
  intro b hb
  rcases Finset.mem_insert.mp hb with rfl | hb
  · exact Pipeline.devRef_mem_ucRefs rfl
  · cases Finset.mem_singleton.mp hb; exact Pipeline.devRef_mem_ucRefs rfl

/-- The SparseCore call's two arrays out of the buffers held. -/
theorem held_two (d : Dev nD) (V : Valuation τ sig (Elt F)) :
    (StableHlo.held d.tc (Pipeline.ucRefs τ sig) V : sProp 𝕄)
      = iprop(((eLoc d ↦{fullShare} V eRef) ∗ oLoc d ↦{fullShare} V oRef) ∗ StableHlo.held d.tc (Pipeline.ucRefs τ sig \ {eRef, oRef}) V) := by
  rw [StableHlo.held_sub_split _ two_sub V]
  congr 1
  unfold StableHlo.held
  rw [SparseCore.bigSep_insert' (by decide), bigSep_singleton]

theorem V1_e (d : Dev nD) : V1 m d eRef = m (eLoc d) := Function.update_of_ne (by decide) _ _
theorem V1_o (d : Dev nD) : V1 m d oRef = histTab (m (eLoc d)) := Function.update_self _ _ _

theorem rest_eq (d : Dev nD) : (StableHlo.held d.tc (Pipeline.ucRefs τ sig \ {eRef, oRef}) (V0 m d) : sProp 𝕄)
    = StableHlo.held d.tc (Pipeline.ucRefs τ sig \ {eRef, oRef}) (V1 m d) :=
  StableHlo.held_congr _ fun b hb => by
    have : b ≠ oRef := fun e => (Finset.mem_sdiff.mp hb).2 (by rw [e]; simp)
    exact (Function.update_of_ne this _ _).symm

theorem owes_one (d : Dev nD) (W : Waits sig (HIx 1)) :
    (K (F := F)).WBelow (T d) W (8 * SparseCore.Cfg.Blocks.fst (Q := 1) (N := 1) 1) := by
  intro p _
  show (K (F := F)).lev _ _ ≤ 8
  rcases h : p.2 with _ | q
  · exact Nat.zero_le _
  · show 8 * q.val + (K (F := F)).place _ + 1 ≤ 8
    have : (K (F := F)).place (T d, p.1) = 6 := rfl
    omega

theorem Otc_one (d : Dev nD) : (K (F := F)).Otc (N := 1) d 1 = 0 := by
  unfold SparseCore.Cfg.Otc
  refine Finset.sum_eq_zero fun q _ => if_neg ?_
  omega

abbrev FIN (d : Dev nD) : sProp 𝕄 := StableHlo.held d.tc (Pipeline.ucRefs τ sig) (V6 m d)

theorem unscoped_held (d : Dev nD) : (unscopedBufs d (fun b => m ((SparseCore.T d).loc b)) : sProp 𝕄) = StableHlo.held d.tc (Pipeline.ucRefs τ sig) (V0 m d) :=
  Pipeline.unscopedBufs_held (Ix := HIx 1) (Name := ℕ) (U := UU) (Lvl := ℕ) d (V0 m d)

/-- What the TensorCore still holds of the handshakes once the call is done, its tally aside. -/
abbrev hs1 (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_open (d : Dev nD) : ((K (F := F)).tcSt EH d 1 : sProp 𝕄) ⊢ iprop(owes0 d ∗ hs1 d) := by
  unfold SparseCore.Cfg.tcSt
  rw [Otc_one]
  iintro ⟨⟨%W, -, HO⟩, H⟩
  isplitl [HO]
  · iexists W; iexact HO
  iexact H

theorem tcSt_close (d : Dev nD) : (iprop(owes0 d ∗ hs1 d) : sProp 𝕄) ⊢ (K (F := F)).tcSt EH d 1 := by
  unfold SparseCore.Cfg.tcSt
  rw [Otc_one]
  iintro ⟨⟨%W, HO⟩, H⟩
  isplitl [HO]
  · iexists W
    isplitr
    · ipureintro; exact owes_one d W
    iexact HO
  iexact H

theorem hmain_end (d : Dev nD) : iprop((boundary (d.tc : Thread nD τ) ∗ mid (V6 m) d) ∗ hs1 d ∗ (K (F := F)).tcSems0 d)
    ⊢ (iprop((K (F := F)).tcSt EH d 1 ∗ FIN m d ∗ boundary (SparseCore.T d) ∗ (K (F := F)).tcSems0 d) : sProp 𝕄) := by
  iintro ⟨⟨Hb, Hh, HO⟩, Hhs, Hts⟩
  isplitl [HO Hhs]
  · iapply (tcSt_close d)
    isplitl [HO] <;> iassumption
  isplitl [Hh]; · iexact Hh
  isplitl [Hb] <;> iassumption

theorem hmain [∀ e, Nonempty (Elt F e)] (ρ : Dev nD → PrngReg) (hq : QOK m) (κ : GSem nD τ sig → ℕ) (d : Dev nD) :
    iprop((K (F := F)).ctx EH (P m) κ ∗ (K (F := F)).tcSt EH d 0 ∗ (K (F := F)).tcRes m ρ d ∗ Pipeline.ghostOn (pcfgs (F := F)) adm EP Finset.univ d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq m hq d, unscoped_held, held_two, rest_eq]
  rw [wp_bind]
  iintro ⟨#Hctx, Hst, ⟨Hb, ⟨Heo, Hrest⟩, Hts, -⟩, HG⟩
  iapply ((K (F := F)).wp_run (D (F := F)) 𝒱 (EH := EH) (P := P m) κ d 0) $$ [Hst Heo Hrest Hb Hts HG]
  isplitr; · iexact Hctx
  isplitl [Hst]; · iexact Hst
  isplitl [Heo]
  · rw [st0_eq]; iexact Heo
  iintro ⟨Hst, Hdn⟩
  ihave Heo := (Entails.of_eq (dn0_eq m d)) $$ Hdn
  ihave Hst' := (show ((K (F := F)).tcSt EH d ((0 : Fin 1).val + 1) : sProp 𝕄) ⊢ iprop(owes0 d ∗ hs1 d) from tcSt_open (F := F) d) $$ Hst
  icases Hst' with ⟨HO, Hhs⟩
  ihave Hla := ((K (F := F)).ctx_levAts κ) $$ Hctx
  ihave Hheld : (StableHlo.held d.tc (Pipeline.ucRefs τ sig) (V1 m d) : sProp 𝕄) $$ [Heo Hrest]
  · rw [held_two, V1_e, V1_o]
    isplitl [Heo] <;> iassumption
  ihave Hwp := ((tail_wp m hq d).trans ((K (F := F)).wp_liftProg (D (F := F)) 𝒱 (SparseCore.T d) Set.univ none _ _)) $$ [Hb Hheld HO Hla HG]
  · isplitl [Hb]; · iexact Hb
    isplitl [Hheld HO]
    · isplitl [Hheld] <;> iassumption
    isplitl [Hla] <;> iassumption
  iapply ((wp_frame_r frame _ _).trans (wp_mono frame _ _ fun _ => hmain_end m d)) $$ [Hwp Hhs Hts]
  isplitl [Hwp]; · iexact Hwp
  isplitl [Hhs] <;> iassumption

/-! ## What the run leaves -/

def fq (d : Dev nD) (s' : Phys nD τ sig (Elt F)) : Prop := ∀ b : DevRef τ sig, b ∈ Pipeline.ucRefs τ sig → s'.mem.mem (d, b) = V6 m d b

theorem hfin (d : Dev nD) (s' : Phys nD τ sig (Elt F)) : iprop(FIN m d ∗ SI s') ⊢ (⌜fq m d s'⌝ : sProp 𝕄) := by
  have one (b : DevRef τ sig) (hb : b ∈ Pipeline.ucRefs τ sig) : iprop(FIN m d ∗ SI s') ⊢ (⌜s'.mem.mem (d, b) = V6 m d b⌝ : sProp 𝕄) := by
    have hel : (StableHlo.held d.tc (Pipeline.ucRefs τ sig) (V6 m d) : sProp 𝕄) ⊢ ((d, b) : Loc nD τ sig) ↦{fullShare} V6 m d b :=
      bigSep_elim (Φ := fun b : DevRef τ sig => (((d, b) : Loc nD τ sig) ↦{fullShare} V6 m d b : sProp 𝕄)) hb
    iintro ⟨H, HSI⟩
    ihave Hp := hel $$ H
    ihave H := (SI_pointsTo_agree (st := s') (ℓ := ((d, b) : Loc nD τ sig)) (I := Finset.univ) (q := fullShare) (f := V6 m d b)) $$ [HSI Hp]
    · isplitl [HSI] <;> iassumption
    icases H with %h
    ipureintro; exact funext fun i => h i (Finset.mem_univ i)
  by_cases h : fq m d s'
  · iintro -; ipureintro; exact h
  · unfold fq at h
    simp only [not_forall] at h
    obtain ⟨b, hb, hne⟩ := h
    iintro H
    ihave H' := (one b hb) $$ H
    icases H' with %h
    exact absurd h hne

def QC : PUnit × MemSt nD τ sig (Elt F) → Prop := fun r =>
  (∀ (d : Dev nD) (b : DevRef τ sig), b ∈ Pipeline.ucRefs τ sig → r.2.mem (d, b) = V6 m d b) ∧ r.2.sem = fun _ => 0

/-- The run: every unscoped buffer ends at `V6`, every counter at zero. -/
theorem run_main [∀ e, Nonempty (Elt F e)] (ρ : Dev nD → PrngReg) (hpre : PreOK m) (hq : QOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => Pipeline.ghostOn (pcfgs (F := F)) adm EP Finset.univ d) (FIN m) (u₀ (F := F)) (sep_elim_left.trans (hu₀ m)) (hmain m ρ hq)
    (fq m) (hfin m) (QC m) (fun _ h hz => ⟨h, hz⟩)

end Cert.Proof
-- ==== Proof.Values.lean ====
/-
  What the run leaves in the argument buffers and in the two results.
-/
module

public import proofs.«01_k».proof.Proof.Run

@[expose] public section

noncomputable section

namespace Cert.Proof

open Cert.KernelIdeal Cert.KernelIdeal.Gen

open Idealize.ShloMosaic
open Idealize.ShloMosaic.TcCoe

variable {F : FTy → Type} [FloatOps F]

variable (m : (ℓ : Loc nD τ sig) → Buf (Elt F) ℓ)

/-! ## What each stretch leaves alone -/

theorem V1_keep (d : Dev nD) {r : Ref sig .tc} (h : r ≠ main_v0) : V1 m d (Proc.devRef .tc r) = m (d, Proc.devRef .tc r) :=
  Function.update_of_ne (fun e => h (Proc.devRef_injective _ e)) _ _

theorem V2_keep (d : Dev nD) {r : Ref sig .tc} (h : r ∉ [main_v1, main_v2, main_v3]) :
    V2 m d (Proc.devRef .tc r) = V1 m d (Proc.devRef .tc r) := by
  simp only [List.mem_cons, List.not_mem_nil, or_false, not_or] at h
  unfold V2 ops0
  simp only [StableHlo.after_cons, StableHlo.after_nil]
  rw [StableHlo.reshape_result_ne (h := h.2.2), StableHlo.reshape_result_ne (h := h.2.1), StableHlo.reshape_result_ne (h := h.1)]

theorem V3_keep (d : Dev nD) {r : Ref sig .tc} (h : ∀ w, Pipeline.arrRef spec1 w = r → (cfg1.win w).isOut = false) :
    V3 m d (Proc.devRef .tc r) = V2 m d (Proc.devRef .tc r) :=
  Pipeline.afterRegion_keeps (dat1 (V2 m d) d) (V2 m d) winFacts1.arr_inj (fun _ => rfl) r h

theorem V4_keep (d : Dev nD) {r : Ref sig .tc} (h : r ∉ [main_v5, main_v6, main_v7, main_v8]) :
    V4 m d (Proc.devRef .tc r) = V3 m d (Proc.devRef .tc r) := by
  simp only [List.mem_cons, List.not_mem_nil, or_false, not_or] at h
  unfold V4 ops1
  simp only [StableHlo.after_cons, StableHlo.after_nil]
  rw [StableHlo.reshape_result_ne (h := h.2.2.2), StableHlo.reshape_result_ne (h := h.2.2.1), StableHlo.reshape_result_ne (h := h.2.1),
    StableHlo.reshape_result_ne (h := h.1)]

theorem V5_keep (d : Dev nD) {r : Ref sig .tc} (h : ∀ w, Pipeline.arrRef spec2 w = r → (cfg2.win w).isOut = false) :
    V5 m d (Proc.devRef .tc r) = V4 m d (Proc.devRef .tc r) :=
  Pipeline.afterRegion_keeps (dat2 (V4 m d) d) (V4 m d) winFacts2.arr_inj (fun _ => rfl) r h

theorem V6_keep (d : Dev nD) {r : Ref sig .tc} (h : r ∉ [main_v10, main_v11]) :
    V6 m d (Proc.devRef .tc r) = V5 m d (Proc.devRef .tc r) := by
  simp only [List.mem_cons, List.not_mem_nil, or_false, not_or] at h
  unfold V6 ops2
  simp only [StableHlo.after_cons, StableHlo.after_nil]
  rw [StableHlo.reshape_result_ne (h := h.2), StableHlo.reshape_result_ne (h := h.1)]

/-- The buffers nothing writes. -/
def Kept (r : Ref sig .tc) : Prop :=
  r ≠ main_v0 ∧ r ∉ [main_v1, main_v2, main_v3] ∧ (∀ w, Pipeline.arrRef spec1 w = r → (cfg1.win w).isOut = false)
    ∧ r ∉ [main_v5, main_v6, main_v7, main_v8] ∧ (∀ w, Pipeline.arrRef spec2 w = r → (cfg2.win w).isOut = false) ∧ r ∉ [main_v10, main_v11]

instance (r : Ref sig .tc) : Decidable (Kept r) := by unfold Kept; infer_instance

theorem V2_of_kept (d : Dev nD) {r : Ref sig .tc} (h : Kept r) : V2 m d (Proc.devRef .tc r) = m (d, Proc.devRef .tc r) :=
  (V2_keep m d h.2.1).trans (V1_keep m d h.1)
theorem V3_of_kept (d : Dev nD) {r : Ref sig .tc} (h : Kept r) : V3 m d (Proc.devRef .tc r) = m (d, Proc.devRef .tc r) :=
  (V3_keep m d h.2.2.1).trans (V2_of_kept m d h)
theorem V4_of_kept (d : Dev nD) {r : Ref sig .tc} (h : Kept r) : V4 m d (Proc.devRef .tc r) = m (d, Proc.devRef .tc r) :=
  (V4_keep m d h.2.2.2.1).trans (V3_of_kept m d h)
theorem V6_of_kept (d : Dev nD) {r : Ref sig .tc} (h : Kept r) : V6 m d (Proc.devRef .tc r) = m (d, Proc.devRef .tc r) :=
  (V6_keep m d h.2.2.2.2.2).trans ((V5_keep m d h.2.2.2.2.1).trans (V4_of_kept m d h))

/-! ## The host operations' results -/

theorem V2_v1 (d : Dev nD) : V2 m d (Proc.devRef .tc main_v1) = shapeCast S1x1 (m (d, Proc.devRef .tc main_arg3)) shapeCasts_S_S1x1 := by
  unfold V2 ops0
  simp only [StableHlo.after_cons, StableHlo.after_nil]
  rw [StableHlo.reshape_result_ne (h := by decide), StableHlo.reshape_result_ne (h := by decide), StableHlo.reshape_result, V1_keep m d (by decide)]
  rfl
theorem V2_v2 (d : Dev nD) : V2 m d (Proc.devRef .tc main_v2) = shapeCast S1x32 (m (d, Proc.devRef .tc main_arg8)) shapeCasts_S32_S1x32 := by
  unfold V2 ops0
  simp only [StableHlo.after_cons, StableHlo.after_nil]
  rw [StableHlo.reshape_result_ne (h := by decide), StableHlo.reshape_result, StableHlo.reshape_result_ne (h := by decide), V1_keep m d (by decide)]
  rfl
theorem V2_v3 (d : Dev nD) : V2 m d (Proc.devRef .tc main_v3) = shapeCast S1x1 (m (d, Proc.devRef .tc main_arg10)) shapeCasts_S1_S1x1 := by
  unfold V2 ops0
  simp only [StableHlo.after_cons, StableHlo.after_nil]
  rw [StableHlo.reshape_result, StableHlo.reshape_result_ne (h := by decide), StableHlo.reshape_result_ne (h := by decide), V1_keep m d (by decide)]
  rfl

theorem V4_v5 (d : Dev nD) : V4 m d (Proc.devRef .tc main_v5) = shapeCast S1x64 (m (d, Proc.devRef .tc main_arg12)) shapeCasts_S64_S1x64 := by
  unfold V4 ops1
  simp only [StableHlo.after_cons, StableHlo.after_nil]
  rw [StableHlo.reshape_result_ne (h := by decide), StableHlo.reshape_result_ne (h := by decide), StableHlo.reshape_result_ne (h := by decide), StableHlo.reshape_result,
    V3_of_kept m d (by decide)]
  rfl
theorem V4_v6 (d : Dev nD) : V4 m d (Proc.devRef .tc main_v6) = shapeCast S1x64 (m (d, Proc.devRef .tc main_arg14)) shapeCasts_S64_S1x64 := by
  unfold V4 ops1
  simp only [StableHlo.after_cons, StableHlo.after_nil]
  rw [StableHlo.reshape_result_ne (h := by decide), StableHlo.reshape_result_ne (h := by decide), StableHlo.reshape_result, StableHlo.reshape_result_ne (h := by decide),
    V3_of_kept m d (by decide)]
  rfl
theorem V4_v7 (d : Dev nD) : V4 m d (Proc.devRef .tc main_v7) = shapeCast S1x64 (m (d, Proc.devRef .tc main_arg16)) shapeCasts_S64_S1x64 := by
  unfold V4 ops1
  simp only [StableHlo.after_cons, StableHlo.after_nil]
  rw [StableHlo.reshape_result_ne (h := by decide), StableHlo.reshape_result, StableHlo.reshape_result_ne (h := by decide), StableHlo.reshape_result_ne (h := by decide),
    V3_of_kept m d (by decide)]
  rfl
theorem V4_v8 (d : Dev nD) : V4 m d (Proc.devRef .tc main_v8) = shapeCast S1x64 (m (d, Proc.devRef .tc main_arg18)) shapeCasts_S64_S1x64 := by
  unfold V4 ops1
  simp only [StableHlo.after_cons, StableHlo.after_nil]
  rw [StableHlo.reshape_result, StableHlo.reshape_result_ne (h := by decide), StableHlo.reshape_result_ne (h := by decide), StableHlo.reshape_result_ne (h := by decide),
    V3_of_kept m d (by decide)]
  rfl

theorem V4_v0 (d : Dev nD) : V4 m d (Proc.devRef .tc main_v0) = histTab (m (eLoc d)) :=
  (V4_keep m d (by decide)).trans ((V3_keep m d (by decide)).trans ((V2_keep m d (by decide)).trans (V1_o m d)))

/-! ## The first region's results -/

variable (d : Dev nD)

/-- An argument as launched. -/
abbrev arg (r : Ref sig .tc) : Buf (Elt F) ((d, Proc.devRef .tc r) : Loc nD τ sig) := m (d, Proc.devRef .tc r)

/-- The query relation as the first region is handed it. -/
def qArr : S1x1.Idx → BitVec 32 := shapeCast S1x1 (arg m d main_arg3) shapeCasts_S_S1x1

def simsArr := simsOf (F := F) (arg m d main_arg6) (qArr m d)
def queryArr : S1x64.Idx → F .f32 := rowAt (arg m d main_arg5) (qrel (F := F) (qArr m d))
def confArr := confOf (F := F) (arg m d main_arg5) (qArr m d) (arg m d main_arg7) (shapeCast S1x32 (arg m d main_arg8) shapeCasts_S32_S1x32)
  (arg m d main_arg9) (shapeCast S1x1 (arg m d main_arg10) shapeCasts_S1_S1x1)

theorem V4_v4_0 : V4 m d (Proc.devRef .tc main_v4_0) = simsArr m d := by
  refine (V4_keep m d (by decide)).trans ((Pipeline.afterRegion_arr (dat1 (V2 m d) d) (V2 m d) winFacts1.arr_inj 7).trans ((final1_7 (V2 m d) d).trans ?_))
  rw [V2_v1, V2_of_kept m d (by decide)]; rfl
theorem V4_v4_1 : V4 m d (Proc.devRef .tc main_v4_1) = queryArr m d := by
  refine (V4_keep m d (by decide)).trans ((Pipeline.afterRegion_arr (dat1 (V2 m d) d) (V2 m d) winFacts1.arr_inj 8).trans ((final1_8 (V2 m d) d).trans ?_))
  rw [V2_v1, V2_of_kept m d (by decide)]; rfl
theorem V4_v4_2 : V4 m d (Proc.devRef .tc main_v4_2) = confArr m d := by
  refine (V4_keep m d (by decide)).trans ((Pipeline.afterRegion_arr (dat1 (V2 m d) d) (V2 m d) winFacts1.arr_inj 9).trans ((final1_9 (V2 m d) d).trans ?_))
  rw [V2_v1, V2_v2, V2_v3, V2_of_kept m d (r := main_arg5) (by decide), V2_of_kept m d (r := main_arg7) (by decide), V2_of_kept m d (r := main_arg9) (by decide)]; rfl

/-! ## The results -/

def fusedArr := fusedOf (F := F) (histTab (m (eLoc d))) (simsArr m d) (queryArr m d) (confArr m d) (arg m d main_arg6)
  (arg m d main_arg11) (shapeCast S1x64 (arg m d main_arg12) shapeCasts_S64_S1x64)
  (arg m d main_arg13) (shapeCast S1x64 (arg m d main_arg14) shapeCasts_S64_S1x64)
  (arg m d main_arg15) (shapeCast S1x64 (arg m d main_arg16) shapeCasts_S64_S1x64)
  (arg m d main_arg17) (shapeCast S1x64 (arg m d main_arg18) shapeCasts_S64_S1x64)
def scoreArr := scoreOf (F := F) (histTab (m (eLoc d))) (simsArr m d) (confArr m d)

theorem V5_v9_0 : V5 m d (Proc.devRef .tc main_v9_0) = fusedArr m d := by
  refine (Pipeline.afterRegion_arr (dat2 (V4 m d) d) (V4 m d) winFacts2.arr_inj 13).trans ((final2_13 (V4 m d) d).trans ?_)
  rw [V4_v0, V4_v4_0, V4_v4_1, V4_v4_2, V4_v5, V4_v6, V4_v7, V4_v8, V4_of_kept m d (r := main_arg6) (by decide), V4_of_kept m d (r := main_arg11) (by decide),
    V4_of_kept m d (r := main_arg13) (by decide), V4_of_kept m d (r := main_arg15) (by decide), V4_of_kept m d (r := main_arg17) (by decide)]; rfl
theorem V5_v9_1 : V5 m d (Proc.devRef .tc main_v9_1) = scoreArr m d := by
  refine (Pipeline.afterRegion_arr (dat2 (V4 m d) d) (V4 m d) winFacts2.arr_inj 14).trans ((final2_14 (V4 m d) d).trans ?_)
  rw [V4_v0, V4_v4_0, V4_v4_2]; rfl

theorem V6_v10 : V6 m d (Proc.devRef .tc main_v10) = shapeCast S64 (fusedArr m d) shapeCasts_S1x64_S64 := by
  unfold V6 ops2
  simp only [StableHlo.after_cons, StableHlo.after_nil]
  rw [StableHlo.reshape_result_ne (h := by decide), StableHlo.reshape_result, V5_v9_0]
  rfl
theorem V6_v11 : V6 m d (Proc.devRef .tc main_v11) = shapeCast S_ (scoreArr m d) shapeCasts_S1x1_S_ := by
  unfold V6 ops2
  simp only [StableHlo.after_cons, StableHlo.after_nil]
  rw [StableHlo.reshape_result, StableHlo.reshape_result_ne (h := by decide), V5_v9_1]
  rfl

end Cert.Proof
-- ==== Proof.Pre.lean ====
/-
  What the precondition says of the launch memory.
-/
module

public import proofs.«01_k».proof.Proof.Values
public import proofs.«01_k».proof.Proof.Gen.Pre_in_range
public import Idealize.ShloMosaic.Lib.ReduceAll

@[expose] public section

noncomputable section

namespace Cert.Proof

open Idealize.ShloMosaic

/-- Two one-bit words' conjunction is one exactly when both are. -/
theorem andi_one {a b : BitVec 1} (h : IntOp.andi a b = 1#1) : a = 1#1 ∧ b = 1#1 := by
  revert a b; decide

theorem ofBool_one {p : Bool} (h : BitVec.ofBool p = 1#1) : p = true := by revert h; cases p <;> decide

/-- A word at least 0 and below 500 as a signed word is its own value, below 500. -/
theorem word_range {v : BitVec 32} (h0 : IntOp.cmpi .sge v 0#32 = 1#1) (h1 : IntOp.cmpi .slt v 500#32 = 1#1) : v.toNat < 500 := by
  simp only [IntOp.cmpi] at h0 h1
  have h0 := ofBool_one h0; have h1 := ofBool_one h1
  simp only [BitVec.sle_eq_decide, BitVec.slt_eq_decide, decide_eq_true_eq, BitVec.toInt_eq_toNat_cond, BitVec.toNat_ofNat, Nat.reducePow, Nat.reduceMod] at h0 h1
  omega

/-- The index ranges: every relation word, and the query relation, below 500. -/
def Ranges (e : Cert.Pre_in_range.S800000.Idx → BitVec 32) (q : Cert.Pre_in_range.S_.Idx → BitVec 32) : Prop :=
  (∀ j, (e j).toNat < 500) ∧ ∀ j, (q j).toNat < 500

theorem ranges_of {e : IVec Cert.Pre_in_range.S800000 32} {q : IVec Cert.Pre_in_range.S_ 32} [Cert.Pre_in_range.Facts]
    (h : andi (andi (Host.reduce IntOp.andi (andi (cmpi .sge e (broadcastInDim Cert.Pre_in_range.S800000 ![] Cert.Pre_in_range.Facts.bcast_S_S800000 (constantI Cert.Pre_in_range.S_ 32 0#32)))
        (cmpi .slt e (broadcastInDim Cert.Pre_in_range.S800000 ![] Cert.Pre_in_range.Facts.bcast_S_S800000 (constantI Cert.Pre_in_range.S_ 32 500#32))))
        (constantI Cert.Pre_in_range.S_ 1 1#1) Cert.Pre_in_range.Facts.reducesTo_S800000_S_d0 Cert.Pre_in_range.Facts.h_S_)
      (cmpi .sge q (constantI Cert.Pre_in_range.S_ 32 0#32))) (cmpi .slt q (constantI Cert.Pre_in_range.S_ 32 500#32)) = fun _ => 1#1) : Ranges e q := by
  haveI : Subsingleton Cert.Pre_in_range.S_.Idx := ⟨fun a b => funext fun i => i.elim0⟩
  constructor
  · intro j
    have h1 := (andi_one (andi_one (congrFun h (fun i => i.elim0))).1).1
    have h2 := andi_one (Host.reduce_andi_all _ _ _ _ _ h1 j)
    exact word_range h2.1 h2.2
  · intro j
    have h1 := andi_one (congrFun h j)
    exact word_range (andi_one h1.1).2 h1.2

open Cert.KernelIdeal Cert.KernelIdeal.Gen

variable {F : FTy → Type} [FloatOps F] (m : (ℓ : Loc nD τ sig) → Buf (Elt F) ℓ)

def MemRanges : Prop := ∀ d : Dev nD, Ranges (arg m d main_arg1) (arg m d main_arg3)

theorem preOK_of (h : MemRanges m) : PreOK m := fun d j => lt_of_lt_of_le ((h d).1 j) (by decide)

/-- A word below 500, clipped to 499, is itself. -/
theorem clip_of {w : BitVec 32} (hw : w.toNat < 500) : (Scalar.indexCast (Scalar.minsi w 499#32)).toNat = w.toNat := by
  have e : Scalar.minsi w 499#32 = w := by
    show (if BitVec.slt w 499#32 then w else 499#32) = w
    split
    · rfl
    · rename_i hs
      simp only [BitVec.slt_eq_decide, decide_eq_true_eq, BitVec.toInt_eq_toNat_cond, BitVec.toNat_ofNat, Nat.reducePow, Nat.reduceMod] at hs
      apply BitVec.eq_of_toNat_eq
      simp only [BitVec.toNat_ofNat, Nat.reducePow, Nat.reduceMod]
      split at hs <;> simp at hs <;> omega
  rw [e]; rfl

theorem qword_of (h : MemRanges m) (d : Dev nD) : (qword (F := F) (qArr m d)).toNat < 500 := (h d).2 _

theorem QOK_of (h : MemRanges m) : QOK m := fun d => by
  rw [V2_v1]
  have hq : (qword (F := F) (qArr m d)).toNat < 500 := qword_of m h d
  show k1_chk1 (qword (F := F) (qArr m d))
  have hc := clip_of hq
  intro a
  match a with
  | ⟨0, _⟩ => show (Scalar.indexCast (Scalar.minsi (qword (F := F) (qArr m d)) 499#32)).toNat + 1 ≤ 500; omega
  | ⟨1, _⟩ => show 0 + 64 ≤ 64; omega

end Cert.Proof
-- ==== Proof.PreVal.lean ====
/-
  What the distinct-similarities precondition says: the columns' scores are all different.
-/
module

public import proofs.«01_k».proof.Proof.RefVal
public import proofs.«01_k».proof.Proof.Pre
public import proofs.«01_k».proof.Proof.Gen.Pre_distinct_sims

@[expose] public section

noncomputable section

namespace Cert.Proof

open Idealize.ShloMosaic
open Cert.ReferenceIdeal Cert.ReferenceIdeal.Gen Cert.ReferenceIdeal.Value
open Idealize.ShloMosaic.TcCoe Idealize.ShloMosaic.StableHlo

theorem part2_inj (v9 : IVec S_ 1) (x : (⟨1, ![500]⟩ : Shape).Idx → EReal)
    (h : Cert.Pre_distinct_sims.fn_part2 (F := Ideal) v9 x (iotaInDim Cert.Pre_distinct_sims.S500 32 0) = fun _ => 1#1) :
    Function.Injective fun r : Fin 500 => x (ix1 r) := by
  haveI : Subsingleton S_.Idx := ⟨fun a b => funext fun i => i.elim0⟩
  intro r r' e
  have h1 := Host.reduce_andi_all _ _ _ _ _ (andi_one (congrFun h ix0)).2 (ix2 r r')
  by_contra hne
  refine absurd h1 ?_
  pointwise
  rw [show x (ix1 r) = x (ix1 r') from e]
  have hr := r.isLt
  have hr' := r'.isLt
  rw [WordCmp.cmpi_eq_ofNat (by omega) (by omega), decide_eq_false (fun h => hne (Fin.ext h)), decide_eq_false (not_not.2 rfl)]
  decide

variable (V : Valuation τ sig (Elt Ideal)) (q : Fin 500) (hq : ∀ j, qryR V j = BitVec.ofNat 32 q.val)

include hq in
theorem distinct_at (h : Cert.Pre_distinct_sims.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) = fun _ => 1#1) :
    Function.Injective (simR (embR V) q) := by
  simp only [Cert.Pre_distinct_sims.fn, Cert.Pre_distinct_sims.fn_part1] at h
  generalize hv : shapeCast Cert.Pre_distinct_sims.S64 (Host.dynamicSlice Cert.Pre_distinct_sims.S1x64 _ _ _) _ = v at h
  have h7 : ∀ k, v (ix1 k) = embR V (ix2 q k) := fun k => (congrFun hv.symm (ix1 k)).trans (v7_at V q hq k)
  have I := part2_inj _ _ h
  refine fun r r' e => I (Eq.trans ?_ (e.trans (Eq.symm ?_)))
  all_goals
    refine (scat_at q _ _ _ (fun j => congrFun (start_at V q hq) _) _).trans ?_
    unfold simR
    split
    · pointwise
    · pointwise [Cert.Pre_distinct_sims.fn_norm, Cert.Pre_distinct_sims.fn_norm_0]
      simp only [h7]
      rfl

end Cert.Proof
-- ==== Proof.KOut.lean ====
/-
  The kernel's two results as formulas: the score of the best three edges, and the fused vector of their columns.
-/
module

public import proofs.«01_k».proof.Proof.KFin
public import proofs.«01_k».proof.Proof.Counts
public import proofs.«01_k».proof.Proof.SimsVal

@[expose] public section

noncomputable section

namespace Cert.Proof

open Cert.KernelIdeal Cert.KernelIdeal.Gen
open Idealize.ShloMosaic

/-! ## The formulas -/

/-- The two-layer network of an encoded relation's row. -/
def colNet (E : (⟨2, ![500, 64]⟩ : Shape).Idx → EReal) (a : (⟨2, ![64, 64]⟩ : Shape).Idx → EReal) (b : (⟨1, ![64]⟩ : Shape).Idx → EReal)
    (a' : (⟨2, ![64, 64]⟩ : Shape).Idx → EReal) (b' : (⟨1, ![64]⟩ : Shape).Idx → EReal) (r : Fin 500) (j : Fin 64) : EReal :=
  ∑ x, max (∑ y, E (ix2 r y) * a (ix2 x y) + b (ix1 x)) 0 * a' (ix2 j x) + b' (ix1 j)

/-- The average of three vectors, by their weights. -/
def mixAt (g : Fin 3 → Fin 64 → EReal) (w : Fin 3 → EReal) (j : Fin 64) : EReal :=
  Ideal.div (g 0 j * w 0 + g 1 j * w 1 + g 2 j * w 2) (w 0 + w 1 + w 2)

/-- The fused vector, from the query's encoded relation, the mixed vector and the score. -/
def fusedAt (u v : Fin 64 → EReal) (c : EReal) (a : (⟨2, ![64, 128]⟩ : Shape).Idx → EReal) (b : (⟨1, ![64]⟩ : Shape).Idx → EReal)
    (a' : (⟨2, ![64, 64]⟩ : Shape).Idx → EReal) (b' : (⟨1, ![64]⟩ : Shape).Idx → EReal) (k : Fin 64) : EReal :=
  u k + c * (∑ x, max (∑ y : Fin 64, u y * a (ix2 x ⟨y.val, by omega⟩) + ∑ y : Fin 64, v y * a (ix2 x ⟨64 + y.val, by omega⟩) + b (ix1 x)) 0 * a' (ix2 k x) + b' (ix1 k))

/-- The confidence: the logistic of a two-layer network of the query's encoded relation. -/
def confAt (u : Fin 64 → EReal) (a : (⟨2, ![32, 64]⟩ : Shape).Idx → EReal) (b : (⟨1, ![32]⟩ : Shape).Idx → EReal)
    (a' : (⟨2, ![1, 32]⟩ : Shape).Idx → EReal) (b' : (⟨1, ![1]⟩ : Shape).Idx → EReal) : EReal :=
  Ideal.logistic (∑ x, max (∑ y, u y * a (ix2 x y) + b (ix1 x)) 0 * a' (ix2 0 x) + b' (ix1 0))

theorem fold_max_const (c : EReal) : Finset.fold max (Ideal.ofBits .f32 0xFF800000#32) (fun _ : Fin 128 => c) Finset.univ = c := by
  rw [ofBits_bot]
  refine le_antisymm ((Finset.fold_max_le _).2 ⟨bot_le, fun _ _ => le_rfl⟩) ((Finset.le_fold_max _).2 (.inr ⟨0, Finset.mem_univ _, le_rfl⟩))

theorem confOf_at (f1 : S500x64.Idx → EReal) (f2 : S1x1.Idx → BitVec 32) (q : Fin 500) (hq : qrel (F := Ideal) f2 = q.val)
    (a : S32x64.Idx → EReal) (b : S32.Idx → EReal) (a' : S1x32.Idx → EReal) (b' : S1.Idx → EReal) :
    (confOf (F := Ideal) f1 f2 a (shapeCast S1x32 b shapeCasts_S32_S1x32) a' (shapeCast S1x1 b' shapeCasts_S1_S1x1) (ix2 0 0) : EReal)
      = confAt (fun k => f1 (ix2 q k)) a b a' b' := by
  unfold confOf
  have hr := rowAt_at f1 q hq
  generalize rowAt f1 (qrel (F := Ideal) f2) = row at hr
  pointwise [k1_pay1]
  simp only [hr, Fin.sum_univ_one]
  exact fold_max_const _

theorem scoreOf_at (h : S32x512.Idx → BitVec 32) (s : S1x512.Idx → EReal) (f3 : S1x1.Idx → EReal) :
    (scoreOf (F := Ideal) h s f3 (ix2 0 0) : EReal) = f3 (ix2 0 0) * avgOf (F := Ideal) h s := by
  pointwise [scoreOf, k2_pay1, k2_pay23]
  simp only [Fin.sum_univ_one]

variable {h : S32x512.Idx → BitVec 32} {s : S1x512.Idx → EReal} {n : Fin 512 → ℕ} {p0 p1 p2 t0 t1 t2 : Fin 512}

theorem clip_ofNat (p : Fin 512) : clip (BitVec.ofNat 32 p.val) = min p.val 499 := by
  have hp := p.isLt
  have e : (BitVec.ofNat 32 p.val).toNat = p.val := by rw [BitVec.toNat_ofNat]; omega
  show (if (BitVec.ofNat 32 p.val).slt 499#32 then BitVec.ofNat 32 p.val else 499#32).toNat = _
  rw [BitVec.slt_eq_decide, WordCmp.toInt_ofNat_of_lt (by omega), show (499#32 : BitVec 32).toInt = 499 by decide]
  by_cases h : p.val < 499
  · rw [if_pos (by simpa using h), e]; omega
  · rw [if_neg (by simpa using h)]; show 499 = _; omega

theorem fusedOf_at (P : Passes h s n p0 p1 p2) (hle : ∀ r, n r ≤ 800000) (o : Sel.Outcome n p0 p1 p2 t0 t1 t2)
    (f2 : S1x64.Idx → EReal) (f3 : S1x1.Idx → EReal) (E : S500x64.Idx → EReal) (a11 : S64x64.Idx → EReal) (b12 : S64.Idx → EReal) (a13 : S64x64.Idx → EReal) (b14 : S64.Idx → EReal)
    (a15 : S64x128.Idx → EReal) (b16 : S64.Idx → EReal) (a17 : S64x64.Idx → EReal) (b18 : S64.Idx → EReal) (k : Fin 64) :
    (fusedOf (F := Ideal) h s f2 f3 E a11 (shapeCast S1x64 b12 shapeCasts_S64_S1x64) a13 (shapeCast S1x64 b14 shapeCasts_S64_S1x64)
      a15 (shapeCast S1x64 b16 shapeCasts_S64_S1x64) a17 (shapeCast S1x64 b18 shapeCasts_S64_S1x64) (ix2 0 k) : EReal)
      = fusedAt (fun y => f2 (ix2 0 y)) (fun j => mixAt (fun i => colNet E a11 b12 a13 b14 ((![⟨min t0.val 499, by omega⟩, ⟨min t1.val 499, by omega⟩, ⟨min t2.val 499, by omega⟩] : Fin 3 → Fin 500) i))
          ![1, first1 t0 t1, first2 t0 t1 t2] j) (f3 (ix2 0 0) * avgOf (F := Ideal) h s) a15 b16 a17 b18 k := by
  unfold fusedOf
  rw [weight_sum P hle o, P.pick0, P.pick1, P.pick2, clip_ofNat, clip_ofNat, clip_ofNat]
  have r0 := rowAt_at E ⟨min p0.val 499, by omega⟩ rfl
  have r1 := rowAt_at E ⟨min p1.val 499, by omega⟩ rfl
  have r2 := rowAt_at E ⟨min p2.val 499, by omega⟩ rfl
  dsimp only at r0 r1 r2
  generalize rowAt E (min p0.val 499) = w0 at r0 ⊢
  generalize rowAt E (min p1.val 499) = w1 at r1 ⊢
  generalize rowAt E (min p2.val 499) = w2 at r2 ⊢
  have W := fun j => weights_at P hle o (fun p => colNet E a11 b12 a13 b14 ⟨min p.val 499, by omega⟩ j)
  generalize k2_pay18 (F := Ideal) (tk0 (F := Ideal) h s) = c0 at W ⊢
  generalize k2_pay19 (F := Ideal) (tk1 (F := Ideal) h s) = c1 at W ⊢
  generalize k2_pay20 (F := Ideal) (tk2 (F := Ideal) h s) = c2 at W ⊢
  generalize avgOf (F := Ideal) h s = av
  simp only [colNet] at W
  pointwise [k2_pay24, k2_pay22, k2_pay23]
  simp only [Fin.sum_univ_three, Fin.val_zero, Fin.val_one, Fin.val_two, Nat.lt_irrefl, Nat.zero_lt_one, Nat.sub_self, dite_true, dite_false, Fin.zero_eta, r0, r1, r2, Fin.sum_univ_one,
    show ((2 : ℕ) < 1) = False from eq_false (by decide), W]
  rfl

end Cert.Proof
-- ==== Proof.Same.lean ====
/-
  The kernel's program and its idealization's are one text: their bodies agree label by label.
-/
module

public import proofs.«01_k».proof.Proof.Gen.Kernel
public import proofs.«01_k».proof.Proof.Gen.KernelIdeal

@[expose] public section

namespace Cert.Proof

open Idealize.ShloMosaic Idealize.SL.Sem
open Cert.KernelIdeal.Gen

variable {F : FTy → Type} [FloatOps F]

set_option maxHeartbeats 4000000 in
theorem same_defs₀ : Cert.Kernel.defs₀ (F := F) = Cert.KernelIdeal.defs₀ (F := F) := by
  funext p ℓ a
  cases p
  case tc =>
    match ℓ, a with
    | ⟨0, _⟩, _ => rfl
    | ⟨1, _⟩, _ => rfl
    | ⟨2, _⟩, _ => rfl
  case scScalar c =>
    match ℓ, a with
    | ⟨0, _⟩, _ => rfl
    | ⟨1, _⟩, _ => rfl
    | ⟨2, _⟩, _ => rfl
  case scVector c s =>
    match ℓ, a with
    | ⟨0, _⟩, _ => rfl
    | ⟨1, _⟩, _ => rfl
    | ⟨2, _⟩, _ => rfl

set_option maxHeartbeats 4000000 in
theorem same_defs : Cert.Kernel.defs (F := F) = Cert.KernelIdeal.defs (F := F) := by
  show Cert.KernelIdeal.sc.defs (Pipeline.defs Cert.KernelIdeal.pcfgs (Cert.Kernel.defs₀ (F := F))) = _
  rw [same_defs₀]; rfl

end Cert.Proof
-- ==== Proof.Frames.lean ====
/-
  The frames: the kernel, under its precondition, runs and leaves its arguments as they were, read at either
  instance; and so does the reference.
-/
module

public import proofs.«01_k».proof.Defs
public import proofs.«01_k».proof.Proof.Pre
public import proofs.«01_k».proof.Proof.Same
public import proofs.«01_k».proof.Proof.Gen.ReferenceIdeal.Run

@[expose] public section

noncomputable section

namespace Cert.Proof

open Idealize.ShloMosaic Idealize.SL.Sem
open Idealize.ShloMosaic.TcCoe
open Cert.KernelIdeal Cert.KernelIdeal.Gen

variable {F : FTy → Type} [FloatOps F] (m : (ℓ : Loc nD τ sig) → Buf (Elt F) ℓ)

/-- A buffer nothing writes is as launched at the end. -/
theorem kept_end {r : PUnit × MemSt nD τ sig (Elt F)} (h : QC m r) (c : Dev nD) {b : Ref sig .tc} (hb : Kept b) (hs : (Proc.devRef (τ := τ) .tc b).isScoped = false) :
    r.2.mem ((c.tc : Thread nD τ).loc b) = m ((c.tc : Thread nD τ).loc b) :=
  (h.1 c (Proc.devRef .tc b) (Pipeline.devRef_mem_ucRefs hs)).trans (V6_of_kept m c hb)

/-- The arguments, as launched. -/
theorem args_end {r : PUnit × MemSt nD τ sig (Elt F)} (h : QC m r) (c : Dev nD) :
    let L := fun b : Ref sig .tc => r.2.mem ((c.tc : Thread nD τ).loc b) = m ((c.tc : Thread nD τ).loc b)
    L main_arg0 ∧ L main_arg1 ∧ L main_arg2 ∧ L main_arg3 ∧ L main_arg4 ∧ L main_arg5 ∧ L main_arg6 ∧ L main_arg7 ∧ L main_arg8 ∧ L main_arg9
      ∧ L main_arg10 ∧ L main_arg11 ∧ L main_arg12 ∧ L main_arg13 ∧ L main_arg14 ∧ L main_arg15 ∧ L main_arg16 ∧ L main_arg17 ∧ L main_arg18 := by
  refine ⟨?_, ?_, ?_, ?_, ?_, ?_, ?_, ?_, ?_, ?_, ?_, ?_, ?_, ?_, ?_, ?_, ?_, ?_, ?_⟩ <;> exact kept_end m h c (by decide) rfl

/-- The run, from its precondition. -/
theorem run_of [∀ e, Nonempty (Elt F e)] (ρ : Dev nD → PrngReg) (h : MemRanges m) :
    θ_run (Cert.KernelIdeal.defs (F := F)) (Cert.KernelIdeal.threads (F := F)) ⟨m, fun _ => 0, ρ⟩ (QC m) :=
  run_main m ρ (preOK_of m h) (QOK_of m h)

theorem ranges_of_in_range (h : ∀ c : Dev nD, Cert.Pre_in_range.fn (F := F) (arg m c main_arg0) (arg m c main_arg1) (arg m c main_arg2) (arg m c main_arg3)
    (arg m c main_arg4) (arg m c main_arg5) (arg m c main_arg6) (arg m c main_arg7) (arg m c main_arg8) (arg m c main_arg9) (arg m c main_arg10) (arg m c main_arg11)
    (arg m c main_arg12) (arg m c main_arg13) (arg m c main_arg14) (arg m c main_arg15) (arg m c main_arg16) (arg m c main_arg17) (arg m c main_arg18) = fun _ => 1#1) :
    MemRanges m := fun c => ranges_of (h c)

/-- The run, ending with the arguments as launched and every counter at zero. -/
theorem frame_of [∀ e, Nonempty (Elt F e)] (ρ : Dev nD → PrngReg) (h : MemRanges m) :
    θ_run (Cert.KernelIdeal.defs (F := F)) (Cert.KernelIdeal.threads (F := F)) ⟨m, fun _ => 0, ρ⟩ fun r => (∀ c : Dev nD,
      let L := fun b : Ref sig .tc => r.2.mem ((c.tc : Thread nD τ).loc b) = m ((c.tc : Thread nD τ).loc b)
      L main_arg0 ∧ L main_arg1 ∧ L main_arg2 ∧ L main_arg3 ∧ L main_arg4 ∧ L main_arg5 ∧ L main_arg6 ∧ L main_arg7 ∧ L main_arg8 ∧ L main_arg9
      ∧ L main_arg10 ∧ L main_arg11 ∧ L main_arg12 ∧ L main_arg13 ∧ L main_arg14 ∧ L main_arg15 ∧ L main_arg16 ∧ L main_arg17 ∧ L main_arg18) ∧ r.2.sem = fun _ => 0 :=
  (θ_run Cert.KernelIdeal.defs _ _).mono (fun _ h => ⟨args_end m h, h.2⟩) (run_of m ρ h)

theorem frame_kernelIdeal : Cert.quiescent_KernelIdeal := fun m ρ h => frame_of m ρ (ranges_of_in_range m h)

set_option maxHeartbeats 4000000 in
theorem frame_kernel : Cert.quiescent_Kernel := fun m ρ h => by
  have e := frame_of (F := Bits) m ρ (ranges_of_in_range (F := Bits) m h)
  rw [← same_defs] at e
  exact e

theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

end Cert.Proof
-- ==== Proof.Alg.lean ====
/-
  The kernel and the reference end with the same two results.
-/
module

public import proofs.«01_k».proof.Proof.PreVal
public import proofs.«01_k».proof.Proof.KOut
public import proofs.«01_k».proof.Proof.Frames

@[expose] public section

noncomputable section

namespace Cert.Proof

open Idealize.ShloMosaic Idealize.SL.Sem
open Idealize.ShloMosaic.TcCoe Idealize.ShloMosaic.StableHlo

/-! ## The kernel's choice is the reference's -/

section Choice

open Cert.ReferenceIdeal Cert.ReferenceIdeal.Gen Cert.ReferenceIdeal.Value

variable (V : Valuation τ sig (Elt Ideal)) (q : Fin 500) (hq : ∀ j, qryR V j = BitVec.ofNat 32 q.val) (he : ∀ j, (edgR V j).toNat < 500)
  {ε : Fin 3 → Fin 800000} (T : Top V ε)

include hq in
theorem score_col (s : (⟨2, ![1, 512]⟩ : Shape).Idx → EReal) (hs : ∀ r : Fin 500, s (ix2 0 ⟨r.val, lt_trans r.isLt (by decide)⟩) = simR (embR V) q r) (e : Fin 800000) :
    s (ix2 0 (colOf (edgR V) he e)) = scoreR V e :=
  (hs ⟨(edgR V (ix1 e)).toNat, he _⟩).trans (v21_at V q hq he e).symm

include hq T in
theorem choose_at (I : Function.Injective (simR (embR V) q)) (s : (⟨2, ![1, 512]⟩ : Shape).Idx → EReal)
    (hs : ∀ r : Fin 500, s (ix2 0 ⟨r.val, lt_trans r.isLt (by decide)⟩) = simR (embR V) q r) :
    ∃ p0 p1 p2, Passes (histTab (edgR V)) s (Sel.count (colOf (edgR V) he)) p0 p1 p2
      ∧ Sel.Outcome (Sel.count (colOf (edgR V) he)) p0 p1 p2 (colOf (edgR V) he (ε 0)) (colOf (edgR V) he (ε 1)) (colOf (edgR V) he (ε 2)) := by
  have sc := score_col V q hq he s hs
  obtain ⟨p0, p1, p2, P⟩ := passes (h := histTab (edgR V)) (s := s) (Sel.count (colOf (edgR V) he)) (hist_col _ he) (count_le _ he) (count_absent _ he) fun r hr => by
    have h5 : r.val < 500 := by
      by_contra h
      exact absurd (count_absent _ he r (not_lt.1 h)) hr.ne'
    exact lt_of_lt_of_eq (lo_lt_simR (embR V) q ⟨r.val, h5⟩) (hs ⟨r.val, h5⟩).symm
  refine ⟨p0, p1, p2, P, Sel.outcome (s := fun r => s (ix2 0 r)) ?_ P.found0 P.found1 P.found2 T.ne01 T.ne02 T.ne12 ?_ ?_ ?_⟩
  · rintro _ _ ⟨e, rfl⟩ ⟨e', rfl⟩ h
    have h' := ((hs ⟨(edgR V (ix1 e)).toNat, he _⟩).symm.trans h).trans (hs ⟨(edgR V (ix1 e')).toNat, he _⟩)
    exact Fin.ext (congrArg Fin.val (I h') :)
  · intro f
    exact ((sc f).le.trans (T.max0 f)).trans (sc (ε 0)).ge
  · intro f h0
    exact ((sc f).le.trans (T.max1 f h0)).trans (sc (ε 1)).ge
  · intro f h0 h1
    exact ((sc f).le.trans (T.max2 f h0 h1)).trans (sc (ε 2)).ge

/-! ## The reference's results as formulas -/

include hq T in
theorem v81_at : (res_main_v81 V (ix1 0) : EReal) =
    confAt (fun k => encR V (ix2 q k)) (V (Proc.devRef .tc main_arg7)) (V (Proc.devRef .tc main_arg8)) (V (Proc.devRef .tc main_arg9)) (V (Proc.devRef .tc main_arg10))
      * Ideal.div (scoreR V (ε 0) + scoreR V (ε 1) + scoreR V (ε 2)) (Ideal.ofBits .f32 0x40400000#32) := by
  pointwise [res_main_v81]
  simp only [v66_at V q hq, T.val, Fin.sum_univ_three]
  rfl

theorem firsts_at (he : ∀ j, (edgR V j).toNat < 500) (j k : Fin 3) : colT V he ε j = colT V he ε k ↔ colOf (edgR V) he (ε j) = colOf (edgR V) he (ε k) := by
  rw [Fin.ext_iff, Fin.ext_iff]; exact Iff.rfl

end Choice

/-! ## The claims under the distinct-similarities precondition -/

open Cert.KernelIdeal Cert.KernelIdeal.Gen

/-- The index ranges are part of the precondition. -/
theorem ranges_of_distinct {F : FTy → Type} [FloatOps F] (m : (ℓ : Loc nD τ sig) → Buf (Elt F) ℓ)
    (h : ∀ c : Dev nD, Cert.Pre_distinct_sims.fn (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) = fun _ => 1#1) :
    MemRanges m := fun c => ranges_of (funext fun j => (andi_one (congrFun (h c) j)).1)

theorem frame_kernelIdeal_distinct : Cert.quiescent_KernelIdeal_pre_distinct_sims := fun m ρ h => frame_of m ρ (ranges_of_distinct m h)

theorem frame_referenceIdeal_distinct : Cert.quiescent_ReferenceIdeal_pre_distinct_sims := fun m ρ _ => frame_referenceIdeal m ρ trivial

theorem qrel_of {w : S1x1.Idx → BitVec 32} {q : Fin 500} (h : w (ix2 0 0) = BitVec.ofNat 32 q.val) : qrel (F := Ideal) w = q.val := by
  have e : qword (F := Ideal) w = BitVec.ofNat 32 q.val := by
    refine Eq.trans ?_ h
    refine congrArg w (funext fun a => ?_)
    match a with
    | 0 => exact Subsingleton.elim (α := Fin 1) _ _
    | 1 => exact Subsingleton.elim (α := Fin 1) _ _
  have hq := q.isLt
  have e' : (BitVec.ofNat 32 q.val).toNat = q.val := by rw [BitVec.toNat_ofNat]; omega
  exact (congrArg (fun v : BitVec 32 => (Scalar.indexCast (Scalar.minsi v 499#32)).toNat) e).trans ((clip_of (by omega)).trans e')

section Agree

variable (V : Valuation Cert.ReferenceIdeal.τ Cert.ReferenceIdeal.sig (Elt Ideal)) (m : (ℓ : Loc nD τ sig) → Buf (Elt Ideal) ℓ) (c : Dev nD)

/-- The two programs' arguments agree. -/
structure Agree : Prop where
  a1 : (arg m c main_arg1 : S800000.Idx → BitVec 32) = V (Proc.devRef .tc Cert.ReferenceIdeal.main_arg1)
  a3 : (arg m c main_arg3 : S_.Idx → BitVec 32) = V (Proc.devRef .tc Cert.ReferenceIdeal.main_arg3)
  a5 : (arg m c main_arg5 : S500x64.Idx → EReal) = V (Proc.devRef .tc Cert.ReferenceIdeal.main_arg5)
  a6 : (arg m c main_arg6 : S500x64.Idx → EReal) = V (Proc.devRef .tc Cert.ReferenceIdeal.main_arg6)
  a7 : (arg m c main_arg7 : S32x64.Idx → EReal) = V (Proc.devRef .tc Cert.ReferenceIdeal.main_arg7)
  a8 : (arg m c main_arg8 : S32.Idx → EReal) = V (Proc.devRef .tc Cert.ReferenceIdeal.main_arg8)
  a9 : (arg m c main_arg9 : S1x32.Idx → EReal) = V (Proc.devRef .tc Cert.ReferenceIdeal.main_arg9)
  a10 : (arg m c main_arg10 : S1.Idx → EReal) = V (Proc.devRef .tc Cert.ReferenceIdeal.main_arg10)
  a11 : (arg m c main_arg11 : S64x64.Idx → EReal) = V (Proc.devRef .tc Cert.ReferenceIdeal.main_arg11)
  a12 : (arg m c main_arg12 : S64.Idx → EReal) = V (Proc.devRef .tc Cert.ReferenceIdeal.main_arg12)
  a13 : (arg m c main_arg13 : S64x64.Idx → EReal) = V (Proc.devRef .tc Cert.ReferenceIdeal.main_arg13)
  a14 : (arg m c main_arg14 : S64.Idx → EReal) = V (Proc.devRef .tc Cert.ReferenceIdeal.main_arg14)
  a15 : (arg m c main_arg15 : S64x128.Idx → EReal) = V (Proc.devRef .tc Cert.ReferenceIdeal.main_arg15)
  a16 : (arg m c main_arg16 : S64.Idx → EReal) = V (Proc.devRef .tc Cert.ReferenceIdeal.main_arg16)
  a17 : (arg m c main_arg17 : S64x64.Idx → EReal) = V (Proc.devRef .tc Cert.ReferenceIdeal.main_arg17)
  a18 : (arg m c main_arg18 : S64.Idx → EReal) = V (Proc.devRef .tc Cert.ReferenceIdeal.main_arg18)

variable (A : Agree V m c) (q : Fin 500) (hq : ∀ j, qryR V j = BitVec.ofNat 32 q.val) (he : ∀ j, (edgR V j).toNat < 500)
  {ε : Fin 3 → Fin 800000} (T : Top V ε) (I : Function.Injective (simR (embR V) q))

include A hq in
theorem qArr_at : qArr m c (ix2 0 0) = BitVec.ofNat 32 q.val := by
  unfold qArr
  rw [A.a3]
  pointwise
  exact hq _

include A hq in
theorem simsArr_at (r : Fin 500) : (simsArr m c (ix2 0 ⟨r.val, lt_trans r.isLt (by decide)⟩) : EReal) = simR (embR V) q r := by
  unfold simsArr
  rw [A.a6]
  exact simsOf_at _ _ q (qrel_of (qArr_at V m c A q hq)) (qArr_at V m c A q hq) r

include A hq in
theorem queryArr_at (k : Fin 64) : (queryArr m c (ix2 0 k) : EReal) = encR V (ix2 q k) := by
  unfold queryArr
  rw [A.a5]
  exact rowAt_at _ q (qrel_of (qArr_at V m c A q hq)) k

include A hq in
theorem confArr_at : (confArr m c (ix2 0 0) : EReal) =
    confAt (fun k => encR V (ix2 q k)) (V (Proc.devRef .tc Cert.ReferenceIdeal.main_arg7)) (V (Proc.devRef .tc Cert.ReferenceIdeal.main_arg8))
      (V (Proc.devRef .tc Cert.ReferenceIdeal.main_arg9)) (V (Proc.devRef .tc Cert.ReferenceIdeal.main_arg10)) := by
  unfold confArr
  rw [A.a5, A.a7, A.a8, A.a9, A.a10]
  exact confOf_at _ _ q (qrel_of (qArr_at V m c A q hq)) _ _ _ _

include A hq I T in
/-- What the kernel's passes find, and the average they give. -/
theorem passes_at : ∃ p0 p1 p2, Passes (histTab (m (eLoc c))) (simsArr m c) (Sel.count (colOf (edgR V) he)) p0 p1 p2
    ∧ Sel.Outcome (Sel.count (colOf (edgR V) he)) p0 p1 p2 (colOf (edgR V) he (ε 0)) (colOf (edgR V) he (ε 1)) (colOf (edgR V) he (ε 2))
    ∧ (avgOf (F := Ideal) (histTab (m (eLoc c))) (simsArr m c) : EReal) = Ideal.div (scoreR V (ε 0) + scoreR V (ε 1) + scoreR V (ε 2)) (Ideal.ofBits .f32 0x40400000#32) := by
  have hs := simsArr_at V m c A q hq
  rw [show (m (eLoc c) : S800000.Idx → BitVec 32) = edgR V from A.a1]
  obtain ⟨p0, p1, p2, P, O⟩ := choose_at V q hq he T I (simsArr m c) hs
  refine ⟨p0, p1, p2, P, O, ?_⟩
  rw [avg_at P (count_le _ he) O, score_col V q hq he _ hs, score_col V q hq he _ hs, score_col V q hq he _ hs]

include A hq he I T in
theorem score_eq : (scoreArr m c (ix2 0 0) : EReal) = Cert.ReferenceIdeal.Value.res_main_v81 V (ix1 0) := by
  obtain ⟨p0, p1, p2, P, O, e⟩ := passes_at V m c A q hq he T I
  unfold scoreArr
  exact (scoreOf_at _ _ _).trans ((congrArg₂ (· * ·) (confArr_at V m c A q hq) e).trans (v81_at V q hq T).symm)

include A hq I T in
theorem fusedArr_at (k : Fin 64) : (fusedArr m c (ix2 0 k) : EReal) = fusedAt (fun y => encR V (ix2 q y))
      (fun j => mixAt (fun i => colNet (embR V) (V (Proc.devRef .tc Cert.ReferenceIdeal.main_arg11)) (V (Proc.devRef .tc Cert.ReferenceIdeal.main_arg12))
          (V (Proc.devRef .tc Cert.ReferenceIdeal.main_arg13)) (V (Proc.devRef .tc Cert.ReferenceIdeal.main_arg14)) (colT V he ε i))
        (fun i => Cert.ReferenceIdeal.Value.res_main_v51 V (ix1 i)) j)
      (Cert.ReferenceIdeal.Value.res_main_v81 V (ix1 0)) (V (Proc.devRef .tc Cert.ReferenceIdeal.main_arg15)) (V (Proc.devRef .tc Cert.ReferenceIdeal.main_arg16))
      (V (Proc.devRef .tc Cert.ReferenceIdeal.main_arg17)) (V (Proc.devRef .tc Cert.ReferenceIdeal.main_arg18)) k := by
  obtain ⟨p0, p1, p2, P, O, e⟩ := passes_at V m c A q hq he T I
  have hw : (fun i => Cert.ReferenceIdeal.Value.res_main_v51 V (ix1 i) : Fin 3 → EReal)
      = ![1, first1 (colOf (edgR V) he (ε 0)) (colOf (edgR V) he (ε 1)), first2 (colOf (edgR V) he (ε 0)) (colOf (edgR V) he (ε 1)) (colOf (edgR V) he (ε 2))] := by
    funext i
    match i with
    | 0 => exact v51_at0 V T he
    | 1 => exact (v51_at1 V T he).trans (by simp only [firsts_at]; rfl)
    | 2 => exact (v51_at2 V T he).trans (by simp only [firsts_at]; rfl)
  have ht : ∀ i : Fin 3, min (colOf (edgR V) he (ε i)).val 499 = (edgR V (ix1 (ε i))).toNat := fun i => by
    have := he (ix1 (ε i))
    show min (edgR V (ix1 (ε i))).toNat 499 = _
    omega
  have hc : colT V he ε = ![⟨min (colOf (edgR V) he (ε 0)).val 499, by omega⟩, ⟨min (colOf (edgR V) he (ε 1)).val 499, by omega⟩, ⟨min (colOf (edgR V) he (ε 2)).val 499, by omega⟩] := by
    funext i
    match i with
    | 0 => exact Fin.ext (ht 0).symm
    | 1 => exact Fin.ext (ht 1).symm
    | 2 => exact Fin.ext (ht 2).symm
  rw [hw, hc, v81_at V q hq T, ← confArr_at V m c A q hq, ← e]
  simp only [← queryArr_at V m c A q hq]
  unfold fusedArr
  rw [A.a6, A.a11, A.a12, A.a13, A.a14, A.a15, A.a16, A.a17, A.a18]
  exact fusedOf_at P (count_le _ he) O _ _ _ _ _ _ _ _ _ _ _ k

end Agree

theorem algebraic : Cert.algebraic_KernelIdeal_ReferenceIdeal_pre_distinct_sims := fun m g m' g' hpre hag => by
  have hR := ranges_of_distinct m hpre
  have key : ∀ c : Dev nD, ∃ (q : Fin 500) (hq : ∀ j, qryR (launchContents m' c) j = BitVec.ofNat 32 q.val) (he : ∀ j, (edgR (launchContents m' c) j).toNat < 500)
      (ε : Fin 3 → Fin 800000), Agree (launchContents m' c) m c ∧ Top (launchContents m' c) ε ∧ Function.Injective (simR (embR (launchContents m' c)) q) := fun c => by
    obtain ⟨h0, h1, h2, h3, h4, h5, h6, h7, h8, h9, h10, h11, h12, h13, h14, h15, h16, h17, h18⟩ := hag c
    have hq : ∀ j, qryR (launchContents m' c) j = BitVec.ofNat 32 (arg m c main_arg3 ix0).toNat := fun j => by
      rw [BitVec.ofNat_toNat, BitVec.setWidth_eq, show j = ix0 from funext fun a => a.elim0]
      exact congrFun h3 ix0
    obtain ⟨ε, T⟩ := exists_top (launchContents m' c)
    refine ⟨⟨(arg m c main_arg3 ix0).toNat, (hR c).2 _⟩, hq, fun j => lt_of_eq_of_lt (congrArg BitVec.toNat (congrFun h1 j)) ((hR c).1 j), ε,
      ⟨h1.symm, h3.symm, h5.symm, h6.symm, h7.symm, h8.symm, h9.symm, h10.symm, h11.symm, h12.symm, h13.symm, h14.symm, h15.symm, h16.symm, h17.symm, h18.symm⟩, T,
      distinct_at _ _ hq ?_⟩
    have h := hpre c
    rw [← h0, ← h1, ← h2, ← h3, ← h4, ← h5, ← h6, ← h7, ← h8, ← h9, ← h10, ← h11, ← h12, ← h13, ← h14, ← h15, ← h16, ← h17, ← h18] at h
    exact h
  refine ⟨fun c => V6 m c (Proc.devRef .tc main_v10), fun c => V6 m c (Proc.devRef .tc main_v11),
    (θ_run _ _ _).mono (fun r h c => ⟨h.1 c _ (Pipeline.devRef_mem_ucRefs rfl), h.1 c _ (Pipeline.devRef_mem_ucRefs rfl), args_end m h c⟩) (run_of m g hR),
    (θ_run _ _ _).mono (fun r h c => ⟨(h c).1.trans ?_, (h c).2.1.trans ?_, (h c).2.2⟩) (Cert.ReferenceIdeal.Value.run m' g')⟩
  all_goals
    clear h
    obtain ⟨q, hq, he, ε, A, T, I⟩ := key c
    generalize launchContents m' c = V at hq he A T I ⊢
  · refine Eq.trans ?_ (V6_v10 m c).symm
    funext j
    obtain ⟨k, rfl⟩ : ∃ k : Fin 64, j = ix1 k := ⟨j 0, eq_ix1 j⟩
    refine Eq.trans ?_ (show shapeCast S64 (fusedArr m c) shapeCasts_S1x64_S64 (ix1 k) = fusedArr m c (ix2 0 k) by pointwise).symm
    refine Eq.trans ?_ (fusedArr_at V m c A q hq he T I k).symm
    pointwise
    simp only [rows_at V T he, v66_at V q hq, Fin.sum_univ_three]
    rfl
  · refine Eq.trans ?_ (V6_v11 m c).symm
    funext j
    refine Eq.trans (Eq.trans ?_ (score_eq V m c A q hq he T I).symm) ?_
    · pointwise
    · pointwise

end Cert.Proof
-- ==== Proof.lean ====
/-
  The certificate's claim, from the modules under `Proof/`.
-/
module

public import proofs.«01_k».proof.Proof.Alg

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Cert.Pre_distinct_sims.Gen.facts, frame_kernel, frame_kernelIdeal, frame_kernelIdeal_distinct, frame_referenceIdeal,
    frame_referenceIdeal_distinct, trivial, algebraic⟩

end Cert.Proof

end
